-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 [hPre_in_range : Cert.Pre_in_range.Facts] (m : (ℓ : Loc Cert.Kernel2.nD Cert.Kernel2.τ Cert.Kernel2.sig) → Buf (Elt Bits) ℓ) : Prop :=
  ∀ c : Dev Cert.Kernel2.nD,
    (Cert.Pre_in_range.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))) = (fun _ => 1#1)

def Pre_Kernel2Ideal [hPre_in_range : Cert.Pre_in_range.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_in_range [hPre_in_range : Cert.Pre_in_range.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_in_range.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] [hPre_in_range : Cert.Pre_in_range.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] [hPre_in_range : Cert.Pre_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_in_range [hReference2Ideal : Cert.Reference2Ideal.Facts] [hPre_in_range : Cert.Pre_in_range.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_in_range m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] [hPre_in_range : Cert.Pre_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v26) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v218_1)) (v1 : (c : Dev Cert.Kernel3Ideal.nD) → Buf (Elt Ideal) ((c.tc : Thread Cert.Kernel3Ideal.nD Cert.Kernel3Ideal.τ).loc Cert.Kernel3Ideal.main_v218_2)) (v2 : (c : Dev Cert.Kernel3Ideal.nD) → Buf (Elt Ideal) ((c.tc : Thread Cert.Kernel3Ideal.nD Cert.Kernel3Ideal.τ).loc Cert.Kernel3Ideal.main_v218_6)) (v3 : (c : Dev Cert.Kernel3Ideal.nD) → Buf (Elt Ideal) ((c.tc : Thread Cert.Kernel3Ideal.nD Cert.Kernel3Ideal.τ).loc Cert.Kernel3Ideal.main_v218_7)) (v4 : (c : Dev Cert.Kernel3Ideal.nD) → Buf (Elt Ideal) ((c.tc : Thread Cert.Kernel3Ideal.nD Cert.Kernel3Ideal.τ).loc Cert.Kernel3Ideal.main_v218_10)) (v5 : (c : Dev Cert.Kernel3Ideal.nD) → Buf (Elt Ideal) ((c.tc : Thread Cert.Kernel3Ideal.nD Cert.Kernel3Ideal.τ).loc Cert.Kernel3Ideal.main_v218_13)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v218_1) = v0 c
          ∧ r.2.mem ((c.tc : Thread Cert.Kernel3Ideal.nD Cert.Kernel3Ideal.τ).loc Cert.Kernel3Ideal.main_v218_2) = v1 c
          ∧ r.2.mem ((c.tc : Thread Cert.Kernel3Ideal.nD Cert.Kernel3Ideal.τ).loc Cert.Kernel3Ideal.main_v218_6) = v2 c
          ∧ r.2.mem ((c.tc : Thread Cert.Kernel3Ideal.nD Cert.Kernel3Ideal.τ).loc Cert.Kernel3Ideal.main_v218_7) = v3 c
          ∧ r.2.mem ((c.tc : Thread Cert.Kernel3Ideal.nD Cert.Kernel3Ideal.τ).loc Cert.Kernel3Ideal.main_v218_10) = v4 c
          ∧ r.2.mem ((c.tc : Thread Cert.Kernel3Ideal.nD Cert.Kernel3Ideal.τ).loc Cert.Kernel3Ideal.main_v218_13) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v184) = v0 c
          ∧ r.2.mem ((c.tc : Thread Cert.Reference3Ideal.nD Cert.Reference3Ideal.τ).loc Cert.Reference3Ideal.main_v185) = v1 c
          ∧ r.2.mem ((c.tc : Thread Cert.Reference3Ideal.nD Cert.Reference3Ideal.τ).loc Cert.Reference3Ideal.main_v142) = v2 c
          ∧ r.2.mem ((c.tc : Thread Cert.Reference3Ideal.nD Cert.Reference3Ideal.τ).loc Cert.Reference3Ideal.main_v178) = v3 c
          ∧ r.2.mem ((c.tc : Thread Cert.Reference3Ideal.nD Cert.Reference3Ideal.τ).loc Cert.Reference3Ideal.main_v186) = v4 c
          ∧ r.2.mem ((c.tc : Thread Cert.Reference3Ideal.nD Cert.Reference3Ideal.τ).loc Cert.Reference3Ideal.main_v193) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts) (hPre_in_range : Cert.Pre_in_range.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2) (hPre_in_range := hPre_in_range)
    ∧ quiescent_Kernel2Ideal (hKernel2Ideal := hKernel2Ideal) (hPre_in_range := hPre_in_range)
    ∧ quiescent_Reference2Ideal (hReference2Ideal := hReference2Ideal)
    ∧ quiescent_Reference2Ideal_pre_in_range (hReference2Ideal := hReference2Ideal) (hPre_in_range := hPre_in_range)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal) (hPre_in_range := hPre_in_range)
    ∧ preserves_Kernel3_Kernel3Ideal
    ∧ algebraic_Kernel3Ideal_Reference3Ideal (hKernel3Ideal := hKernel3Ideal) (hReference3Ideal := hReference3Ideal)
-- ==== Pre_finite.lean ====
abbrev S16x2048x4x128 : Shape := ⟨4, ![16, 2048, 4, 128]⟩
abbrev S16x2048x4x32 : Shape := ⟨4, ![16, 2048, 4, 32]⟩
abbrev S16x2048x128 : Shape := ⟨3, ![16, 2048, 128]⟩
abbrev S16x2048x32 : Shape := ⟨3, ![16, 2048, 32]⟩
abbrev S_ : Shape := ⟨0, ![]⟩

class Facts : Prop where
  bcast_S_S16x2048x4x128 : S_.BroadcastsInDim S16x2048x4x128 (![] : Fin 0 → Fin S16x2048x4x128.rank)
  reducesTo_S16x2048x4x128_S_d0_1_2_3 : S16x2048x4x128.ReducesTo [0, 1, 2, 3] S_
  h_S_ : 0 < S_.numel
  bcast_S_S16x2048x4x32 : S_.BroadcastsInDim S16x2048x4x32 (![] : Fin 0 → Fin S16x2048x4x32.rank)
  reducesTo_S16x2048x4x32_S_d0_1_2_3 : S16x2048x4x32.ReducesTo [0, 1, 2, 3] S_
  bcast_S_S16x2048x128 : S_.BroadcastsInDim S16x2048x128 (![] : Fin 0 → Fin S16x2048x128.rank)
  reducesTo_S16x2048x128_S_d0_1_2 : S16x2048x128.ReducesTo [0, 1, 2] S_
  bcast_S_S16x2048x32 : S_.BroadcastsInDim S16x2048x32 (![] : Fin 0 → Fin S16x2048x32.rank)
  reducesTo_S16x2048x32_S_d0_1_2 : S16x2048x32.ReducesTo [0, 1, 2] S_

variable [Facts]

def fn_part1 {F : FTy → Type} [FloatOps F] (main_v13 : IVec S_ 1) (main_v16 : IVec S16x2048x32 1) : IVec S_ 1 :=
  let main_c_5 : IVec S_ 1 := constantI S_ 1 1#1
  let main_v17 : IVec S_ 1 := (fun x v => Host.reduce IntOp.andi x v reducesTo_S16x2048x32_S_d0_1_2 h_S_) main_v16 main_c_5
  let main_v18 : IVec S_ 1 := andi main_v13 main_v17
  main_v18

def fn {F : FTy → Type} [FloatOps F] (main_arg0 : FVec F S16x2048x4x128 .f32) (main_arg1 : FVec F S16x2048x4x32 .f32) (main_arg2 : FVec F S16x2048x128 .f32) (main_arg3 : FVec F S16x2048x32 .f32) : IVec S_ 1 :=
  let main_v0 : FVec F S16x2048x4x128 .f32 := Host.absf main_arg0
  let main_cst : FVec F S_ .f32 := constant S_ .f32 0x7F800000#32
  let main_v1 : FVec F S16x2048x4x128 .f32 := broadcastInDim S16x2048x4x128 ![] bcast_S_S16x2048x4x128 main_cst
  let main_v2 : IVec S16x2048x4x128 1 := cmpf .olt main_v0 main_v1
  let main_c : IVec S_ 1 := constantI S_ 1 1#1
  let main_v3 : IVec S_ 1 := (fun x v => Host.reduce IntOp.andi x v reducesTo_S16x2048x4x128_S_d0_1_2_3 h_S_) main_v2 main_c
  let main_v4 : FVec F S16x2048x4x32 .f32 := Host.absf main_arg1
  let main_cst_0 : FVec F S_ .f32 := constant S_ .f32 0x7F800000#32
  let main_v5 : FVec F S16x2048x4x32 .f32 := broadcastInDim S16x2048x4x32 ![] bcast_S_S16x2048x4x32 main_cst_0
  let main_v6 : IVec S16x2048x4x32 1 := cmpf .olt main_v4 main_v5
  let main_c_1 : IVec S_ 1 := constantI S_ 1 1#1
  let main_v7 : IVec S_ 1 := (fun x v => Host.reduce IntOp.andi x v reducesTo_S16x2048x4x32_S_d0_1_2_3 h_S_) main_v6 main_c_1
  let main_v8 : IVec S_ 1 := andi main_v3 main_v7
  let main_v9 : FVec F S16x2048x128 .f32 := Host.absf main_arg2
  let main_cst_2 : FVec F S_ .f32 := constant S_ .f32 0x7F800000#32
  let main_v10 : FVec F S16x2048x128 .f32 := broadcastInDim S16x2048x128 ![] bcast_S_S16x2048x128 main_cst_2
  let main_v11 : IVec S16x2048x128 1 := cmpf .olt main_v9 main_v10
  let main_c_3 : IVec S_ 1 := constantI S_ 1 1#1
  let main_v12 : IVec S_ 1 := (fun x v => Host.reduce IntOp.andi x v reducesTo_S16x2048x128_S_d0_1_2 h_S_) main_v11 main_c_3
  let main_v13 : IVec S_ 1 := andi main_v8 main_v12
  let main_v14 : FVec F S16x2048x32 .f32 := Host.absf main_arg3
  let main_cst_4 : FVec F S_ .f32 := constant S_ .f32 0x7F800000#32
  let main_v15 : FVec F S16x2048x32 .f32 := broadcastInDim S16x2048x32 ![] bcast_S_S16x2048x32 main_cst_4
  let main_v16 : IVec S16x2048x32 1 := cmpf .olt main_v14 main_v15
  fn_part1 (F := F) main_v13 main_v16
-- ==== Pre_in_range.lean ====
abbrev S73984x1024 : Shape := ⟨2, ![73984, 1024]⟩
abbrev S289 : Shape := ⟨1, ![289]⟩
abbrev S1 : Shape := ⟨1, ![1]⟩
abbrev S2x32x1024x256 : Shape := ⟨4, ![2, 32, 1024, 256]⟩
abbrev S2x32x256x1024 : Shape := ⟨4, ![2, 32, 256, 1024]⟩
abbrev S_ : Shape := ⟨0, ![]⟩

class Facts : Prop where
  bcast_S_S289 : S_.BroadcastsInDim S289 (![] : Fin 0 → Fin S289.rank)
  reducesTo_S289_S_d0 : S289.ReducesTo [0] S_
  h_S_ : 0 < S_.numel

variable [Facts]

def fn {F : FTy → Type} [FloatOps F] (main_arg0 : FVec F S73984x1024 .f32) (main_arg1 : IVec S289 32) (main_arg2 : IVec S1 32) (main_arg3 : FVec F S2x32x1024x256 .f32) (main_arg4 : FVec F S2x32x1024x256 .f32) (main_arg5 : FVec F S2x32x256x1024 .f32) : IVec S_ 1 :=
  let main_c : IVec S_ 32 := constantI S_ 32 0#32
  let main_v0 : IVec S289 32 := broadcastInDim S289 ![] bcast_S_S289 main_c
  let main_v1 : IVec S289 1 := cmpi .sge main_arg1 main_v0
  let main_c_0 : IVec S_ 32 := constantI S_ 32 32#32
  let main_v2 : IVec S289 32 := broadcastInDim S289 ![] bcast_S_S289 main_c_0
  let main_v3 : IVec S289 1 := cmpi .slt main_arg1 main_v2
  let main_v4 : IVec S289 1 := andi main_v1 main_v3
  let main_c_1 : IVec S_ 1 := constantI S_ 1 1#1
  let main_v5 : IVec S_ 1 := (fun x v => Host.reduce IntOp.andi x v reducesTo_S289_S_d0 h_S_) main_v4 main_c_1
  main_v5
-- ==== Kernel.lean ====
abbrev S16x2048x4x128 : Shape := ⟨4, ![16, 2048, 4, 128]⟩
abbrev S16x2048x4x32 : Shape := ⟨4, ![16, 2048, 4, 32]⟩
abbrev S16x2048x128 : Shape := ⟨3, ![16, 2048, 128]⟩
abbrev S16x2048x32 : Shape := ⟨3, ![16, 2048, 32]⟩
abbrev S_ : Shape := ⟨0, ![]⟩
abbrev S16x2048x4x96 : Shape := ⟨4, ![16, 2048, 4, 96]⟩
abbrev S16x2048x96 : Shape := ⟨3, ![16, 2048, 96]⟩
abbrev S16x2048x4x256 : Shape := ⟨4, ![16, 2048, 4, 256]⟩
abbrev S16x2048x1024 : Shape := ⟨3, ![16, 2048, 1024]⟩
abbrev S16x2048x256 : Shape := ⟨3, ![16, 2048, 256]⟩
abbrev S16x128x2048 : Shape := ⟨3, ![16, 128, 2048]⟩
abbrev S16x2048x512 : Shape := ⟨3, ![16, 2048, 512]⟩
abbrev S1x256x1024 : Shape := ⟨3, ![1, 256, 1024]⟩
abbrev S1x2048x256 : Shape := ⟨3, ![1, 2048, 256]⟩
abbrev S1x128x2048 : Shape := ⟨3, ![1, 128, 2048]⟩
abbrev S1x256x512 : Shape := ⟨3, ![1, 256, 512]⟩
abbrev S1x256 : Shape := ⟨2, ![1, 256]⟩
abbrev S1x256x256 : Shape := ⟨3, ![1, 256, 256]⟩
abbrev S256x256 : Shape := ⟨2, ![256, 256]⟩
abbrev S128x256 : Shape := ⟨2, ![128, 256]⟩
abbrev S256 : Shape := ⟨1, ![256]⟩
abbrev S1x128x256 : Shape := ⟨3, ![1, 128, 256]⟩
abbrev S256x1 : Shape := ⟨2, ![256, 1]⟩
abbrev S512x256 : Shape := ⟨2, ![512, 256]⟩
abbrev S256x512 : Shape := ⟨2, ![256, 512]⟩

abbrev nBuf : Space → Nat
  | .hbm => 19
  | .vmem => 8
  | .smem => 0
  | _ => 0

abbrev bufTy : (tb : Table) → Fin (tcTables nBuf tb) → BufTy
  | .hbm, ⟨0, _⟩ => ⟨S16x2048x4x128, .f32⟩
  | .hbm, ⟨1, _⟩ => ⟨S16x2048x4x32, .f32⟩
  | .hbm, ⟨2, _⟩ => ⟨S16x2048x128, .f32⟩
  | .hbm, ⟨3, _⟩ => ⟨S16x2048x32, .f32⟩
  | .hbm, ⟨4, _⟩ => ⟨S_, .f32⟩
  | .hbm, ⟨5, _⟩ => ⟨S16x2048x4x96, .f32⟩
  | .hbm, ⟨6, _⟩ => ⟨S_, .f32⟩
  | .hbm, ⟨7, _⟩ => ⟨S16x2048x96, .f32⟩
  | .hbm, ⟨8, _⟩ => ⟨S16x2048x4x256, .f32⟩
  | .hbm, ⟨9, _⟩ => ⟨S16x2048x1024, .f32⟩
  | .hbm, ⟨10, _⟩ => ⟨S_, .f32⟩
  | .hbm, ⟨11, _⟩ => ⟨S16x2048x1024, .f32⟩
  | .hbm, ⟨12, _⟩ => ⟨S16x2048x1024, .f32⟩
  | .hbm, ⟨13, _⟩ => ⟨S16x2048x1024, .bf16⟩
  | .hbm, ⟨14, _⟩ => ⟨S16x2048x256, .f32⟩
  | .hbm, ⟨15, _⟩ => ⟨S16x2048x256, .bf16⟩
  | .hbm, ⟨16, _⟩ => ⟨S16x128x2048, .f32⟩
  | .hbm, ⟨17, _⟩ => ⟨S16x128x2048, .bf16⟩
  | .hbm, ⟨18, _⟩ => ⟨S16x2048x512, .bf16⟩
  | .local _ .vmem, ⟨0, _⟩ => ⟨S1x256x1024, .bf16⟩
  | .local _ .vmem, ⟨1, _⟩ => ⟨S1x256x1024, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x128x2048, .bf16⟩
  | .local _ .vmem, ⟨5, _⟩ => ⟨S1x128x2048, .bf16⟩
  | .local _ .vmem, ⟨6, _⟩ => ⟨S1x256x512, .bf16⟩
  | .local _ .vmem, ⟨7, _⟩ => ⟨S1x256x512, .bf16⟩
  | _, _ => ⟨S16x2048x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 8], ![false, false]⟩

@[reducible] def k0_t1_loop (i : grid0.Coords) : Scf.Loop 32 :=
  let c0_i32 : BitVec 32 := 0#32
  let arg1 : BitVec 32 := BitVec.ofNat 32 (i 1).val
  let v24 : BitVec 32 := Scalar.subi arg1 c0_i32
  let c1_i32 : BitVec 32 := 1#32
  let v26 : BitVec 32 := Scalar.divsi v24 c1_i32
  let v27 : BitVec 32 := Scalar.muli v26 c1_i32
  let v28 : BitVec 32 := Scalar.addi c0_i32 v27
  let c1_i32_19 : BitVec 32 := 1#32
  ⟨c0_i32, v28, c1_i32_19⟩
def k0_mult1 (i : grid0.Coords) (k0_t1 : Fin (k0_t1_loop i).trips) : BitVec 32 :=
  let c0_i32 : BitVec 32 := 0#32
  let c1_i32_19 : BitVec 32 := 1#32
  let arg6 : BitVec 32 := Scf.iv c0_i32 c1_i32_19 k0_t1
  let c256_i32_75 : BitVec 32 := 256#32
  let v196 : BitVec 32 := Scalar.muli arg6 c256_i32_75
  v196
def k0_off1 (i : grid0.Coords) (k0_t1 : Fin (k0_t1_loop i).trips) : Fin 3 → Nat :=
  let c0_76 : Index := 0#32
  let c0_i32 : BitVec 32 := 0#32
  let c1_i32_19 : BitVec 32 := 1#32
  let arg6 : BitVec 32 := Scf.iv c0_i32 c1_i32_19 k0_t1
  let c256_i32_75 : BitVec 32 := 256#32
  let v196 : BitVec 32 := Scalar.muli arg6 c256_i32_75
  let v197 : BitVec 32 := v196
  let v198 : Index := Scalar.indexCast v197
  let c0_77 : Index := 0#32
  ![0, v198.toNat, 0]
def k0_off2 (i : grid0.Coords) (k0_t1 : Fin (k0_t1_loop i).trips) : Fin 3 → Nat :=
  let c0_90 : Index := 0#32
  let c0_91 : Index := 0#32
  let c0_i32 : BitVec 32 := 0#32
  let c1_i32_19 : BitVec 32 := 1#32
  let arg6 : BitVec 32 := Scf.iv c0_i32 c1_i32_19 k0_t1
  let c256_i32_75 : BitVec 32 := 256#32
  let v196 : BitVec 32 := Scalar.muli arg6 c256_i32_75
  let v197 : BitVec 32 := v196
  let v259 : Index := Scalar.indexCast v197
  ![0, 0, v259.toNat]
@[reducible] def k0_t2_loop (i : grid0.Coords) : Scf.Loop 32 :=
  let c0_i32 : BitVec 32 := 0#32
  let arg1 : BitVec 32 := BitVec.ofNat 32 (i 1).val
  let v24 : BitVec 32 := Scalar.subi arg1 c0_i32
  let c1_i32 : BitVec 32 := 1#32
  let v26 : BitVec 32 := Scalar.divsi v24 c1_i32
  let v27 : BitVec 32 := Scalar.muli v26 c1_i32
  let v28 : BitVec 32 := Scalar.addi c0_i32 v27
  let v25 : BitVec 32 := Scalar.addi c0_i32 v24
  let c1_i32_20 : BitVec 32 := 1#32
  ⟨v28, v25, c1_i32_20⟩
def k0_mult2 (i : grid0.Coords) (k0_t2 : Fin (k0_t2_loop i).trips) : BitVec 32 :=
  let c0_i32 : BitVec 32 := 0#32
  let arg1 : BitVec 32 := BitVec.ofNat 32 (i 1).val
  let v24 : BitVec 32 := Scalar.subi arg1 c0_i32
  let c1_i32 : BitVec 32 := 1#32
  let v26 : BitVec 32 := Scalar.divsi v24 c1_i32
  let v27 : BitVec 32 := Scalar.muli v26 c1_i32
  let v28 : BitVec 32 := Scalar.addi c0_i32 v27
  let c1_i32_20 : BitVec 32 := 1#32
  let arg6 : BitVec 32 := Scf.iv v28 c1_i32_20 k0_t2
  let c256_i32_75 : BitVec 32 := 256#32
  let v196 : BitVec 32 := Scalar.muli arg6 c256_i32_75
  v196
def k0_off3 (i : grid0.Coords) (k0_t2 : Fin (k0_t2_loop i).trips) : Fin 3 → Nat :=
  let c0_76 : Index := 0#32
  let c0_i32 : BitVec 32 := 0#32
  let arg1 : BitVec 32 := BitVec.ofNat 32 (i 1).val
  let v24 : BitVec 32 := Scalar.subi arg1 c0_i32
  let c1_i32 : BitVec 32 := 1#32
  let v26 : BitVec 32 := Scalar.divsi v24 c1_i32
  let v27 : BitVec 32 := Scalar.muli v26 c1_i32
  let v28 : BitVec 32 := Scalar.addi c0_i32 v27
  let c1_i32_20 : BitVec 32 := 1#32
  let arg6 : BitVec 32 := Scf.iv v28 c1_i32_20 k0_t2
  let c256_i32_75 : BitVec 32 := 256#32
  let v196 : BitVec 32 := Scalar.muli arg6 c256_i32_75
  let v197 : BitVec 32 := v196
  let v198 : Index := Scalar.indexCast v197
  let c0_77 : Index := 0#32
  ![0, v198.toNat, 0]
def k0_off4 (i : grid0.Coords) (k0_t2 : Fin (k0_t2_loop i).trips) : Fin 3 → Nat :=
  let c0_90 : Index := 0#32
  let c0_91 : Index := 0#32
  let c0_i32 : BitVec 32 := 0#32
  let arg1 : BitVec 32 := BitVec.ofNat 32 (i 1).val
  let v24 : BitVec 32 := Scalar.subi arg1 c0_i32
  let c1_i32 : BitVec 32 := 1#32
  let v26 : BitVec 32 := Scalar.divsi v24 c1_i32
  let v27 : BitVec 32 := Scalar.muli v26 c1_i32
  let v28 : BitVec 32 := Scalar.addi c0_i32 v27
  let c1_i32_20 : BitVec 32 := 1#32
  let arg6 : BitVec 32 := Scf.iv v28 c1_i32_20 k0_t2
  let c256_i32_75 : BitVec 32 := 256#32
  let v196 : BitVec 32 := Scalar.muli arg6 c256_i32_75
  let v197 : BitVec 32 := v196
  let v259 : Index := Scalar.indexCast v197
  ![0, 0, v259.toNat]
def k0_mult3 (i : grid0.Coords) : BitVec 32 :=
  let arg1 : BitVec 32 := BitVec.ofNat 32 (i 1).val
  let c256_i32_21 : BitVec 32 := 256#32
  let v31 : BitVec 32 := Scalar.muli arg1 c256_i32_21
  v31
def k0_off5 (i : grid0.Coords) : Fin 3 → Nat :=
  let c0_22 : Index := 0#32
  let arg1 : BitVec 32 := BitVec.ofNat 32 (i 1).val
  let c256_i32_21 : BitVec 32 := 256#32
  let v31 : BitVec 32 := Scalar.muli arg1 c256_i32_21
  let v32 : BitVec 32 := v31
  let v39 : Index := Scalar.indexCast v32
  let c0_23 : Index := 0#32
  ![0, v39.toNat, 0]
def k0_off6 (i : grid0.Coords) : Fin 3 → Nat :=
  let c0_44 : Index := 0#32
  let c0_45 : Index := 0#32
  let arg1 : BitVec 32 := BitVec.ofNat 32 (i 1).val
  let c256_i32_21 : BitVec 32 := 256#32
  let v31 : BitVec 32 := Scalar.muli arg1 c256_i32_21
  let v32 : BitVec 32 := v31
  let v116 : Index := Scalar.indexCast v32
  ![0, 0, v116.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S16x2048x4x128 : Shape := ⟨4, ![16, 2048, 4, 128]⟩
abbrev S16x2048x4x32 : Shape := ⟨4, ![16, 2048, 4, 32]⟩
abbrev S16x2048x128 : Shape := ⟨3, ![16, 2048, 128]⟩
abbrev S16x2048x32 : Shape := ⟨3, ![16, 2048, 32]⟩
abbrev S2048 : Shape := ⟨1, ![2048]⟩
abbrev S16x2048x2048x4 : Shape := ⟨4, ![16, 2048, 2048, 4]⟩
abbrev S16x4x2048x2048 : Shape := ⟨4, ![16, 4, 2048, 2048]⟩
abbrev S_ : Shape := ⟨0, ![]⟩
abbrev S1x2048 : Shape := ⟨2, ![1, 2048]⟩
abbrev S2048x1 : Shape := ⟨2, ![2048, 1]⟩
abbrev S2048x2048 : Shape := ⟨2, ![2048, 2048]⟩
abbrev S1x1x2048x2048 : Shape := ⟨4, ![1, 1, 2048, 2048]⟩
abbrev S16x4x2048 : Shape := ⟨3, ![16, 4, 2048]⟩
abbrev S16x4x2048x1 : Shape := ⟨4, ![16, 4, 2048, 1]⟩
abbrev S16x128x4x2048 : Shape := ⟨4, ![16, 128, 4, 2048]⟩
abbrev S16x2048x512 : Shape := ⟨3, ![16, 2048, 512]⟩

abbrev nBuf : Space → Nat
  | .hbm => 48
  | .vmem => 0
  | .smem => 0
  | _ => 0

abbrev bufTy : (tb : Table) → Fin (tcTables nBuf tb) → BufTy
  | .hbm, ⟨0, _⟩ => ⟨S16x2048x4x128, .f32⟩
  | .hbm, ⟨1, _⟩ => ⟨S16x2048x4x32, .f32⟩
  | .hbm, ⟨2, _⟩ => ⟨S16x2048x128, .f32⟩
  | .hbm, ⟨3, _⟩ => ⟨S16x2048x32, .f32⟩
  | .hbm, ⟨4, _⟩ => ⟨S2048, .i32⟩
  | .hbm, ⟨5, _⟩ => ⟨S2048, .i32⟩
  | .hbm, ⟨6, _⟩ => ⟨S16x2048x2048x4, .f32⟩
  | .hbm, ⟨7, _⟩ => ⟨S16x4x2048x2048, .f32⟩
  | .hbm, ⟨8, _⟩ => ⟨S16x2048x2048x4, .f32⟩
  | .hbm, ⟨9, _⟩ => ⟨S16x4x2048x2048, .f32⟩
  | .hbm, ⟨10, _⟩ => ⟨S16x4x2048x2048, .f32⟩
  | .hbm, ⟨11, _⟩ => ⟨S_, .f32⟩
  | .hbm, ⟨12, _⟩ => ⟨S16x4x2048x2048, .f32⟩
  | .hbm, ⟨13, _⟩ => ⟨S16x4x2048x2048, .f32⟩
  | .hbm, ⟨14, _⟩ => ⟨S1x2048, .i32⟩
  | .hbm, ⟨15, _⟩ => ⟨S2048x1, .i32⟩
  | .hbm, ⟨16, _⟩ => ⟨S2048x2048, .i32⟩
  | .hbm, ⟨17, _⟩ => ⟨S2048x2048, .i32⟩
  | .hbm, ⟨18, _⟩ => ⟨S2048x2048, .i1⟩
  | .hbm, ⟨19, _⟩ => ⟨S1x1x2048x2048, .i1⟩
  | .hbm, ⟨20, _⟩ => ⟨S_, .f32⟩
  | .hbm, ⟨21, _⟩ => ⟨S_, .f32⟩
  | .hbm, ⟨22, _⟩ => ⟨S16x4x2048x2048, .i1⟩
  | .hbm, ⟨23, _⟩ => ⟨S16x4x2048x2048, .f32⟩
  | .hbm, ⟨24, _⟩ => ⟨S16x4x2048x2048, .f32⟩
  | .hbm, ⟨25, _⟩ => ⟨S_, .f32⟩
  | .hbm, ⟨26, _⟩ => ⟨S16x4x2048, .f32⟩
  | .hbm, ⟨27, _⟩ => ⟨S_, .f32⟩
  | .hbm, ⟨28, _⟩ => ⟨S16x4x2048, .f32⟩
  | .hbm, ⟨29, _⟩ => ⟨S16x4x2048, .f32⟩
  | .hbm, ⟨30, _⟩ => ⟨S16x4x2048x1, .f32⟩
  | .hbm, ⟨31, _⟩ => ⟨S16x4x2048x2048, .f32⟩
  | .hbm, ⟨32, _⟩ => ⟨S16x4x2048x2048, .f32⟩
  | .hbm, ⟨33, _⟩ => ⟨S16x4x2048x2048, .f32⟩
  | .hbm, ⟨34, _⟩ => ⟨S_, .f32⟩
  | .hbm, ⟨35, _⟩ => ⟨S16x4x2048, .f32⟩
  | .hbm, ⟨36, _⟩ => ⟨S16x4x2048x1, .f32⟩
  | .hbm, ⟨37, _⟩ => ⟨S16x4x2048x2048, .f32⟩
  | .hbm, ⟨38, _⟩ => ⟨S16x4x2048x2048, .f32⟩
  | .hbm, ⟨39, _⟩ => ⟨S_, .f32⟩
  | .hbm, ⟨40, _⟩ => ⟨S_, .f32⟩
  | .hbm, ⟨41, _⟩ => ⟨S16x4x2048x2048, .i1⟩
  | .hbm, ⟨42, _⟩ => ⟨S16x4x2048x2048, .f32⟩
  | .hbm, ⟨43, _⟩ => ⟨S16x4x2048x2048, .f32⟩
  | .hbm, ⟨44, _⟩ => ⟨S16x128x4x2048, .f32⟩
  | .hbm, ⟨45, _⟩ => ⟨S16x2048x4x128, .f32⟩
  | .hbm, ⟨46, _⟩ => ⟨S16x2048x512, .f32⟩
  | .hbm, ⟨47, _⟩ => ⟨S16x2048x512, .bf16⟩
  | _, _ => ⟨S16x2048x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩

abbrev nD : Nat := 1
abbrev τ : Topo := Topo.v7x

variable {F : FTy → Type} [FloatOps F]
-- ==== Kernel2.lean ====
abbrev S73984x1024 : Shape := ⟨2, ![73984, 1024]⟩
abbrev S289 : Shape := ⟨1, ![289]⟩
abbrev S1 : Shape := ⟨1, ![1]⟩
abbrev S2x32x1024x256 : Shape := ⟨4, ![2, 32, 1024, 256]⟩
abbrev S2x32x256x1024 : Shape := ⟨4, ![2, 32, 256, 1024]⟩
abbrev S256x1024 : Shape := ⟨2, ![256, 1024]⟩
abbrev S1x1x1024x256 : Shape := ⟨4, ![1, 1, 1024, 256]⟩
abbrev S1x1x256x1024 : Shape := ⟨4, ![1, 1, 256, 1024]⟩
abbrev S1024x256 : Shape := ⟨2, ![1024, 256]⟩
abbrev S256x256 : Shape := ⟨2, ![256, 256]⟩

abbrev nBuf : Space → Nat
  | .hbm => 6
  | .vmem => 10
  | .smem => 2
  | _ => 0

abbrev bufTy : (tb : Table) → Fin (tcTables nBuf tb) → BufTy
  | .hbm, ⟨0, _⟩ => ⟨S73984x1024, .f32⟩
  | .hbm, ⟨1, _⟩ => ⟨S2x32x1024x256, .f32⟩
  | .hbm, ⟨2, _⟩ => ⟨S2x32x1024x256, .f32⟩
  | .hbm, ⟨3, _⟩ => ⟨S2x32x256x1024, .f32⟩
  | .hbm, ⟨4, _⟩ => ⟨S73984x1024, .bf16⟩
  | .hbm, ⟨5, _⟩ => ⟨S73984x1024, .bf16⟩
  | .local _ .vmem, ⟨0, _⟩ => ⟨S256x1024, .bf16⟩
  | .local _ .vmem, ⟨1, _⟩ => ⟨S256x1024, .bf16⟩
  | .local _ .vmem, ⟨2, _⟩ => ⟨S1x1x1024x256, .f32⟩
  | .local _ .vmem, ⟨3, _⟩ => ⟨S1x1x1024x256, .f32⟩
  | .local _ .vmem, ⟨4, _⟩ => ⟨S1x1x1024x256, .f32⟩
  | .local _ .vmem, ⟨5, _⟩ => ⟨S1x1x1024x256, .f32⟩
  | .local _ .vmem, ⟨6, _⟩ => ⟨S1x1x256x1024, .f32⟩
  | .local _ .vmem, ⟨7, _⟩ => ⟨S1x1x256x1024, .f32⟩
  | .local _ .vmem, ⟨8, _⟩ => ⟨S256x1024, .bf16⟩
  | .local _ .vmem, ⟨9, _⟩ => ⟨S256x1024, .bf16⟩
  | .local _ .smem, ⟨0, _⟩ => ⟨S289, .i32⟩
  | .local _ .smem, ⟨1, _⟩ => ⟨S1, .i32⟩
  | _, _ => ⟨S73984x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_v1 : Ref sig .tc := ⟨.hbm, 5, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![289], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S289.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S289) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_2 (k0_off1_inb : ∀ i : grid0.Coords, ∀ a, (k0_off1 i) a + S1.size a ≤ S289.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S289) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_3 (k0_off1_inb : ∀ i : grid0.Coords, ∀ a, (k0_off1 i) a + S1.size a ≤ S289.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S289) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S73984x1024 : Shape := ⟨2, ![73984, 1024]⟩
abbrev S289 : Shape := ⟨1, ![289]⟩
abbrev S1 : Shape := ⟨1, ![1]⟩
abbrev S2x32x1024x256 : Shape := ⟨4, ![2, 32, 1024, 256]⟩
abbrev S2x32x256x1024 : Shape := ⟨4, ![2, 32, 256, 1024]⟩
abbrev S289x1 : Shape := ⟨2, ![289, 1]⟩
abbrev S1x1 : Shape := ⟨2, ![1, 1]⟩
abbrev S1x32 : Shape := ⟨2, ![1, 32]⟩
abbrev S289x32 : Shape := ⟨2, ![289, 32]⟩
abbrev S_ : Shape := ⟨0, ![]⟩
abbrev S289x1x32 : Shape := ⟨3, ![289, 1, 32]⟩
abbrev S289x256x32 : Shape := ⟨3, ![289, 256, 32]⟩
abbrev S73984x32 : Shape := ⟨2, ![73984, 32]⟩
abbrev S1x32x1024x256 : Shape := ⟨4, ![1, 32, 1024, 256]⟩
abbrev S32x1024x256 : Shape := ⟨3, ![32, 1024, 256]⟩
abbrev S73984x32x256 : Shape := ⟨3, ![73984, 32, 256]⟩
abbrev S73984x32x1 : Shape := ⟨3, ![73984, 32, 1]⟩
abbrev S1x32x256x1024 : Shape := ⟨4, ![1, 32, 256, 1024]⟩
abbrev S32x256x1024 : Shape := ⟨3, ![32, 256, 1024]⟩
abbrev S32x1024x73984 : Shape := ⟨3, ![32, 1024, 73984]⟩
abbrev S73984x32x1024 : Shape := ⟨3, ![73984, 32, 1024]⟩

abbrev nBuf : Space → Nat
  | .hbm => 51
  | .vmem => 0
  | .smem => 0
  | _ => 0

abbrev bufTy : (tb : Table) → Fin (tcTables nBuf tb) → BufTy
  | .hbm, ⟨0, _⟩ => ⟨S73984x1024, .f32⟩
  | .hbm, ⟨1, _⟩ => ⟨S289, .i32⟩
  | .hbm, ⟨2, _⟩ => ⟨S1, .i32⟩
  | .hbm, ⟨3, _⟩ => ⟨S2x32x1024x256, .f32⟩
  | .hbm, ⟨4, _⟩ => ⟨S2x32x1024x256, .f32⟩
  | .hbm, ⟨5, _⟩ => ⟨S2x32x256x1024, .f32⟩
  | .hbm, ⟨6, _⟩ => ⟨S289, .i32⟩
  | .hbm, ⟨7, _⟩ => ⟨S289x1, .i32⟩
  | .hbm, ⟨8, _⟩ => ⟨S1x1, .i32⟩
  | .hbm, ⟨9, _⟩ => ⟨S289x1, .i32⟩
  | .hbm, ⟨10, _⟩ => ⟨S289x1, .i1⟩
  | .hbm, ⟨11, _⟩ => ⟨S289x1, .i32⟩
  | .hbm, ⟨12, _⟩ => ⟨S1x32, .i32⟩
  | .hbm, ⟨13, _⟩ => ⟨S289x32, .i32⟩
  | .hbm, ⟨14, _⟩ => ⟨S289x32, .i32⟩
  | .hbm, ⟨15, _⟩ => ⟨S289x32, .i1⟩
  | .hbm, ⟨16, _⟩ => ⟨S289x32, .f32⟩
  | .hbm, ⟨17, _⟩ => ⟨S_, .f32⟩
  | .hbm, ⟨18, _⟩ => ⟨S_, .f32⟩
  | .hbm, ⟨19, _⟩ => ⟨S289x32, .i1⟩
  | .hbm, ⟨20, _⟩ => ⟨S289x32, .f32⟩
  | .hbm, ⟨21, _⟩ => ⟨S289x32, .f32⟩
  | .hbm, ⟨22, _⟩ => ⟨S289x1x32, .f32⟩
  | .hbm, ⟨23, _⟩ => ⟨S289x256x32, .f32⟩
  | .hbm, ⟨24, _⟩ => ⟨S73984x32, .f32⟩
  | .hbm, ⟨25, _⟩ => ⟨S1x32x1024x256, .f32⟩
  | .hbm, ⟨26, _⟩ => ⟨S32x1024x256, .f32⟩
  | .hbm, ⟨27, _⟩ => ⟨S73984x32x256, .f32⟩
  | .hbm, ⟨28, _⟩ => ⟨S73984x32x256, .f32⟩
  | .hbm, ⟨29, _⟩ => ⟨S73984x32x256, .f32⟩
  | .hbm, ⟨30, _⟩ => ⟨S_, .f32⟩
  | .hbm, ⟨31, _⟩ => ⟨S73984x32x256, .f32⟩
  | .hbm, ⟨32, _⟩ => ⟨S73984x32x256, .f32⟩
  | .hbm, ⟨33, _⟩ => ⟨S_, .f32⟩
  | .hbm, ⟨34, _⟩ => ⟨S73984x32x256, .f32⟩
  | .hbm, ⟨35, _⟩ => ⟨S73984x32x256, .f32⟩
  | .hbm, ⟨36, _⟩ => ⟨S73984x32x256, .f32⟩
  | .hbm, ⟨37, _⟩ => ⟨S1x32x1024x256, .f32⟩
  | .hbm, ⟨38, _⟩ => ⟨S32x1024x256, .f32⟩
  | .hbm, ⟨39, _⟩ => ⟨S73984x32x256, .f32⟩
  | .hbm, ⟨40, _⟩ => ⟨S73984x32x256, .f32⟩
  | .hbm, ⟨41, _⟩ => ⟨S73984x32x1, .f32⟩
  | .hbm, ⟨42, _⟩ => ⟨S1x32x256x1024, .f32⟩
  | .hbm, ⟨43, _⟩ => ⟨S32x256x1024, .f32⟩
  | .hbm, ⟨44, _⟩ => ⟨S32x1024x73984, .f32⟩
  | .hbm, ⟨45, _⟩ => ⟨S73984x32x1024, .f32⟩
  | .hbm, ⟨46, _⟩ => ⟨S73984x32x1024, .f32⟩
  | .hbm, ⟨47, _⟩ => ⟨S73984x32x1024, .f32⟩
  | .hbm, ⟨48, _⟩ => ⟨S_, .f32⟩
  | .hbm, ⟨49, _⟩ => ⟨S73984x1024, .f32⟩
  | .hbm, ⟨50, _⟩ => ⟨S73984x1024, .bf16⟩
  | _, _ => ⟨S73984x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v5 : Ref sig .tc := ⟨.hbm, 16, rfl⟩
abbrev main_cst : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_call2_v0 : Ref sig .tc := ⟨.hbm, 28, rfl⟩
abbrev main_call2_v1 : Ref sig .tc := ⟨.hbm, 29, rfl⟩
abbrev main_call2_cst : Ref sig .tc := ⟨.hbm, 30, rfl⟩
abbrev main_call2_v2 : Ref sig .tc := ⟨.hbm, 31, rfl⟩
abbrev main_call2_v3 : Ref sig .tc := ⟨.hbm, 32, rfl⟩
abbrev main_call2_cst_0 : Ref sig .tc := ⟨.hbm, 33, rfl⟩
abbrev main_call2_v4 : Ref sig .tc := ⟨.hbm, 34, rfl⟩
abbrev main_call2_v5 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_cst_0 : Ref sig .tc := ⟨.hbm, 48, rfl⟩
abbrev main_v25 : Ref sig .tc := ⟨.hbm, 49, rfl⟩
abbrev main_v26 : Ref sig .tc := ⟨.hbm, 50, rfl⟩

abbrev nD : Nat := 1
abbrev τ : Topo := Topo.v7x

variable {F : FTy → Type} [FloatOps F]
-- ==== Kernel3.lean ====
abbrev S16x2048x1024 : Shape := ⟨3, ![16, 2048, 1024]⟩
abbrev S16x3072 : Shape := ⟨2, ![16, 3072]⟩
abbrev S1024x4912 : Shape := ⟨2, ![1024, 4912]⟩
abbrev S256 : Shape := ⟨1, ![256]⟩
abbrev S256x384 : Shape := ⟨2, ![256, 384]⟩
abbrev S128 : Shape := ⟨1, ![128]⟩
abbrev S128x4x64 : Shape := ⟨3, ![128, 4, 64]⟩
abbrev S4 : Shape := ⟨1, ![4]⟩
abbrev S1024x640 : Shape := ⟨2, ![1024, 640]⟩
abbrev S1024x12 : Shape := ⟨2, ![1024, 12]⟩
abbrev S_ : Shape := ⟨0, ![]⟩
abbrev S1024x128 : Shape := ⟨2, ![1024, 128]⟩
abbrev S1024x384 : Shape := ⟨2, ![1024, 384]⟩
abbrev S1024x32 : Shape := ⟨2, ![1024, 32]⟩
abbrev S1024x768 : Shape := ⟨2, ![1024, 768]⟩
abbrev S1024x4 : Shape := ⟨2, ![1024, 4]⟩
abbrev S1024x3072 : Shape := ⟨2, ![1024, 3072]⟩
abbrev S1024x5248 : Shape := ⟨2, ![1024, 5248]⟩
abbrev S256x4x96 : Shape := ⟨3, ![256, 4, 96]⟩
abbrev S256x4x64 : Shape := ⟨3, ![256, 4, 64]⟩
abbrev S256x256 : Shape := ⟨2, ![256, 256]⟩
abbrev S256x4x32 : Shape := ⟨3, ![256, 4, 32]⟩
abbrev S256x128 : Shape := ⟨2, ![256, 128]⟩
abbrev S384x1024 : Shape := ⟨2, ![384, 1024]⟩
abbrev S32x32 : Shape := ⟨2, ![32, 32]⟩
abbrev S128x1x64 : Shape := ⟨3, ![128, 1, 64]⟩
abbrev S128x64 : Shape := ⟨2, ![128, 64]⟩
abbrev S64x128 : Shape := ⟨2, ![64, 128]⟩
abbrev S1 : Shape := ⟨1, ![1]⟩
abbrev S2 : Shape := ⟨1, ![2]⟩
abbrev S1x4 : Shape := ⟨2, ![1, 4]⟩
abbrev S1x128 : Shape := ⟨2, ![1, 128]⟩
abbrev S1x256 : Shape := ⟨2, ![1, 256]⟩
abbrev S16x1x3072 : Shape := ⟨3, ![16, 1, 3072]⟩
abbrev S2048 : Shape := ⟨1, ![2048]⟩
abbrev S2048x1 : Shape := ⟨2, ![2048, 1]⟩
abbrev S2048x128 : Shape := ⟨2, ![2048, 128]⟩
abbrev S1x2048x128 : Shape := ⟨3, ![1, 2048, 128]⟩
abbrev S8x2048x128 : Shape := ⟨3, ![8, 2048, 128]⟩
abbrev S16x2048x256 : Shape := ⟨3, ![16, 2048, 256]⟩
abbrev S16x2048x128 : Shape := ⟨3, ![16, 2048, 128]⟩
abbrev S16x2048x32 : Shape := ⟨3, ![16, 2048, 32]⟩
abbrev S16x2048x512 : Shape := ⟨3, ![16, 2048, 512]⟩
abbrev S16x2048x3072 : Shape := ⟨3, ![16, 2048, 3072]⟩
abbrev S16x256x2048 : Shape := ⟨3, ![16, 256, 2048]⟩
abbrev S16x128x2048 : Shape := ⟨3, ![16, 128, 2048]⟩
abbrev S1x256x1024 : Shape := ⟨3, ![1, 256, 1024]⟩
abbrev S1x1x1024 : Shape := ⟨3, ![1, 1, 1024]⟩
abbrev S8x256x128 : Shape := ⟨3, ![8, 256, 128]⟩
abbrev S1x256x256 : Shape := ⟨3, ![1, 256, 256]⟩
abbrev S1x256x128 : Shape := ⟨3, ![1, 256, 128]⟩
abbrev S1x256x32 : Shape := ⟨3, ![1, 256, 32]⟩
abbrev S1x256x512 : Shape := ⟨3, ![1, 256, 512]⟩
abbrev S1x256x3072 : Shape := ⟨3, ![1, 256, 3072]⟩
abbrev S1x128x256 : Shape := ⟨3, ![1, 128, 256]⟩
abbrev S256x1024 : Shape := ⟨2, ![256, 1024]⟩
abbrev S1x1024 : Shape := ⟨2, ![1, 1024]⟩
abbrev S1024x256 : Shape := ⟨2, ![1024, 256]⟩
abbrev S128x256 : Shape := ⟨2, ![128, 256]⟩
abbrev S256x1 : Shape := ⟨2, ![256, 1]⟩
abbrev S128x1024 : Shape := ⟨2, ![128, 1024]⟩
abbrev S256x32 : Shape := ⟨2, ![256, 32]⟩
abbrev S256x768 : Shape := ⟨2, ![256, 768]⟩
abbrev S256x512 : Shape := ⟨2, ![256, 512]⟩
abbrev S1024x1024 : Shape := ⟨2, ![1024, 1024]⟩

abbrev nBuf : Space → Nat
  | .hbm => 522
  | .vmem => 48
  | .smem => 0
  | _ => 0

abbrev hbmTy0_0 (i : Nat) : BufTy := match i % 128 with
  | 0 => ⟨S16x2048x1024, .f32⟩
  | 1 => ⟨S16x3072, .f32⟩
  | 2 => ⟨S1024x4912, .f32⟩
  | 3 => ⟨S256, .f32⟩
  | 4 => ⟨S256x384, .f32⟩
  | 5 => ⟨S128, .f32⟩
  | 6 => ⟨S128x4x64, .f32⟩
  | 7 => ⟨S4, .f32⟩
  | 8 => ⟨S1024x640, .f32⟩
  | 9 => ⟨S1024x12, .f32⟩
  | 10 => ⟨S_, .i32⟩
  | 11 => ⟨S_, .f32⟩
  | 12 => ⟨S1024x128, .f32⟩
  | 13 => ⟨S1024x384, .f32⟩
  | 14 => ⟨S1024x32, .f32⟩
  | 15 => ⟨S_, .i32⟩
  | 16 => ⟨S_, .f32⟩
  | 17 => ⟨S1024x128, .f32⟩
  | 18 => ⟨S1024x768, .f32⟩
  | 19 => ⟨S1024x4, .f32⟩
  | 20 => ⟨S_, .i32⟩
  | 21 => ⟨S_, .f32⟩
  | 22 => ⟨S1024x128, .f32⟩
  | 23 => ⟨S1024x3072, .f32⟩
  | 24 => ⟨S1024x5248, .f32⟩
  | 25 => ⟨S1024x5248, .bf16⟩
  | 26 => ⟨S256x4x96, .f32⟩
  | 27 => ⟨S256x4x64, .f32⟩
  | 28 => ⟨S256x256, .f32⟩
  | 29 => ⟨S256x4x32, .f32⟩
  | 30 => ⟨S256x128, .f32⟩
  | 31 => ⟨S256x384, .f32⟩
  | 32 => ⟨S256x384, .bf16⟩
  | 33 => ⟨S_, .f32⟩
  | 34 => ⟨S384x1024, .f32⟩
  | 35 => ⟨S32x32, .i32⟩
  | 36 => ⟨S32x32, .i32⟩
  | 37 => ⟨S_, .i32⟩
  | 38 => ⟨S32x32, .i32⟩
  | 39 => ⟨S32x32, .i32⟩
  | 40 => ⟨S32x32, .i1⟩
  | 41 => ⟨S32x32, .f32⟩
  | 42 => ⟨S128x1x64, .f32⟩
  | 43 => ⟨S128x64, .f32⟩
  | 44 => ⟨S64x128, .f32⟩
  | 45 => ⟨S_, .i32⟩
  | 46 => ⟨S1, .i32⟩
  | 47 => ⟨S_, .i32⟩
  | 48 => ⟨S1, .i32⟩
  | 49 => ⟨S2, .i32⟩
  | 50 => ⟨S384x1024, .f32⟩
  | 51 => ⟨S_, .i32⟩
  | 52 => ⟨S1, .i32⟩
  | 53 => ⟨S_, .i32⟩
  | 54 => ⟨S1, .i32⟩
  | 55 => ⟨S2, .i32⟩
  | 56 => ⟨S384x1024, .f32⟩
  | 57 => ⟨S128x1x64, .f32⟩
  | 58 => ⟨S128x64, .f32⟩
  | 59 => ⟨S64x128, .f32⟩
  | 60 => ⟨S_, .i32⟩
  | 61 => ⟨S1, .i32⟩
  | 62 => ⟨S_, .i32⟩
  | 63 => ⟨S1, .i32⟩
  | 64 => ⟨S2, .i32⟩
  | 65 => ⟨S384x1024, .f32⟩
  | 66 => ⟨S_, .i32⟩
  | 67 => ⟨S1, .i32⟩
  | 68 => ⟨S_, .i32⟩
  | 69 => ⟨S1, .i32⟩
  | 70 => ⟨S2, .i32⟩
  | 71 => ⟨S384x1024, .f32⟩
  | 72 => ⟨S128x1x64, .f32⟩
  | 73 => ⟨S128x64, .f32⟩
  | 74 => ⟨S64x128, .f32⟩
  | 75 => ⟨S_, .i32⟩
  | 76 => ⟨S1, .i32⟩
  | 77 => ⟨S_, .i32⟩
  | 78 => ⟨S1, .i32⟩
  | 79 => ⟨S2, .i32⟩
  | 80 => ⟨S384x1024, .f32⟩
  | 81 => ⟨S_, .i32⟩
  | 82 => ⟨S1, .i32⟩
  | 83 => ⟨S_, .i32⟩
  | 84 => ⟨S1, .i32⟩
  | 85 => ⟨S2, .i32⟩
  | 86 => ⟨S384x1024, .f32⟩
  | 87 => ⟨S128x1x64, .f32⟩
  | 88 => ⟨S128x64, .f32⟩
  | 89 => ⟨S64x128, .f32⟩
  | 90 => ⟨S_, .i32⟩
  | 91 => ⟨S1, .i32⟩
  | 92 => ⟨S_, .i32⟩
  | 93 => ⟨S1, .i32⟩
  | 94 => ⟨S2, .i32⟩
  | 95 => ⟨S384x1024, .f32⟩
  | 96 => ⟨S_, .i32⟩
  | 97 => ⟨S1, .i32⟩
  | 98 => ⟨S_, .i32⟩
  | 99 => ⟨S1, .i32⟩
  | 100 => ⟨S2, .i32⟩
  | 101 => ⟨S384x1024, .f32⟩
  | 102 => ⟨S1x4, .f32⟩
  | 103 => ⟨S_, .i32⟩
  | 104 => ⟨S_, .f32⟩
  | 105 => ⟨S1x128, .f32⟩
  | 106 => ⟨S1x256, .f32⟩
  | 107 => ⟨S384x1024, .bf16⟩
  | 108 => ⟨S1x128, .f32⟩
  | 109 => ⟨S16x1x3072, .f32⟩
  | 110 => ⟨S2048, .i32⟩
  | 111 => ⟨S2048, .f32⟩
  | 112 => ⟨S2048x1, .f32⟩
  | 113 => ⟨S128, .i32⟩
  | 114 => ⟨S_, .i32⟩
  | 115 => ⟨S128, .i32⟩
  | 116 => ⟨S128, .i1⟩
  | 117 => ⟨S_, .i32⟩
  | 118 => ⟨S_, .i32⟩
  | 119 => ⟨S_, .i32⟩
  | 120 => ⟨S_, .i1⟩
  | 121 => ⟨S_, .i32⟩
  | 122 => ⟨S_, .i32⟩
  | 123 => ⟨S128, .i32⟩
  | 124 => ⟨S128, .i32⟩
  | 125 => ⟨S_, .i32⟩
  | 126 => ⟨S128, .i32⟩
  | 127 => ⟨S128, .i1⟩
  | _ => ⟨S16x2048x1024, .f32⟩

abbrev hbmTy0_1 (i : Nat) : BufTy := match i % 128 with
  | 0 => ⟨S_, .i32⟩
  | 1 => ⟨S128, .i32⟩
  | 2 => ⟨S128, .i1⟩
  | 3 => ⟨S_, .i32⟩
  | 4 => ⟨S_, .i1⟩
  | 5 => ⟨S128, .i1⟩
  | 6 => ⟨S128, .i1⟩
  | 7 => ⟨S128, .i1⟩
  | 8 => ⟨S128, .i32⟩
  | 9 => ⟨S128, .i32⟩
  | 10 => ⟨S128, .i32⟩
  | 11 => ⟨S_, .i32⟩
  | 12 => ⟨S128, .i32⟩
  | 13 => ⟨S128, .i1⟩
  | 14 => ⟨S128, .i1⟩
  | 15 => ⟨S_, .i32⟩
  | 16 => ⟨S_, .i32⟩
  | 17 => ⟨S_, .i32⟩
  | 18 => ⟨S_, .i1⟩
  | 19 => ⟨S_, .i32⟩
  | 20 => ⟨S_, .i32⟩
  | 21 => ⟨S128, .i32⟩
  | 22 => ⟨S128, .i32⟩
  | 23 => ⟨S_, .i32⟩
  | 24 => ⟨S128, .i32⟩
  | 25 => ⟨S128, .i1⟩
  | 26 => ⟨S_, .i32⟩
  | 27 => ⟨S128, .i32⟩
  | 28 => ⟨S128, .i1⟩
  | 29 => ⟨S_, .i32⟩
  | 30 => ⟨S_, .i1⟩
  | 31 => ⟨S128, .i1⟩
  | 32 => ⟨S128, .i1⟩
  | 33 => ⟨S128, .i1⟩
  | 34 => ⟨S128, .i32⟩
  | 35 => ⟨S128, .i32⟩
  | 36 => ⟨S128, .i32⟩
  | 37 => ⟨S128, .f32⟩
  | 38 => ⟨S_, .f32⟩
  | 39 => ⟨S128, .f32⟩
  | 40 => ⟨S128, .f32⟩
  | 41 => ⟨S_, .f32⟩
  | 42 => ⟨S128, .f32⟩
  | 43 => ⟨S128, .f32⟩
  | 44 => ⟨S_, .f32⟩
  | 45 => ⟨S128, .f32⟩
  | 46 => ⟨S128, .f32⟩
  | 47 => ⟨S_, .f32⟩
  | 48 => ⟨S128, .f32⟩
  | 49 => ⟨S128, .f32⟩
  | 50 => ⟨S1x128, .f32⟩
  | 51 => ⟨S2048x128, .f32⟩
  | 52 => ⟨S2048x128, .f32⟩
  | 53 => ⟨S2048x128, .f32⟩
  | 54 => ⟨S1x128, .i1⟩
  | 55 => ⟨S2048x128, .f32⟩
  | 56 => ⟨S_, .f32⟩
  | 57 => ⟨S_, .f32⟩
  | 58 => ⟨S2048x128, .i1⟩
  | 59 => ⟨S2048x128, .f32⟩
  | 60 => ⟨S2048x128, .f32⟩
  | 61 => ⟨S1x128, .i1⟩
  | 62 => ⟨S_, .i32⟩
  | 63 => ⟨S128, .i32⟩
  | 64 => ⟨S128, .i1⟩
  | 65 => ⟨S1x128, .i1⟩
  | 66 => ⟨S2048x128, .f32⟩
  | 67 => ⟨S2048x128, .f32⟩
  | 68 => ⟨S2048x128, .f32⟩
  | 69 => ⟨S2048x128, .i1⟩
  | 70 => ⟨S2048x128, .f32⟩
  | 71 => ⟨S_, .f32⟩
  | 72 => ⟨S_, .f32⟩
  | 73 => ⟨S2048x128, .i1⟩
  | 74 => ⟨S2048x128, .f32⟩
  | 75 => ⟨S2048x128, .f32⟩
  | 76 => ⟨S_, .i32⟩
  | 77 => ⟨S_, .i32⟩
  | 78 => ⟨S_, .i32⟩
  | 79 => ⟨S_, .i1⟩
  | 80 => ⟨S_, .i32⟩
  | 81 => ⟨S_, .i32⟩
  | 82 => ⟨S128, .i32⟩
  | 83 => ⟨S128, .i32⟩
  | 84 => ⟨S_, .i32⟩
  | 85 => ⟨S128, .i32⟩
  | 86 => ⟨S128, .i1⟩
  | 87 => ⟨S_, .i32⟩
  | 88 => ⟨S128, .i32⟩
  | 89 => ⟨S128, .i1⟩
  | 90 => ⟨S_, .i32⟩
  | 91 => ⟨S_, .i1⟩
  | 92 => ⟨S128, .i1⟩
  | 93 => ⟨S128, .i1⟩
  | 94 => ⟨S128, .i1⟩
  | 95 => ⟨S128, .i32⟩
  | 96 => ⟨S128, .i32⟩
  | 97 => ⟨S128, .i32⟩
  | 98 => ⟨S_, .i32⟩
  | 99 => ⟨S128, .i32⟩
  | 100 => ⟨S128, .i1⟩
  | 101 => ⟨S_, .i32⟩
  | 102 => ⟨S_, .i32⟩
  | 103 => ⟨S_, .i32⟩
  | 104 => ⟨S_, .i1⟩
  | 105 => ⟨S_, .i32⟩
  | 106 => ⟨S_, .i32⟩
  | 107 => ⟨S128, .i32⟩
  | 108 => ⟨S128, .i32⟩
  | 109 => ⟨S_, .i32⟩
  | 110 => ⟨S128, .i32⟩
  | 111 => ⟨S128, .i1⟩
  | 112 => ⟨S_, .i32⟩
  | 113 => ⟨S128, .i32⟩
  | 114 => ⟨S128, .i1⟩
  | 115 => ⟨S_, .i32⟩
  | 116 => ⟨S_, .i1⟩
  | 117 => ⟨S128, .i1⟩
  | 118 => ⟨S128, .i1⟩
  | 119 => ⟨S128, .i1⟩
  | 120 => ⟨S128, .i32⟩
  | 121 => ⟨S128, .i32⟩
  | 122 => ⟨S128, .i32⟩
  | 123 => ⟨S_, .i32⟩
  | 124 => ⟨S128, .i32⟩
  | 125 => ⟨S128, .i1⟩
  | 126 => ⟨S128, .i1⟩
  | 127 => ⟨S_, .i32⟩
  | _ => ⟨S16x2048x1024, .f32⟩

abbrev hbmTy0_2 (i : Nat) : BufTy := match i % 128 with
  | 0 => ⟨S_, .i32⟩
  | 1 => ⟨S_, .i32⟩
  | 2 => ⟨S_, .i1⟩
  | 3 => ⟨S_, .i32⟩
  | 4 => ⟨S_, .i32⟩
  | 5 => ⟨S128, .i32⟩
  | 6 => ⟨S128, .i32⟩
  | 7 => ⟨S_, .i32⟩
  | 8 => ⟨S128, .i32⟩
  | 9 => ⟨S128, .i1⟩
  | 10 => ⟨S_, .i32⟩
  | 11 => ⟨S128, .i32⟩
  | 12 => ⟨S128, .i1⟩
  | 13 => ⟨S_, .i32⟩
  | 14 => ⟨S_, .i1⟩
  | 15 => ⟨S128, .i1⟩
  | 16 => ⟨S128, .i1⟩
  | 17 => ⟨S128, .i1⟩
  | 18 => ⟨S128, .i32⟩
  | 19 => ⟨S128, .i32⟩
  | 20 => ⟨S128, .i32⟩
  | 21 => ⟨S128, .f32⟩
  | 22 => ⟨S_, .f32⟩
  | 23 => ⟨S128, .f32⟩
  | 24 => ⟨S128, .f32⟩
  | 25 => ⟨S_, .f32⟩
  | 26 => ⟨S128, .f32⟩
  | 27 => ⟨S128, .f32⟩
  | 28 => ⟨S_, .f32⟩
  | 29 => ⟨S128, .f32⟩
  | 30 => ⟨S128, .f32⟩
  | 31 => ⟨S_, .f32⟩
  | 32 => ⟨S128, .f32⟩
  | 33 => ⟨S128, .f32⟩
  | 34 => ⟨S1x128, .f32⟩
  | 35 => ⟨S2048x128, .f32⟩
  | 36 => ⟨S2048x128, .f32⟩
  | 37 => ⟨S2048x128, .f32⟩
  | 38 => ⟨S1x128, .i1⟩
  | 39 => ⟨S2048x128, .f32⟩
  | 40 => ⟨S_, .f32⟩
  | 41 => ⟨S_, .f32⟩
  | 42 => ⟨S2048x128, .i1⟩
  | 43 => ⟨S2048x128, .f32⟩
  | 44 => ⟨S2048x128, .f32⟩
  | 45 => ⟨S1x128, .i1⟩
  | 46 => ⟨S_, .i32⟩
  | 47 => ⟨S128, .i32⟩
  | 48 => ⟨S128, .i1⟩
  | 49 => ⟨S1x128, .i1⟩
  | 50 => ⟨S2048x128, .f32⟩
  | 51 => ⟨S2048x128, .f32⟩
  | 52 => ⟨S2048x128, .f32⟩
  | 53 => ⟨S2048x128, .i1⟩
  | 54 => ⟨S2048x128, .f32⟩
  | 55 => ⟨S_, .f32⟩
  | 56 => ⟨S_, .f32⟩
  | 57 => ⟨S2048x128, .i1⟩
  | 58 => ⟨S2048x128, .f32⟩
  | 59 => ⟨S2048x128, .f32⟩
  | 60 => ⟨S_, .i32⟩
  | 61 => ⟨S128, .i32⟩
  | 62 => ⟨S128, .i1⟩
  | 63 => ⟨S_, .i32⟩
  | 64 => ⟨S_, .i32⟩
  | 65 => ⟨S_, .i32⟩
  | 66 => ⟨S_, .i1⟩
  | 67 => ⟨S_, .i32⟩
  | 68 => ⟨S_, .i32⟩
  | 69 => ⟨S128, .i32⟩
  | 70 => ⟨S128, .i32⟩
  | 71 => ⟨S_, .i32⟩
  | 72 => ⟨S128, .i32⟩
  | 73 => ⟨S128, .i1⟩
  | 74 => ⟨S_, .i32⟩
  | 75 => ⟨S128, .i32⟩
  | 76 => ⟨S128, .i1⟩
  | 77 => ⟨S_, .i32⟩
  | 78 => ⟨S_, .i1⟩
  | 79 => ⟨S128, .i1⟩
  | 80 => ⟨S128, .i1⟩
  | 81 => ⟨S128, .i1⟩
  | 82 => ⟨S128, .i32⟩
  | 83 => ⟨S128, .i32⟩
  | 84 => ⟨S128, .i32⟩
  | 85 => ⟨S_, .i32⟩
  | 86 => ⟨S128, .i32⟩
  | 87 => ⟨S128, .i1⟩
  | 88 => ⟨S128, .i1⟩
  | 89 => ⟨S_, .i32⟩
  | 90 => ⟨S_, .i32⟩
  | 91 => ⟨S_, .i32⟩
  | 92 => ⟨S_, .i1⟩
  | 93 => ⟨S_, .i32⟩
  | 94 => ⟨S_, .i32⟩
  | 95 => ⟨S128, .i32⟩
  | 96 => ⟨S128, .i32⟩
  | 97 => ⟨S_, .i32⟩
  | 98 => ⟨S128, .i32⟩
  | 99 => ⟨S128, .i1⟩
  | 100 => ⟨S_, .i32⟩
  | 101 => ⟨S128, .i32⟩
  | 102 => ⟨S128, .i1⟩
  | 103 => ⟨S_, .i32⟩
  | 104 => ⟨S_, .i1⟩
  | 105 => ⟨S128, .i1⟩
  | 106 => ⟨S128, .i1⟩
  | 107 => ⟨S128, .i1⟩
  | 108 => ⟨S128, .i32⟩
  | 109 => ⟨S128, .i32⟩
  | 110 => ⟨S128, .i32⟩
  | 111 => ⟨S128, .f32⟩
  | 112 => ⟨S_, .f32⟩
  | 113 => ⟨S128, .f32⟩
  | 114 => ⟨S128, .f32⟩
  | 115 => ⟨S_, .f32⟩
  | 116 => ⟨S128, .f32⟩
  | 117 => ⟨S128, .f32⟩
  | 118 => ⟨S_, .f32⟩
  | 119 => ⟨S128, .f32⟩
  | 120 => ⟨S128, .f32⟩
  | 121 => ⟨S_, .f32⟩
  | 122 => ⟨S128, .f32⟩
  | 123 => ⟨S128, .f32⟩
  | 124 => ⟨S1x128, .f32⟩
  | 125 => ⟨S2048x128, .f32⟩
  | 126 => ⟨S2048x128, .f32⟩
  | 127 => ⟨S2048x128, .f32⟩
  | _ => ⟨S16x2048x1024, .f32⟩

abbrev hbmTy0_3 (i : Nat) : BufTy := match i % 128 with
  | 0 => ⟨S1x128, .i1⟩
  | 1 => ⟨S2048x128, .f32⟩
  | 2 => ⟨S_, .f32⟩
  | 3 => ⟨S_, .f32⟩
  | 4 => ⟨S2048x128, .i1⟩
  | 5 => ⟨S2048x128, .f32⟩
  | 6 => ⟨S2048x128, .f32⟩
  | 7 => ⟨S1x128, .i1⟩
  | 8 => ⟨S_, .i32⟩
  | 9 => ⟨S128, .i32⟩
  | 10 => ⟨S128, .i1⟩
  | 11 => ⟨S1x128, .i1⟩
  | 12 => ⟨S2048x128, .f32⟩
  | 13 => ⟨S2048x128, .f32⟩
  | 14 => ⟨S2048x128, .f32⟩
  | 15 => ⟨S2048x128, .i1⟩
  | 16 => ⟨S2048x128, .f32⟩
  | 17 => ⟨S_, .f32⟩
  | 18 => ⟨S_, .f32⟩
  | 19 => ⟨S2048x128, .i1⟩
  | 20 => ⟨S2048x128, .f32⟩
  | 21 => ⟨S2048x128, .f32⟩
  | 22 => ⟨S_, .i32⟩
  | 23 => ⟨S128, .i32⟩
  | 24 => ⟨S128, .i1⟩
  | 25 => ⟨S_, .i32⟩
  | 26 => ⟨S_, .i32⟩
  | 27 => ⟨S_, .i32⟩
  | 28 => ⟨S_, .i1⟩
  | 29 => ⟨S_, .i32⟩
  | 30 => ⟨S_, .i32⟩
  | 31 => ⟨S128, .i32⟩
  | 32 => ⟨S128, .i32⟩
  | 33 => ⟨S_, .i32⟩
  | 34 => ⟨S128, .i32⟩
  | 35 => ⟨S128, .i1⟩
  | 36 => ⟨S_, .i32⟩
  | 37 => ⟨S128, .i32⟩
  | 38 => ⟨S128, .i1⟩
  | 39 => ⟨S_, .i32⟩
  | 40 => ⟨S_, .i1⟩
  | 41 => ⟨S128, .i1⟩
  | 42 => ⟨S128, .i1⟩
  | 43 => ⟨S128, .i1⟩
  | 44 => ⟨S128, .i32⟩
  | 45 => ⟨S128, .i32⟩
  | 46 => ⟨S128, .i32⟩
  | 47 => ⟨S_, .i32⟩
  | 48 => ⟨S128, .i32⟩
  | 49 => ⟨S128, .i1⟩
  | 50 => ⟨S128, .i1⟩
  | 51 => ⟨S_, .i32⟩
  | 52 => ⟨S_, .i32⟩
  | 53 => ⟨S_, .i32⟩
  | 54 => ⟨S_, .i1⟩
  | 55 => ⟨S_, .i32⟩
  | 56 => ⟨S_, .i32⟩
  | 57 => ⟨S128, .i32⟩
  | 58 => ⟨S128, .i32⟩
  | 59 => ⟨S_, .i32⟩
  | 60 => ⟨S128, .i32⟩
  | 61 => ⟨S128, .i1⟩
  | 62 => ⟨S_, .i32⟩
  | 63 => ⟨S128, .i32⟩
  | 64 => ⟨S128, .i1⟩
  | 65 => ⟨S_, .i32⟩
  | 66 => ⟨S_, .i1⟩
  | 67 => ⟨S128, .i1⟩
  | 68 => ⟨S128, .i1⟩
  | 69 => ⟨S128, .i1⟩
  | 70 => ⟨S128, .i32⟩
  | 71 => ⟨S128, .i32⟩
  | 72 => ⟨S128, .i32⟩
  | 73 => ⟨S128, .f32⟩
  | 74 => ⟨S_, .f32⟩
  | 75 => ⟨S128, .f32⟩
  | 76 => ⟨S128, .f32⟩
  | 77 => ⟨S_, .f32⟩
  | 78 => ⟨S128, .f32⟩
  | 79 => ⟨S128, .f32⟩
  | 80 => ⟨S_, .f32⟩
  | 81 => ⟨S128, .f32⟩
  | 82 => ⟨S128, .f32⟩
  | 83 => ⟨S_, .f32⟩
  | 84 => ⟨S128, .f32⟩
  | 85 => ⟨S128, .f32⟩
  | 86 => ⟨S1x128, .f32⟩
  | 87 => ⟨S2048x128, .f32⟩
  | 88 => ⟨S2048x128, .f32⟩
  | 89 => ⟨S2048x128, .f32⟩
  | 90 => ⟨S1x128, .i1⟩
  | 91 => ⟨S2048x128, .f32⟩
  | 92 => ⟨S_, .f32⟩
  | 93 => ⟨S_, .f32⟩
  | 94 => ⟨S2048x128, .i1⟩
  | 95 => ⟨S2048x128, .f32⟩
  | 96 => ⟨S2048x128, .f32⟩
  | 97 => ⟨S1x128, .i1⟩
  | 98 => ⟨S_, .i32⟩
  | 99 => ⟨S128, .i32⟩
  | 100 => ⟨S128, .i1⟩
  | 101 => ⟨S1x128, .i1⟩
  | 102 => ⟨S2048x128, .f32⟩
  | 103 => ⟨S2048x128, .f32⟩
  | 104 => ⟨S2048x128, .f32⟩
  | 105 => ⟨S2048x128, .i1⟩
  | 106 => ⟨S2048x128, .f32⟩
  | 107 => ⟨S_, .f32⟩
  | 108 => ⟨S_, .f32⟩
  | 109 => ⟨S2048x128, .i1⟩
  | 110 => ⟨S2048x128, .f32⟩
  | 111 => ⟨S2048x128, .f32⟩
  | 112 => ⟨S1x2048x128, .f32⟩
  | 113 => ⟨S1x2048x128, .f32⟩
  | 114 => ⟨S1x2048x128, .f32⟩
  | 115 => ⟨S1x2048x128, .f32⟩
  | 116 => ⟨S1x2048x128, .f32⟩
  | 117 => ⟨S1x2048x128, .f32⟩
  | 118 => ⟨S1x2048x128, .f32⟩
  | 119 => ⟨S1x2048x128, .f32⟩
  | 120 => ⟨S8x2048x128, .f32⟩
  | 121 => ⟨S16x2048x256, .bf16⟩
  | 122 => ⟨S16x2048x256, .f32⟩
  | 123 => ⟨S16x2048x128, .f32⟩
  | 124 => ⟨S16x2048x256, .bf16⟩
  | 125 => ⟨S16x2048x128, .f32⟩
  | 126 => ⟨S16x2048x1024, .bf16⟩
  | 127 => ⟨S16x2048x128, .f32⟩
  | _ => ⟨S16x2048x1024, .f32⟩

abbrev hbmTy0_4 (i : Nat) : BufTy := match i % 128 with
  | 0 => ⟨S16x2048x32, .f32⟩
  | 1 => ⟨S16x2048x256, .bf16⟩
  | 2 => ⟨S16x2048x256, .bf16⟩
  | 3 => ⟨S16x2048x512, .f32⟩
  | 4 => ⟨S16x2048x512, .bf16⟩
  | 5 => ⟨S16x2048x128, .f32⟩
  | 6 => ⟨S16x2048x3072, .bf16⟩
  | 7 => ⟨S16x256x2048, .bf16⟩
  | 8 => ⟨S16x128x2048, .bf16⟩
  | 9 => ⟨S16x256x2048, .bf16⟩
  | _ => ⟨S16x2048x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S16x2048x1024, .f32⟩

abbrev bufTy : (tb : Table) → Fin (tcTables nBuf tb) → BufTy
  | .hbm, ⟨i, _⟩ => hbmTy i
  | .local _ .vmem, ⟨0, _⟩ => ⟨S1x256x1024, .f32⟩
  | .local _ .vmem, ⟨1, _⟩ => ⟨S1x256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S8x256x128, .f32⟩
  | .local _ .vmem, ⟨7, _⟩ => ⟨S8x256x128, .f32⟩
  | .local _ .vmem, ⟨8, _⟩ => ⟨S1024x5248, .bf16⟩
  | .local _ .vmem, ⟨9, _⟩ => ⟨S1x256, .f32⟩
  | .local _ .vmem, ⟨10, _⟩ => ⟨S256x384, .bf16⟩
  | .local _ .vmem, ⟨11, _⟩ => ⟨S384x1024, .bf16⟩
  | .local _ .vmem, ⟨12, _⟩ => ⟨S1x128, .f32⟩
  | .local _ .vmem, ⟨13, _⟩ => ⟨S1x128, .f32⟩
  | .local _ .vmem, ⟨14, _⟩ => ⟨S1x256x256, .bf16⟩
  | .local _ .vmem, ⟨15, _⟩ => ⟨S1x256x256, .bf16⟩
  | .local _ .vmem, ⟨16, _⟩ => ⟨S1x256x256, .f32⟩
  | .local _ .vmem, ⟨17, _⟩ => ⟨S1x256x256, .f32⟩
  | .local _ .vmem, ⟨18, _⟩ => ⟨S1x256x128, .f32⟩
  | .local _ .vmem, ⟨19, _⟩ => ⟨S1x256x128, .f32⟩
  | .local _ .vmem, ⟨20, _⟩ => ⟨S1x256x256, .bf16⟩
  | .local _ .vmem, ⟨21, _⟩ => ⟨S1x256x256, .bf16⟩
  | .local _ .vmem, ⟨22, _⟩ => ⟨S1x256x128, .f32⟩
  | .local _ .vmem, ⟨23, _⟩ => ⟨S1x256x128, .f32⟩
  | .local _ .vmem, ⟨24, _⟩ => ⟨S1x256x1024, .bf16⟩
  | .local _ .vmem, ⟨25, _⟩ => ⟨S1x256x1024, .bf16⟩
  | .local _ .vmem, ⟨26, _⟩ => ⟨S1x256x128, .f32⟩
  | .local _ .vmem, ⟨27, _⟩ => ⟨S1x256x128, .f32⟩
  | .local _ .vmem, ⟨28, _⟩ => ⟨S1x256x32, .f32⟩
  | .local _ .vmem, ⟨29, _⟩ => ⟨S1x256x32, .f32⟩
  | .local _ .vmem, ⟨30, _⟩ => ⟨S1x256x256, .bf16⟩
  | .local _ .vmem, ⟨31, _⟩ => ⟨S1x256x256, .bf16⟩
  | .local _ .vmem, ⟨32, _⟩ => ⟨S1x256x256, .bf16⟩
  | .local _ .vmem, ⟨33, _⟩ => ⟨S1x256x256, .bf16⟩
  | .local _ .vmem, ⟨34, _⟩ => ⟨S1x256x512, .f32⟩
  | .local _ .vmem, ⟨35, _⟩ => ⟨S1x256x512, .f32⟩
  | .local _ .vmem, ⟨36, _⟩ => ⟨S1x256x512, .bf16⟩
  | .local _ .vmem, ⟨37, _⟩ => ⟨S1x256x512, .bf16⟩
  | .local _ .vmem, ⟨38, _⟩ => ⟨S1x256x128, .f32⟩
  | .local _ .vmem, ⟨39, _⟩ => ⟨S1x256x128, .f32⟩
  | .local _ .vmem, ⟨40, _⟩ => ⟨S1x256x3072, .bf16⟩
  | .local _ .vmem, ⟨41, _⟩ => ⟨S1x256x3072, .bf16⟩
  | .local _ .vmem, ⟨42, _⟩ => ⟨S1x256x256, .bf16⟩
  | .local _ .vmem, ⟨43, _⟩ => ⟨S1x256x256, .bf16⟩
  | .local _ .vmem, ⟨44, _⟩ => ⟨S1x128x256, .bf16⟩
  | .local _ .vmem, ⟨45, _⟩ => ⟨S1x128x256, .bf16⟩
  | .local _ .vmem, ⟨46, _⟩ => ⟨S1x256x256, .bf16⟩
  | .local _ .vmem, ⟨47, _⟩ => ⟨S1x256x256, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_call0_v0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c_0 : Ref sig .tc := ⟨.hbm, 15, rfl⟩
abbrev main_call1_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c_1 : Ref sig .tc := ⟨.hbm, 20, rfl⟩
abbrev main_call2_v0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_2 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c_3 : Ref sig .tc := ⟨.hbm, 45, rfl⟩
abbrev main_v29 : Ref sig .tc := ⟨.hbm, 46, rfl⟩
abbrev main_c_4 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_5 : Ref sig .tc := ⟨.hbm, 51, rfl⟩
abbrev main_v33 : Ref sig .tc := ⟨.hbm, 52, rfl⟩
abbrev main_c_6 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_c_7 : Ref sig .tc := ⟨.hbm, 60, rfl⟩
abbrev main_v40 : Ref sig .tc := ⟨.hbm, 61, rfl⟩
abbrev main_c_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_c_9 : Ref sig .tc := ⟨.hbm, 66, rfl⟩
abbrev main_v44 : Ref sig .tc := ⟨.hbm, 67, rfl⟩
abbrev main_c_10 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_c_11 : Ref sig .tc := ⟨.hbm, 75, rfl⟩
abbrev main_v51 : Ref sig .tc := ⟨.hbm, 76, rfl⟩
abbrev main_c_12 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_c_13 : Ref sig .tc := ⟨.hbm, 81, rfl⟩
abbrev main_v55 : Ref sig .tc := ⟨.hbm, 82, rfl⟩
abbrev main_c_14 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_c_15 : Ref sig .tc := ⟨.hbm, 90, rfl⟩
abbrev main_v62 : Ref sig .tc := ⟨.hbm, 91, rfl⟩
abbrev main_c_16 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_c_17 : Ref sig .tc := ⟨.hbm, 96, rfl⟩
abbrev main_v66 : Ref sig .tc := ⟨.hbm, 97, rfl⟩
abbrev main_c_18 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_c_19 : Ref sig .tc := ⟨.hbm, 103, rfl⟩
abbrev main_call3_v0 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_c_20 : Ref sig .tc := ⟨.hbm, 114, rfl⟩
abbrev main_v80 : Ref sig .tc := ⟨.hbm, 115, rfl⟩
abbrev main_v81 : Ref sig .tc := ⟨.hbm, 116, rfl⟩
abbrev main_c_21 : Ref sig .tc := ⟨.hbm, 117, rfl⟩
abbrev main_call4_v0 : Ref sig .tc := ⟨.hbm, 118, rfl⟩
abbrev main_call4_c : Ref sig .tc := ⟨.hbm, 119, rfl⟩
abbrev main_call4_v1 : Ref sig .tc := ⟨.hbm, 120, rfl⟩
abbrev main_call4_c_0 : Ref sig .tc := ⟨.hbm, 121, rfl⟩
abbrev main_call4_v2 : Ref sig .tc := ⟨.hbm, 122, rfl⟩
abbrev main_call4_v3 : Ref sig .tc := ⟨.hbm, 123, rfl⟩
abbrev main_call4_v4 : Ref sig .tc := ⟨.hbm, 124, rfl⟩
abbrev main_call4_c_1 : Ref sig .tc := ⟨.hbm, 125, rfl⟩
abbrev main_call4_v5 : Ref sig .tc := ⟨.hbm, 126, rfl⟩
abbrev main_call4_v6 : Ref sig .tc := ⟨.hbm, 127, rfl⟩
abbrev main_call4_c_2 : Ref sig .tc := ⟨.hbm, 128, rfl⟩
abbrev main_call4_v7 : Ref sig .tc := ⟨.hbm, 129, rfl⟩
abbrev main_call4_v8 : Ref sig .tc := ⟨.hbm, 130, rfl⟩
abbrev main_call4_c_3 : Ref sig .tc := ⟨.hbm, 131, rfl⟩
abbrev main_call4_v9 : Ref sig .tc := ⟨.hbm, 132, rfl⟩
abbrev main_call4_v10 : Ref sig .tc := ⟨.hbm, 133, rfl⟩
abbrev main_call4_v11 : Ref sig .tc := ⟨.hbm, 134, rfl⟩
abbrev main_call4_v12 : Ref sig .tc := ⟨.hbm, 135, rfl⟩
abbrev main_call4_v13 : Ref sig .tc := ⟨.hbm, 136, rfl⟩
abbrev main_call4_v14 : Ref sig .tc := ⟨.hbm, 137, rfl⟩
abbrev main_v82 : Ref sig .tc := ⟨.hbm, 138, rfl⟩
abbrev main_c_22 : Ref sig .tc := ⟨.hbm, 139, rfl⟩
abbrev main_v83 : Ref sig .tc := ⟨.hbm, 140, rfl⟩
abbrev main_v84 : Ref sig .tc := ⟨.hbm, 141, rfl⟩
abbrev main_v85 : Ref sig .tc := ⟨.hbm, 142, rfl⟩
abbrev main_c_23 : Ref sig .tc := ⟨.hbm, 143, rfl⟩
abbrev main_call5_v0 : Ref sig .tc := ⟨.hbm, 144, rfl⟩
abbrev main_call5_c : Ref sig .tc := ⟨.hbm, 145, rfl⟩
abbrev main_call5_v1 : Ref sig .tc := ⟨.hbm, 146, rfl⟩
abbrev main_call5_c_0 : Ref sig .tc := ⟨.hbm, 147, rfl⟩
abbrev main_call5_v2 : Ref sig .tc := ⟨.hbm, 148, rfl⟩
abbrev main_call5_v3 : Ref sig .tc := ⟨.hbm, 149, rfl⟩
abbrev main_call5_v4 : Ref sig .tc := ⟨.hbm, 150, rfl⟩
abbrev main_call5_c_1 : Ref sig .tc := ⟨.hbm, 151, rfl⟩
abbrev main_call5_v5 : Ref sig .tc := ⟨.hbm, 152, rfl⟩
abbrev main_call5_v6 : Ref sig .tc := ⟨.hbm, 153, rfl⟩
abbrev main_call5_c_2 : Ref sig .tc := ⟨.hbm, 154, rfl⟩
abbrev main_call5_v7 : Ref sig .tc := ⟨.hbm, 155, rfl⟩
abbrev main_call5_v8 : Ref sig .tc := ⟨.hbm, 156, rfl⟩
abbrev main_call5_c_3 : Ref sig .tc := ⟨.hbm, 157, rfl⟩
abbrev main_call5_v9 : Ref sig .tc := ⟨.hbm, 158, rfl⟩
abbrev main_call5_v10 : Ref sig .tc := ⟨.hbm, 159, rfl⟩
abbrev main_call5_v11 : Ref sig .tc := ⟨.hbm, 160, rfl⟩
abbrev main_call5_v12 : Ref sig .tc := ⟨.hbm, 161, rfl⟩
abbrev main_call5_v13 : Ref sig .tc := ⟨.hbm, 162, rfl⟩
abbrev main_call5_v14 : Ref sig .tc := ⟨.hbm, 163, rfl⟩
abbrev main_v86 : Ref sig .tc := ⟨.hbm, 164, rfl⟩
abbrev main_v87 : Ref sig .tc := ⟨.hbm, 165, rfl⟩
abbrev main_cst_24 : Ref sig .tc := ⟨.hbm, 166, rfl⟩
abbrev main_v88 : Ref sig .tc := ⟨.hbm, 167, rfl⟩
abbrev main_v89 : Ref sig .tc := ⟨.hbm, 168, rfl⟩
abbrev main_cst_25 : Ref sig .tc := ⟨.hbm, 169, rfl⟩
abbrev main_v90 : Ref sig .tc := ⟨.hbm, 170, rfl⟩
abbrev main_v91 : Ref sig .tc := ⟨.hbm, 171, rfl⟩
abbrev main_cst_26 : Ref sig .tc := ⟨.hbm, 172, rfl⟩
abbrev main_v92 : Ref sig .tc := ⟨.hbm, 173, rfl⟩
abbrev main_v93 : Ref sig .tc := ⟨.hbm, 174, rfl⟩
abbrev main_cst_27 : Ref sig .tc := ⟨.hbm, 175, rfl⟩
abbrev main_v94 : Ref sig .tc := ⟨.hbm, 176, rfl⟩
abbrev main_v95 : Ref sig .tc := ⟨.hbm, 177, rfl⟩
abbrev main_v96 : Ref sig .tc := ⟨.hbm, 178, rfl⟩
abbrev main_v97 : Ref sig .tc := ⟨.hbm, 179, rfl⟩
abbrev main_v98 : Ref sig .tc := ⟨.hbm, 180, rfl⟩
abbrev main_v99 : Ref sig .tc := ⟨.hbm, 181, rfl⟩
abbrev main_v100 : Ref sig .tc := ⟨.hbm, 182, rfl⟩
abbrev main_v101 : Ref sig .tc := ⟨.hbm, 183, rfl⟩
abbrev main_cst_28 : Ref sig .tc := ⟨.hbm, 184, rfl⟩
abbrev main_call6_v0 : Ref sig .tc := ⟨.hbm, 185, rfl⟩
abbrev main_call6_v1 : Ref sig .tc := ⟨.hbm, 186, rfl⟩
abbrev main_call6_v2 : Ref sig .tc := ⟨.hbm, 187, rfl⟩
abbrev main_v102 : Ref sig .tc := ⟨.hbm, 188, rfl⟩
abbrev main_v103 : Ref sig .tc := ⟨.hbm, 189, rfl⟩
abbrev main_c_29 : Ref sig .tc := ⟨.hbm, 190, rfl⟩
abbrev main_v104 : Ref sig .tc := ⟨.hbm, 191, rfl⟩
abbrev main_v105 : Ref sig .tc := ⟨.hbm, 192, rfl⟩
abbrev main_v106 : Ref sig .tc := ⟨.hbm, 193, rfl⟩
abbrev main_v107 : Ref sig .tc := ⟨.hbm, 194, rfl⟩
abbrev main_v108 : Ref sig .tc := ⟨.hbm, 195, rfl⟩
abbrev main_v109 : Ref sig .tc := ⟨.hbm, 196, rfl⟩
abbrev main_call7_v0 : Ref sig .tc := ⟨.hbm, 197, rfl⟩
abbrev main_v110 : Ref sig .tc := ⟨.hbm, 198, rfl⟩
abbrev main_cst_30 : Ref sig .tc := ⟨.hbm, 199, rfl⟩
abbrev main_call8_v0 : Ref sig .tc := ⟨.hbm, 200, rfl⟩
abbrev main_call8_v1 : Ref sig .tc := ⟨.hbm, 201, rfl⟩
abbrev main_call8_v2 : Ref sig .tc := ⟨.hbm, 202, rfl⟩
abbrev main_v111 : Ref sig .tc := ⟨.hbm, 203, rfl⟩
abbrev main_c_31 : Ref sig .tc := ⟨.hbm, 204, rfl⟩
abbrev main_call9_v0 : Ref sig .tc := ⟨.hbm, 205, rfl⟩
abbrev main_call9_c : Ref sig .tc := ⟨.hbm, 206, rfl⟩
abbrev main_call9_v1 : Ref sig .tc := ⟨.hbm, 207, rfl⟩
abbrev main_call9_c_0 : Ref sig .tc := ⟨.hbm, 208, rfl⟩
abbrev main_call9_v2 : Ref sig .tc := ⟨.hbm, 209, rfl⟩
abbrev main_call9_v3 : Ref sig .tc := ⟨.hbm, 210, rfl⟩
abbrev main_call9_v4 : Ref sig .tc := ⟨.hbm, 211, rfl⟩
abbrev main_call9_c_1 : Ref sig .tc := ⟨.hbm, 212, rfl⟩
abbrev main_call9_v5 : Ref sig .tc := ⟨.hbm, 213, rfl⟩
abbrev main_call9_v6 : Ref sig .tc := ⟨.hbm, 214, rfl⟩
abbrev main_call9_c_2 : Ref sig .tc := ⟨.hbm, 215, rfl⟩
abbrev main_call9_v7 : Ref sig .tc := ⟨.hbm, 216, rfl⟩
abbrev main_call9_v8 : Ref sig .tc := ⟨.hbm, 217, rfl⟩
abbrev main_call9_c_3 : Ref sig .tc := ⟨.hbm, 218, rfl⟩
abbrev main_call9_v9 : Ref sig .tc := ⟨.hbm, 219, rfl⟩
abbrev main_call9_v10 : Ref sig .tc := ⟨.hbm, 220, rfl⟩
abbrev main_call9_v11 : Ref sig .tc := ⟨.hbm, 221, rfl⟩
abbrev main_call9_v12 : Ref sig .tc := ⟨.hbm, 222, rfl⟩
abbrev main_call9_v13 : Ref sig .tc := ⟨.hbm, 223, rfl⟩
abbrev main_call9_v14 : Ref sig .tc := ⟨.hbm, 224, rfl⟩
abbrev main_v112 : Ref sig .tc := ⟨.hbm, 225, rfl⟩
abbrev main_c_32 : Ref sig .tc := ⟨.hbm, 226, rfl⟩
abbrev main_v113 : Ref sig .tc := ⟨.hbm, 227, rfl⟩
abbrev main_v114 : Ref sig .tc := ⟨.hbm, 228, rfl⟩
abbrev main_c_33 : Ref sig .tc := ⟨.hbm, 229, rfl⟩
abbrev main_call10_v0 : Ref sig .tc := ⟨.hbm, 230, rfl⟩
abbrev main_call10_c : Ref sig .tc := ⟨.hbm, 231, rfl⟩
abbrev main_call10_v1 : Ref sig .tc := ⟨.hbm, 232, rfl⟩
abbrev main_call10_c_0 : Ref sig .tc := ⟨.hbm, 233, rfl⟩
abbrev main_call10_v2 : Ref sig .tc := ⟨.hbm, 234, rfl⟩
abbrev main_call10_v3 : Ref sig .tc := ⟨.hbm, 235, rfl⟩
abbrev main_call10_v4 : Ref sig .tc := ⟨.hbm, 236, rfl⟩
abbrev main_call10_c_1 : Ref sig .tc := ⟨.hbm, 237, rfl⟩
abbrev main_call10_v5 : Ref sig .tc := ⟨.hbm, 238, rfl⟩
abbrev main_call10_v6 : Ref sig .tc := ⟨.hbm, 239, rfl⟩
abbrev main_call10_c_2 : Ref sig .tc := ⟨.hbm, 240, rfl⟩
abbrev main_call10_v7 : Ref sig .tc := ⟨.hbm, 241, rfl⟩
abbrev main_call10_v8 : Ref sig .tc := ⟨.hbm, 242, rfl⟩
abbrev main_call10_c_3 : Ref sig .tc := ⟨.hbm, 243, rfl⟩
abbrev main_call10_v9 : Ref sig .tc := ⟨.hbm, 244, rfl⟩
abbrev main_call10_v10 : Ref sig .tc := ⟨.hbm, 245, rfl⟩
abbrev main_call10_v11 : Ref sig .tc := ⟨.hbm, 246, rfl⟩
abbrev main_call10_v12 : Ref sig .tc := ⟨.hbm, 247, rfl⟩
abbrev main_call10_v13 : Ref sig .tc := ⟨.hbm, 248, rfl⟩
abbrev main_call10_v14 : Ref sig .tc := ⟨.hbm, 249, rfl⟩
abbrev main_v115 : Ref sig .tc := ⟨.hbm, 250, rfl⟩
abbrev main_c_34 : Ref sig .tc := ⟨.hbm, 251, rfl⟩
abbrev main_v116 : Ref sig .tc := ⟨.hbm, 252, rfl⟩
abbrev main_v117 : Ref sig .tc := ⟨.hbm, 253, rfl⟩
abbrev main_v118 : Ref sig .tc := ⟨.hbm, 254, rfl⟩
abbrev main_c_35 : Ref sig .tc := ⟨.hbm, 255, rfl⟩
abbrev main_call11_v0 : Ref sig .tc := ⟨.hbm, 256, rfl⟩
abbrev main_call11_c : Ref sig .tc := ⟨.hbm, 257, rfl⟩
abbrev main_call11_v1 : Ref sig .tc := ⟨.hbm, 258, rfl⟩
abbrev main_call11_c_0 : Ref sig .tc := ⟨.hbm, 259, rfl⟩
abbrev main_call11_v2 : Ref sig .tc := ⟨.hbm, 260, rfl⟩
abbrev main_call11_v3 : Ref sig .tc := ⟨.hbm, 261, rfl⟩
abbrev main_call11_v4 : Ref sig .tc := ⟨.hbm, 262, rfl⟩
abbrev main_call11_c_1 : Ref sig .tc := ⟨.hbm, 263, rfl⟩
abbrev main_call11_v5 : Ref sig .tc := ⟨.hbm, 264, rfl⟩
abbrev main_call11_v6 : Ref sig .tc := ⟨.hbm, 265, rfl⟩
abbrev main_call11_c_2 : Ref sig .tc := ⟨.hbm, 266, rfl⟩
abbrev main_call11_v7 : Ref sig .tc := ⟨.hbm, 267, rfl⟩
abbrev main_call11_v8 : Ref sig .tc := ⟨.hbm, 268, rfl⟩
abbrev main_call11_c_3 : Ref sig .tc := ⟨.hbm, 269, rfl⟩
abbrev main_call11_v9 : Ref sig .tc := ⟨.hbm, 270, rfl⟩
abbrev main_call11_v10 : Ref sig .tc := ⟨.hbm, 271, rfl⟩
abbrev main_call11_v11 : Ref sig .tc := ⟨.hbm, 272, rfl⟩
abbrev main_call11_v12 : Ref sig .tc := ⟨.hbm, 273, rfl⟩
abbrev main_call11_v13 : Ref sig .tc := ⟨.hbm, 274, rfl⟩
abbrev main_call11_v14 : Ref sig .tc := ⟨.hbm, 275, rfl⟩
abbrev main_v119 : Ref sig .tc := ⟨.hbm, 276, rfl⟩
abbrev main_v120 : Ref sig .tc := ⟨.hbm, 277, rfl⟩
abbrev main_cst_36 : Ref sig .tc := ⟨.hbm, 278, rfl⟩
abbrev main_v121 : Ref sig .tc := ⟨.hbm, 279, rfl⟩
abbrev main_v122 : Ref sig .tc := ⟨.hbm, 280, rfl⟩
abbrev main_cst_37 : Ref sig .tc := ⟨.hbm, 281, rfl⟩
abbrev main_v123 : Ref sig .tc := ⟨.hbm, 282, rfl⟩
abbrev main_v124 : Ref sig .tc := ⟨.hbm, 283, rfl⟩
abbrev main_cst_38 : Ref sig .tc := ⟨.hbm, 284, rfl⟩
abbrev main_v125 : Ref sig .tc := ⟨.hbm, 285, rfl⟩
abbrev main_v126 : Ref sig .tc := ⟨.hbm, 286, rfl⟩
abbrev main_cst_39 : Ref sig .tc := ⟨.hbm, 287, rfl⟩
abbrev main_v127 : Ref sig .tc := ⟨.hbm, 288, rfl⟩
abbrev main_v128 : Ref sig .tc := ⟨.hbm, 289, rfl⟩
abbrev main_v129 : Ref sig .tc := ⟨.hbm, 290, rfl⟩
abbrev main_v130 : Ref sig .tc := ⟨.hbm, 291, rfl⟩
abbrev main_v131 : Ref sig .tc := ⟨.hbm, 292, rfl⟩
abbrev main_v132 : Ref sig .tc := ⟨.hbm, 293, rfl⟩
abbrev main_v133 : Ref sig .tc := ⟨.hbm, 294, rfl⟩
abbrev main_v134 : Ref sig .tc := ⟨.hbm, 295, rfl⟩
abbrev main_cst_40 : Ref sig .tc := ⟨.hbm, 296, rfl⟩
abbrev main_call12_v0 : Ref sig .tc := ⟨.hbm, 297, rfl⟩
abbrev main_call12_v1 : Ref sig .tc := ⟨.hbm, 298, rfl⟩
abbrev main_call12_v2 : Ref sig .tc := ⟨.hbm, 299, rfl⟩
abbrev main_v135 : Ref sig .tc := ⟨.hbm, 300, rfl⟩
abbrev main_v136 : Ref sig .tc := ⟨.hbm, 301, rfl⟩
abbrev main_c_41 : Ref sig .tc := ⟨.hbm, 302, rfl⟩
abbrev main_v137 : Ref sig .tc := ⟨.hbm, 303, rfl⟩
abbrev main_v138 : Ref sig .tc := ⟨.hbm, 304, rfl⟩
abbrev main_v139 : Ref sig .tc := ⟨.hbm, 305, rfl⟩
abbrev main_v140 : Ref sig .tc := ⟨.hbm, 306, rfl⟩
abbrev main_v141 : Ref sig .tc := ⟨.hbm, 307, rfl⟩
abbrev main_v142 : Ref sig .tc := ⟨.hbm, 308, rfl⟩
abbrev main_call13_v0 : Ref sig .tc := ⟨.hbm, 309, rfl⟩
abbrev main_v143 : Ref sig .tc := ⟨.hbm, 310, rfl⟩
abbrev main_cst_42 : Ref sig .tc := ⟨.hbm, 311, rfl⟩
abbrev main_call14_v0 : Ref sig .tc := ⟨.hbm, 312, rfl⟩
abbrev main_call14_v1 : Ref sig .tc := ⟨.hbm, 313, rfl⟩
abbrev main_call14_v2 : Ref sig .tc := ⟨.hbm, 314, rfl⟩
abbrev main_v144 : Ref sig .tc := ⟨.hbm, 315, rfl⟩
abbrev main_c_43 : Ref sig .tc := ⟨.hbm, 316, rfl⟩
abbrev main_v145 : Ref sig .tc := ⟨.hbm, 317, rfl⟩
abbrev main_v146 : Ref sig .tc := ⟨.hbm, 318, rfl⟩
abbrev main_c_44 : Ref sig .tc := ⟨.hbm, 319, rfl⟩
abbrev main_call15_v0 : Ref sig .tc := ⟨.hbm, 320, rfl⟩
abbrev main_call15_c : Ref sig .tc := ⟨.hbm, 321, rfl⟩
abbrev main_call15_v1 : Ref sig .tc := ⟨.hbm, 322, rfl⟩
abbrev main_call15_c_0 : Ref sig .tc := ⟨.hbm, 323, rfl⟩
abbrev main_call15_v2 : Ref sig .tc := ⟨.hbm, 324, rfl⟩
abbrev main_call15_v3 : Ref sig .tc := ⟨.hbm, 325, rfl⟩
abbrev main_call15_v4 : Ref sig .tc := ⟨.hbm, 326, rfl⟩
abbrev main_call15_c_1 : Ref sig .tc := ⟨.hbm, 327, rfl⟩
abbrev main_call15_v5 : Ref sig .tc := ⟨.hbm, 328, rfl⟩
abbrev main_call15_v6 : Ref sig .tc := ⟨.hbm, 329, rfl⟩
abbrev main_call15_c_2 : Ref sig .tc := ⟨.hbm, 330, rfl⟩
abbrev main_call15_v7 : Ref sig .tc := ⟨.hbm, 331, rfl⟩
abbrev main_call15_v8 : Ref sig .tc := ⟨.hbm, 332, rfl⟩
abbrev main_call15_c_3 : Ref sig .tc := ⟨.hbm, 333, rfl⟩
abbrev main_call15_v9 : Ref sig .tc := ⟨.hbm, 334, rfl⟩
abbrev main_call15_v10 : Ref sig .tc := ⟨.hbm, 335, rfl⟩
abbrev main_call15_v11 : Ref sig .tc := ⟨.hbm, 336, rfl⟩
abbrev main_call15_v12 : Ref sig .tc := ⟨.hbm, 337, rfl⟩
abbrev main_call15_v13 : Ref sig .tc := ⟨.hbm, 338, rfl⟩
abbrev main_call15_v14 : Ref sig .tc := ⟨.hbm, 339, rfl⟩
abbrev main_v147 : Ref sig .tc := ⟨.hbm, 340, rfl⟩
abbrev main_c_45 : Ref sig .tc := ⟨.hbm, 341, rfl⟩
abbrev main_v148 : Ref sig .tc := ⟨.hbm, 342, rfl⟩
abbrev main_v149 : Ref sig .tc := ⟨.hbm, 343, rfl⟩
abbrev main_v150 : Ref sig .tc := ⟨.hbm, 344, rfl⟩
abbrev main_c_46 : Ref sig .tc := ⟨.hbm, 345, rfl⟩
abbrev main_call16_v0 : Ref sig .tc := ⟨.hbm, 346, rfl⟩
abbrev main_call16_c : Ref sig .tc := ⟨.hbm, 347, rfl⟩
abbrev main_call16_v1 : Ref sig .tc := ⟨.hbm, 348, rfl⟩
abbrev main_call16_c_0 : Ref sig .tc := ⟨.hbm, 349, rfl⟩
abbrev main_call16_v2 : Ref sig .tc := ⟨.hbm, 350, rfl⟩
abbrev main_call16_v3 : Ref sig .tc := ⟨.hbm, 351, rfl⟩
abbrev main_call16_v4 : Ref sig .tc := ⟨.hbm, 352, rfl⟩
abbrev main_call16_c_1 : Ref sig .tc := ⟨.hbm, 353, rfl⟩
abbrev main_call16_v5 : Ref sig .tc := ⟨.hbm, 354, rfl⟩
abbrev main_call16_v6 : Ref sig .tc := ⟨.hbm, 355, rfl⟩
abbrev main_call16_c_2 : Ref sig .tc := ⟨.hbm, 356, rfl⟩
abbrev main_call16_v7 : Ref sig .tc := ⟨.hbm, 357, rfl⟩
abbrev main_call16_v8 : Ref sig .tc := ⟨.hbm, 358, rfl⟩
abbrev main_call16_c_3 : Ref sig .tc := ⟨.hbm, 359, rfl⟩
abbrev main_call16_v9 : Ref sig .tc := ⟨.hbm, 360, rfl⟩
abbrev main_call16_v10 : Ref sig .tc := ⟨.hbm, 361, rfl⟩
abbrev main_call16_v11 : Ref sig .tc := ⟨.hbm, 362, rfl⟩
abbrev main_call16_v12 : Ref sig .tc := ⟨.hbm, 363, rfl⟩
abbrev main_call16_v13 : Ref sig .tc := ⟨.hbm, 364, rfl⟩
abbrev main_call16_v14 : Ref sig .tc := ⟨.hbm, 365, rfl⟩
abbrev main_v151 : Ref sig .tc := ⟨.hbm, 366, rfl⟩
abbrev main_v152 : Ref sig .tc := ⟨.hbm, 367, rfl⟩
abbrev main_cst_47 : Ref sig .tc := ⟨.hbm, 368, rfl⟩
abbrev main_v153 : Ref sig .tc := ⟨.hbm, 369, rfl⟩
abbrev main_v154 : Ref sig .tc := ⟨.hbm, 370, rfl⟩
abbrev main_cst_48 : Ref sig .tc := ⟨.hbm, 371, rfl⟩
abbrev main_v155 : Ref sig .tc := ⟨.hbm, 372, rfl⟩
abbrev main_v156 : Ref sig .tc := ⟨.hbm, 373, rfl⟩
abbrev main_cst_49 : Ref sig .tc := ⟨.hbm, 374, rfl⟩
abbrev main_v157 : Ref sig .tc := ⟨.hbm, 375, rfl⟩
abbrev main_v158 : Ref sig .tc := ⟨.hbm, 376, rfl⟩
abbrev main_cst_50 : Ref sig .tc := ⟨.hbm, 377, rfl⟩
abbrev main_v159 : Ref sig .tc := ⟨.hbm, 378, rfl⟩
abbrev main_v160 : Ref sig .tc := ⟨.hbm, 379, rfl⟩
abbrev main_v161 : Ref sig .tc := ⟨.hbm, 380, rfl⟩
abbrev main_v162 : Ref sig .tc := ⟨.hbm, 381, rfl⟩
abbrev main_v163 : Ref sig .tc := ⟨.hbm, 382, rfl⟩
abbrev main_v164 : Ref sig .tc := ⟨.hbm, 383, rfl⟩
abbrev main_v165 : Ref sig .tc := ⟨.hbm, 384, rfl⟩
abbrev main_v166 : Ref sig .tc := ⟨.hbm, 385, rfl⟩
abbrev main_cst_51 : Ref sig .tc := ⟨.hbm, 386, rfl⟩
abbrev main_call17_v0 : Ref sig .tc := ⟨.hbm, 387, rfl⟩
abbrev main_call17_v1 : Ref sig .tc := ⟨.hbm, 388, rfl⟩
abbrev main_call17_v2 : Ref sig .tc := ⟨.hbm, 389, rfl⟩
abbrev main_v167 : Ref sig .tc := ⟨.hbm, 390, rfl⟩
abbrev main_v168 : Ref sig .tc := ⟨.hbm, 391, rfl⟩
abbrev main_c_52 : Ref sig .tc := ⟨.hbm, 392, rfl⟩
abbrev main_v169 : Ref sig .tc := ⟨.hbm, 393, rfl⟩
abbrev main_v170 : Ref sig .tc := ⟨.hbm, 394, rfl⟩
abbrev main_v171 : Ref sig .tc := ⟨.hbm, 395, rfl⟩
abbrev main_v172 : Ref sig .tc := ⟨.hbm, 396, rfl⟩
abbrev main_v173 : Ref sig .tc := ⟨.hbm, 397, rfl⟩
abbrev main_v174 : Ref sig .tc := ⟨.hbm, 398, rfl⟩
abbrev main_call18_v0 : Ref sig .tc := ⟨.hbm, 399, rfl⟩
abbrev main_v175 : Ref sig .tc := ⟨.hbm, 400, rfl⟩
abbrev main_cst_53 : Ref sig .tc := ⟨.hbm, 401, rfl⟩
abbrev main_call19_v0 : Ref sig .tc := ⟨.hbm, 402, rfl⟩
abbrev main_call19_v1 : Ref sig .tc := ⟨.hbm, 403, rfl⟩
abbrev main_call19_v2 : Ref sig .tc := ⟨.hbm, 404, rfl⟩
abbrev main_v176 : Ref sig .tc := ⟨.hbm, 405, rfl⟩
abbrev main_c_54 : Ref sig .tc := ⟨.hbm, 406, rfl⟩
abbrev main_v177 : Ref sig .tc := ⟨.hbm, 407, rfl⟩
abbrev main_v178 : Ref sig .tc := ⟨.hbm, 408, rfl⟩
abbrev main_c_55 : Ref sig .tc := ⟨.hbm, 409, rfl⟩
abbrev main_call20_v0 : Ref sig .tc := ⟨.hbm, 410, rfl⟩
abbrev main_call20_c : Ref sig .tc := ⟨.hbm, 411, rfl⟩
abbrev main_call20_v1 : Ref sig .tc := ⟨.hbm, 412, rfl⟩
abbrev main_call20_c_0 : Ref sig .tc := ⟨.hbm, 413, rfl⟩
abbrev main_call20_v2 : Ref sig .tc := ⟨.hbm, 414, rfl⟩
abbrev main_call20_v3 : Ref sig .tc := ⟨.hbm, 415, rfl⟩
abbrev main_call20_v4 : Ref sig .tc := ⟨.hbm, 416, rfl⟩
abbrev main_call20_c_1 : Ref sig .tc := ⟨.hbm, 417, rfl⟩
abbrev main_call20_v5 : Ref sig .tc := ⟨.hbm, 418, rfl⟩
abbrev main_call20_v6 : Ref sig .tc := ⟨.hbm, 419, rfl⟩
abbrev main_call20_c_2 : Ref sig .tc := ⟨.hbm, 420, rfl⟩
abbrev main_call20_v7 : Ref sig .tc := ⟨.hbm, 421, rfl⟩
abbrev main_call20_v8 : Ref sig .tc := ⟨.hbm, 422, rfl⟩
abbrev main_call20_c_3 : Ref sig .tc := ⟨.hbm, 423, rfl⟩
abbrev main_call20_v9 : Ref sig .tc := ⟨.hbm, 424, rfl⟩
abbrev main_call20_v10 : Ref sig .tc := ⟨.hbm, 425, rfl⟩
abbrev main_call20_v11 : Ref sig .tc := ⟨.hbm, 426, rfl⟩
abbrev main_call20_v12 : Ref sig .tc := ⟨.hbm, 427, rfl⟩
abbrev main_call20_v13 : Ref sig .tc := ⟨.hbm, 428, rfl⟩
abbrev main_call20_v14 : Ref sig .tc := ⟨.hbm, 429, rfl⟩
abbrev main_v179 : Ref sig .tc := ⟨.hbm, 430, rfl⟩
abbrev main_c_56 : Ref sig .tc := ⟨.hbm, 431, rfl⟩
abbrev main_v180 : Ref sig .tc := ⟨.hbm, 432, rfl⟩
abbrev main_v181 : Ref sig .tc := ⟨.hbm, 433, rfl⟩
abbrev main_v182 : Ref sig .tc := ⟨.hbm, 434, rfl⟩
abbrev main_c_57 : Ref sig .tc := ⟨.hbm, 435, rfl⟩
abbrev main_call21_v0 : Ref sig .tc := ⟨.hbm, 436, rfl⟩
abbrev main_call21_c : Ref sig .tc := ⟨.hbm, 437, rfl⟩
abbrev main_call21_v1 : Ref sig .tc := ⟨.hbm, 438, rfl⟩
abbrev main_call21_c_0 : Ref sig .tc := ⟨.hbm, 439, rfl⟩
abbrev main_call21_v2 : Ref sig .tc := ⟨.hbm, 440, rfl⟩
abbrev main_call21_v3 : Ref sig .tc := ⟨.hbm, 441, rfl⟩
abbrev main_call21_v4 : Ref sig .tc := ⟨.hbm, 442, rfl⟩
abbrev main_call21_c_1 : Ref sig .tc := ⟨.hbm, 443, rfl⟩
abbrev main_call21_v5 : Ref sig .tc := ⟨.hbm, 444, rfl⟩
abbrev main_call21_v6 : Ref sig .tc := ⟨.hbm, 445, rfl⟩
abbrev main_call21_c_2 : Ref sig .tc := ⟨.hbm, 446, rfl⟩
abbrev main_call21_v7 : Ref sig .tc := ⟨.hbm, 447, rfl⟩
abbrev main_call21_v8 : Ref sig .tc := ⟨.hbm, 448, rfl⟩
abbrev main_call21_c_3 : Ref sig .tc := ⟨.hbm, 449, rfl⟩
abbrev main_call21_v9 : Ref sig .tc := ⟨.hbm, 450, rfl⟩
abbrev main_call21_v10 : Ref sig .tc := ⟨.hbm, 451, rfl⟩
abbrev main_call21_v11 : Ref sig .tc := ⟨.hbm, 452, rfl⟩
abbrev main_call21_v12 : Ref sig .tc := ⟨.hbm, 453, rfl⟩
abbrev main_call21_v13 : Ref sig .tc := ⟨.hbm, 454, rfl⟩
abbrev main_call21_v14 : Ref sig .tc := ⟨.hbm, 455, rfl⟩
abbrev main_v183 : Ref sig .tc := ⟨.hbm, 456, rfl⟩
abbrev main_v184 : Ref sig .tc := ⟨.hbm, 457, rfl⟩
abbrev main_cst_58 : Ref sig .tc := ⟨.hbm, 458, rfl⟩
abbrev main_v185 : Ref sig .tc := ⟨.hbm, 459, rfl⟩
abbrev main_v186 : Ref sig .tc := ⟨.hbm, 460, rfl⟩
abbrev main_cst_59 : Ref sig .tc := ⟨.hbm, 461, rfl⟩
abbrev main_v187 : Ref sig .tc := ⟨.hbm, 462, rfl⟩
abbrev main_v188 : Ref sig .tc := ⟨.hbm, 463, rfl⟩
abbrev main_cst_60 : Ref sig .tc := ⟨.hbm, 464, rfl⟩
abbrev main_v189 : Ref sig .tc := ⟨.hbm, 465, rfl⟩
abbrev main_v190 : Ref sig .tc := ⟨.hbm, 466, rfl⟩
abbrev main_cst_61 : Ref sig .tc := ⟨.hbm, 467, rfl⟩
abbrev main_v191 : Ref sig .tc := ⟨.hbm, 468, rfl⟩
abbrev main_v192 : Ref sig .tc := ⟨.hbm, 469, rfl⟩
abbrev main_v193 : Ref sig .tc := ⟨.hbm, 470, rfl⟩
abbrev main_v194 : Ref sig .tc := ⟨.hbm, 471, rfl⟩
abbrev main_v195 : Ref sig .tc := ⟨.hbm, 472, rfl⟩
abbrev main_v196 : Ref sig .tc := ⟨.hbm, 473, rfl⟩
abbrev main_v197 : Ref sig .tc := ⟨.hbm, 474, rfl⟩
abbrev main_v198 : Ref sig .tc := ⟨.hbm, 475, rfl⟩
abbrev main_cst_62 : Ref sig .tc := ⟨.hbm, 476, rfl⟩
abbrev main_call22_v0 : Ref sig .tc := ⟨.hbm, 477, rfl⟩
abbrev main_call22_v1 : Ref sig .tc := ⟨.hbm, 478, rfl⟩
abbrev main_call22_v2 : Ref sig .tc := ⟨.hbm, 479, rfl⟩
abbrev main_v199 : Ref sig .tc := ⟨.hbm, 480, rfl⟩
abbrev main_v200 : Ref sig .tc := ⟨.hbm, 481, rfl⟩
abbrev main_c_63 : Ref sig .tc := ⟨.hbm, 482, rfl⟩
abbrev main_v201 : Ref sig .tc := ⟨.hbm, 483, rfl⟩
abbrev main_v202 : Ref sig .tc := ⟨.hbm, 484, rfl⟩
abbrev main_v203 : Ref sig .tc := ⟨.hbm, 485, rfl⟩
abbrev main_v204 : Ref sig .tc := ⟨.hbm, 486, rfl⟩
abbrev main_v205 : Ref sig .tc := ⟨.hbm, 487, rfl⟩
abbrev main_v206 : Ref sig .tc := ⟨.hbm, 488, rfl⟩
abbrev main_call23_v0 : Ref sig .tc := ⟨.hbm, 489, rfl⟩
abbrev main_v207 : Ref sig .tc := ⟨.hbm, 490, rfl⟩
abbrev main_cst_64 : Ref sig .tc := ⟨.hbm, 491, rfl⟩
abbrev main_call24_v0 : Ref sig .tc := ⟨.hbm, 492, rfl⟩
abbrev main_call24_v1 : Ref sig .tc := ⟨.hbm, 493, rfl⟩
abbrev main_call24_v2 : Ref sig .tc := ⟨.hbm, 494, rfl⟩
abbrev main_v208 : Ref sig .tc := ⟨.hbm, 495, rfl⟩
abbrev main_v209 : Ref sig .tc := ⟨.hbm, 496, rfl⟩
abbrev main_v210 : Ref sig .tc := ⟨.hbm, 497, rfl⟩
abbrev main_v211 : Ref sig .tc := ⟨.hbm, 498, rfl⟩
abbrev main_v212 : Ref sig .tc := ⟨.hbm, 499, rfl⟩
abbrev main_v213 : Ref sig .tc := ⟨.hbm, 500, rfl⟩
abbrev main_v214 : Ref sig .tc := ⟨.hbm, 501, rfl⟩
abbrev main_v215 : Ref sig .tc := ⟨.hbm, 502, rfl⟩
abbrev main_v216 : Ref sig .tc := ⟨.hbm, 503, rfl⟩
abbrev main_v217 : Ref sig .tc := ⟨.hbm, 504, rfl⟩
abbrev main_v218_0 : Ref sig .tc := ⟨.hbm, 505, rfl⟩
abbrev main_v218_1 : Ref sig .tc := ⟨.hbm, 506, rfl⟩
abbrev main_v218_2 : Ref sig .tc := ⟨.hbm, 507, rfl⟩
abbrev main_v218_3 : Ref sig .tc := ⟨.hbm, 508, rfl⟩
abbrev main_v218_4 : Ref sig .tc := ⟨.hbm, 509, rfl⟩
abbrev main_v218_5 : Ref sig .tc := ⟨.hbm, 510, rfl⟩
abbrev main_v218_6 : Ref sig .tc := ⟨.hbm, 511, rfl⟩
abbrev main_v218_7 : Ref sig .tc := ⟨.hbm, 512, rfl⟩
abbrev main_v218_8 : Ref sig .tc := ⟨.hbm, 513, rfl⟩
abbrev main_v218_9 : Ref sig .tc := ⟨.hbm, 514, rfl⟩
abbrev main_v218_10 : Ref sig .tc := ⟨.hbm, 515, rfl⟩
abbrev main_v218_11 : Ref sig .tc := ⟨.hbm, 516, rfl⟩
abbrev main_v218_12 : Ref sig .tc := ⟨.hbm, 517, rfl⟩
abbrev main_v218_13 : Ref sig .tc := ⟨.hbm, 518, rfl⟩
abbrev main_v218_14 : Ref sig .tc := ⟨.hbm, 519, rfl⟩
abbrev main_v218_15 : Ref sig .tc := ⟨.hbm, 520, rfl⟩
abbrev main_v218_16 : Ref sig .tc := ⟨.hbm, 521, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_stg20_0 : Ref sig .tc := ⟨.vmem, 34, rfl⟩
abbrev cc0_stg20_1 : Ref sig .tc := ⟨.vmem, 35, rfl⟩
abbrev cc0_stg21_0 : Ref sig .tc := ⟨.vmem, 36, rfl⟩
abbrev cc0_stg21_1 : Ref sig .tc := ⟨.vmem, 37, rfl⟩
abbrev cc0_stg22_0 : Ref sig .tc := ⟨.vmem, 38, rfl⟩
abbrev cc0_stg22_1 : Ref sig .tc := ⟨.vmem, 39, rfl⟩
abbrev cc0_stg23_0 : Ref sig .tc := ⟨.vmem, 40, rfl⟩
abbrev cc0_stg23_1 : Ref sig .tc := ⟨.vmem, 41, rfl⟩
abbrev cc0_stg24_0 : Ref sig .tc := ⟨.vmem, 42, rfl⟩
abbrev cc0_stg24_1 : Ref sig .tc := ⟨.vmem, 43, rfl⟩
abbrev cc0_stg25_0 : Ref sig .tc := ⟨.vmem, 44, rfl⟩
abbrev cc0_stg25_1 : Ref sig .tc := ⟨.vmem, 45, rfl⟩
abbrev cc0_stg26_0 : Ref sig .tc := ⟨.vmem, 46, rfl⟩
abbrev cc0_stg26_1 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32
abbrev cc0_sem19_1 : DmaSem sig := 33
abbrev cc0_sem20_0 : DmaSem sig := 34
abbrev cc0_sem20_1 : DmaSem sig := 35
abbrev cc0_sem21_0 : DmaSem sig := 36
abbrev cc0_sem21_1 : DmaSem sig := 37
abbrev cc0_sem22_0 : DmaSem sig := 38
abbrev cc0_sem22_1 : DmaSem sig := 39
abbrev cc0_sem23_0 : DmaSem sig := 40
abbrev cc0_sem23_1 : DmaSem sig := 41
abbrev cc0_sem24_0 : DmaSem sig := 42
abbrev cc0_sem24_1 : DmaSem sig := 43
abbrev cc0_sem25_0 : DmaSem sig := 44
abbrev cc0_sem25_1 : DmaSem sig := 45
abbrev cc0_sem26_0 : DmaSem sig := 46
abbrev cc0_sem26_1 : DmaSem sig := 47

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_23 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_24 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_25 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_26 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1024x5248 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x384 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S384x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x256x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x256x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x256x32 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x256x256 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x256x256 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x256x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x256x512 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x256x128 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x256x3072 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]

abbrev stage0_24 : Fin 2 → Memref sig .tc .vmem S1x256x256 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]

abbrev stage0_25 : Fin 2 → Memref sig .tc .vmem S1x128x256 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true, true]

abbrev stage0_26 : Fin 2 → Memref sig .tc .vmem S1x256x256 .bf16 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true, true]
-- ==== Reference3Ideal.lean ====
abbrev S16x2048x1024 : Shape := ⟨3, ![16, 2048, 1024]⟩
abbrev S16x3072 : Shape := ⟨2, ![16, 3072]⟩
abbrev S1024x4912 : Shape := ⟨2, ![1024, 4912]⟩
abbrev S256 : Shape := ⟨1, ![256]⟩
abbrev S256x384 : Shape := ⟨2, ![256, 384]⟩
abbrev S128 : Shape := ⟨1, ![128]⟩
abbrev S128x4x64 : Shape := ⟨3, ![128, 4, 64]⟩
abbrev S4 : Shape := ⟨1, ![4]⟩
abbrev S2048 : Shape := ⟨1, ![2048]⟩
abbrev S16x1024 : Shape := ⟨2, ![16, 1024]⟩
abbrev S16x1x1024 : Shape := ⟨3, ![16, 1, 1024]⟩
abbrev S_ : Shape := ⟨0, ![]⟩
abbrev S16x2048x4912 : Shape := ⟨3, ![16, 2048, 4912]⟩
abbrev S16x2048x256 : Shape := ⟨3, ![16, 2048, 256]⟩
abbrev S16x2048x384 : Shape := ⟨3, ![16, 2048, 384]⟩
abbrev S16x2048x12 : Shape := ⟨3, ![16, 2048, 12]⟩
abbrev S16x2048x160 : Shape := ⟨3, ![16, 2048, 160]⟩
abbrev S16x2048x768 : Shape := ⟨3, ![16, 2048, 768]⟩
abbrev S16x2048x4 : Shape := ⟨3, ![16, 2048, 4]⟩
abbrev S16x2048x3072 : Shape := ⟨3, ![16, 2048, 3072]⟩
abbrev S16x2048x6x64 : Shape := ⟨4, ![16, 2048, 6, 64]⟩
abbrev S16x2048x1x64 : Shape := ⟨4, ![16, 2048, 1, 64]⟩
abbrev S8 : Shape := ⟨1, ![8]⟩
abbrev S2048x1 : Shape := ⟨2, ![2048, 1]⟩
abbrev S1x8 : Shape := ⟨2, ![1, 8]⟩
abbrev S2048x8 : Shape := ⟨2, ![2048, 8]⟩
abbrev S1x2048x1x8 : Shape := ⟨4, ![1, 2048, 1, 8]⟩
abbrev S16x2048x1x8 : Shape := ⟨4, ![16, 2048, 1, 8]⟩
abbrev S16x2048x1x48 : Shape := ⟨4, ![16, 2048, 1, 48]⟩
abbrev S16x2048x4x64 : Shape := ⟨4, ![16, 2048, 4, 64]⟩
abbrev S16x2048x2x64 : Shape := ⟨4, ![16, 2048, 2, 64]⟩
abbrev S16x2048x128 : Shape := ⟨3, ![16, 2048, 128]⟩
abbrev S16x2048 : Shape := ⟨2, ![16, 2048]⟩
abbrev S16x2048x1 : Shape := ⟨3, ![16, 2048, 1]⟩
abbrev S1x1x128 : Shape := ⟨3, ![1, 1, 128]⟩
abbrev S16x2048x32 : Shape := ⟨3, ![16, 2048, 32]⟩
abbrev S16x2048x1x32 : Shape := ⟨4, ![16, 2048, 1, 32]⟩
abbrev S16 : Shape := ⟨1, ![16]⟩
abbrev S1x16 : Shape := ⟨2, ![1, 16]⟩
abbrev S2048x16 : Shape := ⟨2, ![2048, 16]⟩
abbrev S1x2048x1x16 : Shape := ⟨4, ![1, 2048, 1, 16]⟩
abbrev S16x2048x1x16 : Shape := ⟨4, ![16, 2048, 1, 16]⟩
abbrev S16x2048x1x0 : Shape := ⟨4, ![16, 2048, 1, 0]⟩
abbrev S16x2048x3x4x64 : Shape := ⟨5, ![16, 2048, 3, 4, 64]⟩
abbrev S16x2048x1x4x64 : Shape := ⟨5, ![16, 2048, 1, 4, 64]⟩
abbrev S16x2048x2x4x64 : Shape := ⟨5, ![16, 2048, 2, 4, 64]⟩
abbrev S16x2048x512 : Shape := ⟨3, ![16, 2048, 512]⟩

abbrev nBuf : Space → Nat
  | .hbm => 224
  | .vmem => 0
  | .smem => 0
  | _ => 0

abbrev hbmTy0_0 (i : Nat) : BufTy := match i % 128 with
  | 0 => ⟨S16x2048x1024, .f32⟩
  | 1 => ⟨S16x3072, .f32⟩
  | 2 => ⟨S1024x4912, .f32⟩
  | 3 => ⟨S256, .f32⟩
  | 4 => ⟨S256x384, .f32⟩
  | 5 => ⟨S128, .f32⟩
  | 6 => ⟨S128x4x64, .f32⟩
  | 7 => ⟨S4, .f32⟩
  | 8 => ⟨S2048, .i32⟩
  | 9 => ⟨S16x1024, .f32⟩
  | 10 => ⟨S16x1024, .f32⟩
  | 11 => ⟨S16x1024, .f32⟩
  | 12 => ⟨S16x1x1024, .f32⟩
  | 13 => ⟨S_, .f32⟩
  | 14 => ⟨S16x1x1024, .f32⟩
  | 15 => ⟨S16x1x1024, .f32⟩
  | 16 => ⟨S16x2048x1024, .f32⟩
  | 17 => ⟨S16x2048x1024, .f32⟩
  | 18 => ⟨S16x1x1024, .f32⟩
  | 19 => ⟨S16x2048x1024, .f32⟩
  | 20 => ⟨S16x2048x1024, .f32⟩
  | 21 => ⟨S16x2048x4912, .f32⟩
  | 22 => ⟨S16x2048x256, .f32⟩
  | 23 => ⟨S16x2048x384, .f32⟩
  | 24 => ⟨S16x2048x12, .f32⟩
  | 25 => ⟨S16x2048x256, .f32⟩
  | 26 => ⟨S16x2048x160, .f32⟩
  | 27 => ⟨S16x2048x768, .f32⟩
  | 28 => ⟨S16x2048x4, .f32⟩
  | 29 => ⟨S16x2048x3072, .f32⟩
  | 30 => ⟨S16x2048x6x64, .f32⟩
  | 31 => ⟨S16x2048x1x64, .f32⟩
  | 32 => ⟨S16x2048x1x64, .f32⟩
  | 33 => ⟨S16x2048x1x64, .f32⟩
  | 34 => ⟨S16x2048x1x64, .f32⟩
  | 35 => ⟨S16x2048x1x64, .f32⟩
  | 36 => ⟨S16x2048x1x64, .f32⟩
  | 37 => ⟨S8, .f32⟩
  | 38 => ⟨S_, .f32⟩
  | 39 => ⟨S8, .f32⟩
  | 40 => ⟨S8, .f32⟩
  | 41 => ⟨S_, .f32⟩
  | 42 => ⟨S8, .f32⟩
  | 43 => ⟨S8, .f32⟩
  | 44 => ⟨S_, .f32⟩
  | 45 => ⟨S8, .f32⟩
  | 46 => ⟨S8, .f32⟩
  | 47 => ⟨S_, .f32⟩
  | 48 => ⟨S8, .f32⟩
  | 49 => ⟨S8, .f32⟩
  | 50 => ⟨S2048, .f32⟩
  | 51 => ⟨S2048x1, .f32⟩
  | 52 => ⟨S1x8, .f32⟩
  | 53 => ⟨S2048x8, .f32⟩
  | 54 => ⟨S2048x8, .f32⟩
  | 55 => ⟨S2048x8, .f32⟩
  | 56 => ⟨S2048x8, .f32⟩
  | 57 => ⟨S1x2048x1x8, .f32⟩
  | 58 => ⟨S2048x8, .f32⟩
  | 59 => ⟨S1x2048x1x8, .f32⟩
  | 60 => ⟨S16x2048x1x8, .f32⟩
  | 61 => ⟨S16x2048x1x8, .f32⟩
  | 62 => ⟨S16x2048x1x48, .f32⟩
  | 63 => ⟨S16x2048x1x8, .f32⟩
  | 64 => ⟨S16x2048x1x8, .f32⟩
  | 65 => ⟨S16x2048x1x8, .f32⟩
  | 66 => ⟨S16x2048x1x8, .f32⟩
  | 67 => ⟨S16x2048x1x8, .f32⟩
  | 68 => ⟨S16x2048x1x8, .f32⟩
  | 69 => ⟨S16x2048x1x8, .f32⟩
  | 70 => ⟨S16x2048x1x8, .f32⟩
  | 71 => ⟨S16x2048x1x8, .f32⟩
  | 72 => ⟨S16x2048x1x8, .f32⟩
  | 73 => ⟨S16x2048x1x64, .f32⟩
  | 74 => ⟨S8, .f32⟩
  | 75 => ⟨S_, .f32⟩
  | 76 => ⟨S8, .f32⟩
  | 77 => ⟨S8, .f32⟩
  | 78 => ⟨S_, .f32⟩
  | 79 => ⟨S8, .f32⟩
  | 80 => ⟨S8, .f32⟩
  | 81 => ⟨S_, .f32⟩
  | 82 => ⟨S8, .f32⟩
  | 83 => ⟨S8, .f32⟩
  | 84 => ⟨S_, .f32⟩
  | 85 => ⟨S8, .f32⟩
  | 86 => ⟨S8, .f32⟩
  | 87 => ⟨S2048, .f32⟩
  | 88 => ⟨S2048x1, .f32⟩
  | 89 => ⟨S1x8, .f32⟩
  | 90 => ⟨S2048x8, .f32⟩
  | 91 => ⟨S2048x8, .f32⟩
  | 92 => ⟨S2048x8, .f32⟩
  | 93 => ⟨S2048x8, .f32⟩
  | 94 => ⟨S1x2048x1x8, .f32⟩
  | 95 => ⟨S2048x8, .f32⟩
  | 96 => ⟨S1x2048x1x8, .f32⟩
  | 97 => ⟨S16x2048x1x8, .f32⟩
  | 98 => ⟨S16x2048x1x8, .f32⟩
  | 99 => ⟨S16x2048x1x48, .f32⟩
  | 100 => ⟨S16x2048x1x8, .f32⟩
  | 101 => ⟨S16x2048x1x8, .f32⟩
  | 102 => ⟨S16x2048x1x8, .f32⟩
  | 103 => ⟨S16x2048x1x8, .f32⟩
  | 104 => ⟨S16x2048x1x8, .f32⟩
  | 105 => ⟨S16x2048x1x8, .f32⟩
  | 106 => ⟨S16x2048x1x8, .f32⟩
  | 107 => ⟨S16x2048x1x8, .f32⟩
  | 108 => ⟨S16x2048x1x8, .f32⟩
  | 109 => ⟨S16x2048x1x8, .f32⟩
  | 110 => ⟨S16x2048x1x64, .f32⟩
  | 111 => ⟨S8, .f32⟩
  | 112 => ⟨S_, .f32⟩
  | 113 => ⟨S8, .f32⟩
  | 114 => ⟨S8, .f32⟩
  | 115 => ⟨S_, .f32⟩
  | 116 => ⟨S8, .f32⟩
  | 117 => ⟨S8, .f32⟩
  | 118 => ⟨S_, .f32⟩
  | 119 => ⟨S8, .f32⟩
  | 120 => ⟨S8, .f32⟩
  | 121 => ⟨S_, .f32⟩
  | 122 => ⟨S8, .f32⟩
  | 123 => ⟨S8, .f32⟩
  | 124 => ⟨S2048, .f32⟩
  | 125 => ⟨S2048x1, .f32⟩
  | 126 => ⟨S1x8, .f32⟩
  | 127 => ⟨S2048x8, .f32⟩
  | _ => ⟨S16x2048x1024, .f32⟩

abbrev hbmTy0_1 (i : Nat) : BufTy := match i % 128 with
  | 0 => ⟨S2048x8, .f32⟩
  | 1 => ⟨S2048x8, .f32⟩
  | 2 => ⟨S2048x8, .f32⟩
  | 3 => ⟨S1x2048x1x8, .f32⟩
  | 4 => ⟨S2048x8, .f32⟩
  | 5 => ⟨S1x2048x1x8, .f32⟩
  | 6 => ⟨S16x2048x1x8, .f32⟩
  | 7 => ⟨S16x2048x1x8, .f32⟩
  | 8 => ⟨S16x2048x1x48, .f32⟩
  | 9 => ⟨S16x2048x1x8, .f32⟩
  | 10 => ⟨S16x2048x1x8, .f32⟩
  | 11 => ⟨S16x2048x1x8, .f32⟩
  | 12 => ⟨S16x2048x1x8, .f32⟩
  | 13 => ⟨S16x2048x1x8, .f32⟩
  | 14 => ⟨S16x2048x1x8, .f32⟩
  | 15 => ⟨S16x2048x1x8, .f32⟩
  | 16 => ⟨S16x2048x1x8, .f32⟩
  | 17 => ⟨S16x2048x1x8, .f32⟩
  | 18 => ⟨S16x2048x1x8, .f32⟩
  | 19 => ⟨S16x2048x1x64, .f32⟩
  | 20 => ⟨S16x2048x4x64, .f32⟩
  | 21 => ⟨S16x2048x2x64, .f32⟩
  | 22 => ⟨S16x2048x128, .f32⟩
  | 23 => ⟨S16x2048x128, .f32⟩
  | 24 => ⟨S_, .f32⟩
  | 25 => ⟨S16x2048, .f32⟩
  | 26 => ⟨S16x2048x1, .f32⟩
  | 27 => ⟨S_, .f32⟩
  | 28 => ⟨S16x2048x1, .f32⟩
  | 29 => ⟨S16x2048x1, .f32⟩
  | 30 => ⟨S_, .f32⟩
  | 31 => ⟨S16x2048x1, .f32⟩
  | 32 => ⟨S16x2048x1, .f32⟩
  | 33 => ⟨S16x2048x1, .f32⟩
  | 34 => ⟨S16x2048x128, .f32⟩
  | 35 => ⟨S16x2048x128, .f32⟩
  | 36 => ⟨S1x1x128, .f32⟩
  | 37 => ⟨S16x2048x128, .f32⟩
  | 38 => ⟨S16x2048x128, .f32⟩
  | 39 => ⟨S16x2048x32, .f32⟩
  | 40 => ⟨S16x2048x1x32, .f32⟩
  | 41 => ⟨S16, .f32⟩
  | 42 => ⟨S_, .f32⟩
  | 43 => ⟨S16, .f32⟩
  | 44 => ⟨S16, .f32⟩
  | 45 => ⟨S_, .f32⟩
  | 46 => ⟨S16, .f32⟩
  | 47 => ⟨S16, .f32⟩
  | 48 => ⟨S_, .f32⟩
  | 49 => ⟨S16, .f32⟩
  | 50 => ⟨S16, .f32⟩
  | 51 => ⟨S_, .f32⟩
  | 52 => ⟨S16, .f32⟩
  | 53 => ⟨S16, .f32⟩
  | 54 => ⟨S2048, .f32⟩
  | 55 => ⟨S2048x1, .f32⟩
  | 56 => ⟨S1x16, .f32⟩
  | 57 => ⟨S2048x16, .f32⟩
  | 58 => ⟨S2048x16, .f32⟩
  | 59 => ⟨S2048x16, .f32⟩
  | 60 => ⟨S2048x16, .f32⟩
  | 61 => ⟨S1x2048x1x16, .f32⟩
  | 62 => ⟨S2048x16, .f32⟩
  | 63 => ⟨S1x2048x1x16, .f32⟩
  | 64 => ⟨S16x2048x1x16, .f32⟩
  | 65 => ⟨S16x2048x1x16, .f32⟩
  | 66 => ⟨S16x2048x1x0, .f32⟩
  | 67 => ⟨S16x2048x1x16, .f32⟩
  | 68 => ⟨S16x2048x1x16, .f32⟩
  | 69 => ⟨S16x2048x1x16, .f32⟩
  | 70 => ⟨S16x2048x1x16, .f32⟩
  | 71 => ⟨S16x2048x1x16, .f32⟩
  | 72 => ⟨S16x2048x1x16, .f32⟩
  | 73 => ⟨S16x2048x1x16, .f32⟩
  | 74 => ⟨S16x2048x1x16, .f32⟩
  | 75 => ⟨S16x2048x1x16, .f32⟩
  | 76 => ⟨S16x2048x1x16, .f32⟩
  | 77 => ⟨S16x2048x1x32, .f32⟩
  | 78 => ⟨S16x2048x32, .f32⟩
  | 79 => ⟨S16x2048x3x4x64, .f32⟩
  | 80 => ⟨S16x2048x1x4x64, .f32⟩
  | 81 => ⟨S16x2048x1x4x64, .f32⟩
  | 82 => ⟨S16x2048x1x4x64, .f32⟩
  | 83 => ⟨S16x2048x2x4x64, .f32⟩
  | 84 => ⟨S16x2048x256, .f32⟩
  | 85 => ⟨S16x2048x128, .f32⟩
  | 86 => ⟨S16x2048x512, .f32⟩
  | 87 => ⟨S16x2048x3072, .f32⟩
  | 88 => ⟨S16x2048x3072, .f32⟩
  | 89 => ⟨S_, .f32⟩
  | 90 => ⟨S16x2048x3072, .f32⟩
  | 91 => ⟨S16x2048x3072, .f32⟩
  | 92 => ⟨S_, .f32⟩
  | 93 => ⟨S16x2048x3072, .f32⟩
  | 94 => ⟨S16x2048x3072, .f32⟩
  | 95 => ⟨S16x2048x3072, .bf16⟩
  | _ => ⟨S16x2048x1024, .f32⟩

abbrev hbmTy (i : Nat) : BufTy := match i / 128 with
  | 0 => hbmTy0_0 i
  | 1 => hbmTy0_1 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_0 : Ref sig .tc := ⟨.hbm, 38, rfl⟩
abbrev main_v29 : Ref sig .tc := ⟨.hbm, 39, rfl⟩
abbrev main_v30 : Ref sig .tc := ⟨.hbm, 40, rfl⟩
abbrev main_cst_1 : Ref sig .tc := ⟨.hbm, 41, rfl⟩
abbrev main_v31 : Ref sig .tc := ⟨.hbm, 42, rfl⟩
abbrev main_v32 : Ref sig .tc := ⟨.hbm, 43, rfl⟩
abbrev main_cst_2 : Ref sig .tc := ⟨.hbm, 44, rfl⟩
abbrev main_v33 : Ref sig .tc := ⟨.hbm, 45, rfl⟩
abbrev main_v34 : Ref sig .tc := ⟨.hbm, 46, rfl⟩
abbrev main_cst_3 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_cst_4 : Ref sig .tc := ⟨.hbm, 75, rfl⟩
abbrev main_v62 : Ref sig .tc := ⟨.hbm, 76, rfl⟩
abbrev main_v63 : Ref sig .tc := ⟨.hbm, 77, rfl⟩
abbrev main_cst_5 : Ref sig .tc := ⟨.hbm, 78, rfl⟩
abbrev main_v64 : Ref sig .tc := ⟨.hbm, 79, rfl⟩
abbrev main_v65 : Ref sig .tc := ⟨.hbm, 80, rfl⟩
abbrev main_cst_6 : Ref sig .tc := ⟨.hbm, 81, rfl⟩
abbrev main_v66 : Ref sig .tc := ⟨.hbm, 82, rfl⟩
abbrev main_v67 : Ref sig .tc := ⟨.hbm, 83, rfl⟩
abbrev main_cst_7 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_cst_8 : Ref sig .tc := ⟨.hbm, 112, rfl⟩
abbrev main_v95 : Ref sig .tc := ⟨.hbm, 113, rfl⟩
abbrev main_v96 : Ref sig .tc := ⟨.hbm, 114, rfl⟩
abbrev main_cst_9 : Ref sig .tc := ⟨.hbm, 115, rfl⟩
abbrev main_v97 : Ref sig .tc := ⟨.hbm, 116, rfl⟩
abbrev main_v98 : Ref sig .tc := ⟨.hbm, 117, rfl⟩
abbrev main_cst_10 : Ref sig .tc := ⟨.hbm, 118, rfl⟩
abbrev main_v99 : Ref sig .tc := ⟨.hbm, 119, rfl⟩
abbrev main_v100 : Ref sig .tc := ⟨.hbm, 120, rfl⟩
abbrev main_cst_11 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_cst_12 : Ref sig .tc := ⟨.hbm, 152, rfl⟩
abbrev main_v131 : Ref sig .tc := ⟨.hbm, 153, rfl⟩
abbrev main_v132 : Ref sig .tc := ⟨.hbm, 154, rfl⟩
abbrev main_cst_13 : Ref sig .tc := ⟨.hbm, 155, rfl⟩
abbrev main_v133 : Ref sig .tc := ⟨.hbm, 156, rfl⟩
abbrev main_v134 : Ref sig .tc := ⟨.hbm, 157, rfl⟩
abbrev main_cst_14 : Ref sig .tc := ⟨.hbm, 158, rfl⟩
abbrev main_v135 : Ref sig .tc := ⟨.hbm, 159, rfl⟩
abbrev main_v136 : Ref sig .tc := ⟨.hbm, 160, rfl⟩
abbrev main_v137 : Ref sig .tc := ⟨.hbm, 161, rfl⟩
abbrev main_v138 : Ref sig .tc := ⟨.hbm, 162, rfl⟩
abbrev main_v139 : Ref sig .tc := ⟨.hbm, 163, rfl⟩
abbrev main_v140 : Ref sig .tc := ⟨.hbm, 164, rfl⟩
abbrev main_v141 : Ref sig .tc := ⟨.hbm, 165, rfl⟩
abbrev main_v142 : Ref sig .tc := ⟨.hbm, 166, rfl⟩
abbrev main_v143 : Ref sig .tc := ⟨.hbm, 167, rfl⟩
abbrev main_v144 : Ref sig .tc := ⟨.hbm, 168, rfl⟩
abbrev main_v145 : Ref sig .tc := ⟨.hbm, 169, rfl⟩
abbrev main_cst_15 : Ref sig .tc := ⟨.hbm, 170, rfl⟩
abbrev main_v146 : Ref sig .tc := ⟨.hbm, 171, rfl⟩
abbrev main_v147 : Ref sig .tc := ⟨.hbm, 172, rfl⟩
abbrev main_cst_16 : Ref sig .tc := ⟨.hbm, 173, rfl⟩
abbrev main_v148 : Ref sig .tc := ⟨.hbm, 174, rfl⟩
abbrev main_v149 : Ref sig .tc := ⟨.hbm, 175, rfl⟩
abbrev main_cst_17 : Ref sig .tc := ⟨.hbm, 176, rfl⟩
abbrev main_v150 : Ref sig .tc := ⟨.hbm, 177, rfl⟩
abbrev main_v151 : Ref sig .tc := ⟨.hbm, 178, rfl⟩
abbrev main_cst_18 : Ref sig .tc := ⟨.hbm, 179, rfl⟩
abbrev main_v152 : Ref sig .tc := ⟨.hbm, 180, rfl⟩
abbrev main_v153 : Ref sig .tc := ⟨.hbm, 181, rfl⟩
abbrev main_v154 : Ref sig .tc := ⟨.hbm, 182, rfl⟩
abbrev main_v155 : Ref sig .tc := ⟨.hbm, 183, rfl⟩
abbrev main_v156 : Ref sig .tc := ⟨.hbm, 184, rfl⟩
abbrev main_v157 : Ref sig .tc := ⟨.hbm, 185, rfl⟩
abbrev main_v158 : Ref sig .tc := ⟨.hbm, 186, rfl⟩
abbrev main_v159 : Ref sig .tc := ⟨.hbm, 187, rfl⟩
abbrev main_v160 : Ref sig .tc := ⟨.hbm, 188, rfl⟩
abbrev main_v161 : Ref sig .tc := ⟨.hbm, 189, rfl⟩
abbrev main_v162 : Ref sig .tc := ⟨.hbm, 190, rfl⟩
abbrev main_v163 : Ref sig .tc := ⟨.hbm, 191, rfl⟩
abbrev main_v164 : Ref sig .tc := ⟨.hbm, 192, rfl⟩
abbrev main_v165 : Ref sig .tc := ⟨.hbm, 193, rfl⟩
abbrev main_v166 : Ref sig .tc := ⟨.hbm, 194, rfl⟩
abbrev main_v167 : Ref sig .tc := ⟨.hbm, 195, rfl⟩
abbrev main_v168 : Ref sig .tc := ⟨.hbm, 196, rfl⟩
abbrev main_v169 : Ref sig .tc := ⟨.hbm, 197, rfl⟩
abbrev main_v170 : Ref sig .tc := ⟨.hbm, 198, rfl⟩
abbrev main_v171 : Ref sig .tc := ⟨.hbm, 199, rfl⟩
abbrev main_v172 : Ref sig .tc := ⟨.hbm, 200, rfl⟩
abbrev main_v173 : Ref sig .tc := ⟨.hbm, 201, rfl⟩
abbrev main_v174 : Ref sig .tc := ⟨.hbm, 202, rfl⟩
abbrev main_v175 : Ref sig .tc := ⟨.hbm, 203, rfl⟩
abbrev main_v176 : Ref sig .tc := ⟨.hbm, 204, rfl⟩
abbrev main_v177 : Ref sig .tc := ⟨.hbm, 205, rfl⟩
abbrev main_v178 : Ref sig .tc := ⟨.hbm, 206, rfl⟩
abbrev main_v179 : Ref sig .tc := ⟨.hbm, 207, rfl⟩
abbrev main_v180 : Ref sig .tc := ⟨.hbm, 208, rfl⟩
abbrev main_v181 : Ref sig .tc := ⟨.hbm, 209, rfl⟩
abbrev main_v182 : Ref sig .tc := ⟨.hbm, 210, rfl⟩
abbrev main_v183 : Ref sig .tc := ⟨.hbm, 211, rfl⟩
abbrev main_v184 : Ref sig .tc := ⟨.hbm, 212, rfl⟩
abbrev main_v185 : Ref sig .tc := ⟨.hbm, 213, rfl⟩
abbrev main_v186 : Ref sig .tc := ⟨.hbm, 214, rfl⟩
abbrev main_v187 : Ref sig .tc := ⟨.hbm, 215, rfl⟩
abbrev main_v188 : Ref sig .tc := ⟨.hbm, 216, rfl⟩
abbrev main_cst_19 : Ref sig .tc := ⟨.hbm, 217, rfl⟩
abbrev main_v189 : Ref sig .tc := ⟨.hbm, 218, rfl⟩
abbrev main_v190 : Ref sig .tc := ⟨.hbm, 219, rfl⟩
abbrev main_cst_20 : Ref sig .tc := ⟨.hbm, 220, rfl⟩
abbrev main_v191 : Ref sig .tc := ⟨.hbm, 221, rfl⟩
abbrev main_v192 : Ref sig .tc := ⟨.hbm, 222, rfl⟩
abbrev main_v193 : Ref sig .tc := ⟨.hbm, 223, rfl⟩

abbrev nD : Nat := 1
abbrev τ : Topo := Topo.v7x

variable {F : FTy → Type} [FloatOps F]
-- ==== Proof.Tile.lean ====
/-
  THE BODY OF THE ATTENTION KERNEL, HEAD BY HEAD. The printed body carries, for each of the four heads, a running
  maximum, a running denominator and a running weighted sum of the latents (queries in columns), and repeats the same
  operations four times over. Here one tile of keys of one head is a function (`stepU`, all keys visible; `stepM`, under
  a mask), the generated trip of the loop is shown to be four of them side by side (`trip_eq`), and what the body leaves
  in its output block is the normalised state after the masked last tile (`out_eq`). Nothing is evaluated here: each
  equation holds at any carrier of the floats.
-/
module

public import proofs.«01_k».proof.Proof.Gen.KernelIdeal.Value
public import Idealize.ShloMosaic.Lib.LoopRemainder

@[expose] public section

set_option maxRecDepth 65536

noncomputable section

namespace Cert.KernelIdeal.Val

open Idealize.ShloMosaic Idealize.ShloMosaic.TcCoe
open Cert.KernelIdeal Cert.KernelIdeal.Gen

variable {F : FTy → Type} [FloatOps F]

/-- What one head carries from tile to tile: its maxima, its denominators, its sums. -/
abbrev HS (F : FTy → Type) : Type := FVec F S1x256 .f32 × FVec F S1x256 .f32 × FVec F S128x256 .f32

/-- What the loop carries: the four heads' states in one tuple. -/
abbrev St (F : FTy → Type) : Type :=
  FVec F S1x256 .f32 × FVec F S1x256 .f32 × FVec F S128x256 .f32 × FVec F S1x256 .f32 × FVec F S1x256 .f32 × FVec F S128x256 .f32
    × FVec F S1x256 .f32 × FVec F S1x256 .f32 × FVec F S128x256 .f32 × FVec F S1x256 .f32 × FVec F S1x256 .f32 × FVec F S128x256 .f32

/-- Head `h`'s part of the tuple. -/
def hd (s : St F) : Fin 4 → HS F
  | 0 => (s.1, s.2.1, s.2.2.1)
  | 1 => (s.2.2.2.1, s.2.2.2.2.1, s.2.2.2.2.2.1)
  | 2 => (s.2.2.2.2.2.2.1, s.2.2.2.2.2.2.2.1, s.2.2.2.2.2.2.2.2.1)
  | 3 => (s.2.2.2.2.2.2.2.2.2.1, s.2.2.2.2.2.2.2.2.2.2.1, s.2.2.2.2.2.2.2.2.2.2.2)

/-- The tuple of four heads' states. -/
def pack (s : Fin 4 → HS F) : St F :=
  ((s 0).1, (s 0).2.1, (s 0).2.2, (s 1).1, (s 1).2.1, (s 1).2.2, (s 2).1, (s 2).2.1, (s 2).2.2, (s 3).1, (s 3).2.1, (s 3).2.2)

theorem hd_pack (s : Fin 4 → HS F) (h : Fin 4) : hd (pack s) h = s h := by
  match h with
  | 0 => rfl
  | 1 => rfl
  | 2 => rfl
  | 3 => rfl

/-- The scores of a tile: key rows against query rows. -/
def score (kt q : Vec F S1x256x256 .bf16) : FVec F S256x256 .f32 :=
  matmul dot_S256x256_S256x256_S256x256_1_1_0_0_n_n none (shapeCast S256x256 kt shapeCasts_S1x256x256_S256x256 : FVec F S256x256 .bf16)
    (shapeCast S256x256 q shapeCasts_S1x256x256_S256x256 : FVec F S256x256 .bf16) (constant S256x256 .f32 0x00000000#32)

/-- The running maximum with a tile's scores taken in. -/
def newMax (s : FVec F S256x256 .f32) (m : FVec F S1x256 .f32) : FVec F S1x256 .f32 :=
  maximumf m (shapeCast S1x256 (multiReduction .maximumf [0] S256 s 0xFF800000#32 reduces_S256x256_S256 (.inl rfl) rfl) shapeCasts_S256_S1x256)

/-- A tile's weights: the exponentials of its scores less the new maximum. -/
def weight (s : FVec F S256x256 .f32) (m : FVec F S1x256 .f32) : FVec F S256x256 .f32 :=
  exp (subf s (broadcastTo S256x256 (newMax s m) broadcasts_S1x256_S256x256))

/-- The correction of what was carried: the exponential of the old maximum less the new. -/
def corr (s : FVec F S256x256 .f32) (m : FVec F S1x256 .f32) : FVec F S1x256 .f32 := exp (subf m (newMax s m))

/-- One tile taken into a head's state, from its scores, its weights and the latents in columns. -/
def upd (s p : FVec F S256x256 .f32) (lt : Vec F S1x128x256 .bf16) (h : HS F) : HS F :=
  (newMax s h.1,
   addf (mulf (corr s h.1) h.2.1) (shapeCast S1x256 (multiReduction .add [0] S256 p 0x00000000#32 reduces_S256x256_S256 (.inl rfl) rfl) shapeCasts_S256_S1x256),
   addf (mulf (broadcastTo S128x256 (corr s h.1) broadcasts_S1x256_S128x256) h.2.2)
     (matmul dot_S128x256_S256x256_S128x256_1_0_0_1_n_n none (shapeCast S128x256 lt shapeCasts_S1x128x256_S128x256 : FVec F S128x256 .bf16)
       (truncf .bf16 p bitsLt_bf16_f32) (constant S128x256 .f32 0x00000000#32)))

/-- A tile all of whose keys are visible. -/
def stepU (q kt : Vec F S1x256x256 .bf16) (lt : Vec F S1x128x256 .bf16) (h : HS F) : HS F :=
  upd (score kt q) (weight (score kt q) h.1) lt h

/-- The scores with the hidden keys' at the mask's constant. -/
def maskS (mask : IVec S256x256 1) (s : FVec F S256x256 .f32) : FVec F S256x256 .f32 :=
  select mask s (broadcast S256x256 (Scalar.ofBits .f32 0xF149F2CA#32))

/-- The weights with the hidden keys' at zero. -/
def maskP (mask : IVec S256x256 1) (p : FVec F S256x256 .f32) : FVec F S256x256 .f32 :=
  select mask p (broadcast S256x256 (Scalar.ofBits .f32 0x00000000#32))

/-- A tile whose keys a mask hides from some queries. -/
def stepM (mask : IVec S256x256 1) (q kt : Vec F S1x256x256 .bf16) (lt : Vec F S1x128x256 .bf16) (h : HS F) : HS F :=
  upd (maskS mask (score kt q)) (maskP mask (weight (maskS mask (score kt q)) h.1)) lt h

/-- A head's result: its sums over its denominators, zero where a denominator is not positive. -/
def norm (h : HS F) : FVec F S128x256 .f32 :=
  select (broadcastTo S128x256 (shapeCast S1x256 (cmpf .ogt h.2.1 (broadcast S1x256 (Scalar.ofBits .f32 0x00000000#32))) shapeCasts_S1x256_S1x256) broadcasts_S1x256_S128x256)
    (divf h.2.2 (broadcastTo S128x256 (select (cmpf .ogt h.2.1 (broadcast S1x256 (Scalar.ofBits .f32 0x00000000#32))) h.2.1 (broadcast S1x256 (Scalar.ofBits .f32 0x3F800000#32))) broadcasts_S1x256_S128x256))
    (broadcast S128x256 (Scalar.ofBits .f32 0x00000000#32))

/-- The block stored: the four heads' results stacked and transposed. -/
def stored (s : Fin 4 → HS F) : FVec F S1x256x512 .bf16 :=
  shapeCast S1x256x512 (truncf .bf16 (transpose S256x512 [1, 0] (concatenate S512x256 0 [⟨S128x256, norm (s 0)⟩, ⟨S128x256, norm (s 1)⟩, ⟨S128x256, norm (s 2)⟩, ⟨S128x256, norm (s 3)⟩] concatenates_S128x256_S128x256_S128x256_S128x256_S512x256_d0) transposes_S512x256_p1_0_S256x512) bitsLt_bf16_f32) shapeCasts_S256x512_S1x256x512

/-- What a head holds before the first tile. -/
def start : HS F :=
  (broadcast S1x256 (Scalar.ofBits .f32 0xF149F2CA#32), broadcast S1x256 (Scalar.ofBits .f32 0x00000000#32), broadcast S128x256 (Scalar.ofBits .f32 0x00000000#32))

/-- ONE TRIP of the loop is the four heads' tiles side by side. -/
theorem trip_eq (𝒱 : Variants) (c : Dev nD) (bd : Option 𝒱.V) (i : grid0.Coords) (arg2 : Memref sig .tc .vmem S1x256x1024 .bf16) (harg2 : arg2.IsWhole) (arg3 : Memref sig .tc .vmem S1x2048x256 .bf16) (harg3 : arg3.IsWhole) (arg4 : Memref sig .tc .vmem S1x128x2048 .bf16) (harg4 : arg4.IsWhole) (arg5 : Memref sig .tc .vmem S1x256x512 .bf16) (harg5 : arg5.IsWhole) (q : Fin 4 → Vec F S1x256x256 .bf16) (X3 : BufTy.Contents (Elt F) arg3.view.ty) (X4 : BufTy.Contents (Elt F) arg4.view.ty) (k : Fin (k0_t1_loop i).trips) (acc : St F) :
    tripR_k0_t1 (F := F) 𝒱 c bd i arg2 harg2 arg3 harg3 arg4 harg4 arg5 harg5 (q 0) (q 1) (q 2) (q 3) X3 X4 k acc
      = pack fun h => stepU (q h) (View.readAt (Elt F) arg3.view (Rect.unit (s := S1x2048x256) (k0_off1 i k) S1x256x256.size (k0_off1_inb i k)).toLoadRect X3)
          (View.readAt (Elt F) arg4.view (Rect.unit (s := S1x128x2048) (k0_off2 i k) S1x128x256.size (k0_off2_inb i k)).toLoadRect X4) (hd acc h) := by
  unfold tripR_k0_t1 trip_k0_t1
  dsimp only
  sl_unfold_words
  rfl

theorem hz : (![0, 0, 0] : Fin 3 → Nat) = fun _ => 0 := funext fun a => by fin_cases a <;> rfl

/-- The remainder loop has no trips, so it hands on what it was given. -/
theorem rest_trips (i : grid0.Coords) : Scf.trips (k0_t2_loop i).lb (k0_t2_loop i).ub (k0_t2_loop i).st = 0 :=
  Scf.rem_trips _ _

/-- The four heads' queries as the body loads them. -/
def qs (arg2 : Memref sig .tc .vmem S1x256x1024 .bf16) (X2 : BufTy.Contents (Elt F) arg2.view.ty) : Fin 4 → Vec F S1x256x256 .bf16
  | 0 => View.readAt (Elt F) arg2.view (Rect.unit (s := S1x256x1024) ![0, 0, 0] S1x256x256.size inb_S1x256x1024_S1x256x256_0_0_0).toLoadRect X2
  | 1 => View.readAt (Elt F) arg2.view (Rect.unit (s := S1x256x1024) ![0, 0, 256] S1x256x256.size inb_S1x256x1024_S1x256x256_0_0_256).toLoadRect X2
  | 2 => View.readAt (Elt F) arg2.view (Rect.unit (s := S1x256x1024) ![0, 0, 512] S1x256x256.size inb_S1x256x1024_S1x256x256_0_0_512).toLoadRect X2
  | 3 => View.readAt (Elt F) arg2.view (Rect.unit (s := S1x256x1024) ![0, 0, 768] S1x256x256.size inb_S1x256x1024_S1x256x256_0_0_768).toLoadRect X2

/-- The mask of the last tile at a point. -/
abbrev dmask (i : grid0.Coords) : IVec S256x256 1 := k0_pay77 (BitVec.ofNat 32 (i 1).val) (k0_pay42 i)

/-- The loop's state after `n` tiles. -/
abbrev after (c : Dev nD) (i : grid0.Coords) (arg2 : Memref sig .tc .vmem S1x256x1024 .bf16) (harg2 : arg2.IsWhole) (arg3 : Memref sig .tc .vmem S1x2048x256 .bf16) (harg3 : arg3.IsWhole) (arg4 : Memref sig .tc .vmem S1x128x2048 .bf16) (harg4 : arg4.IsWhole) (arg5 : Memref sig .tc .vmem S1x256x512 .bf16) (harg5 : arg5.IsWhole)
    (x0 : Vec F S1x256x1024 .bf16) (x1 : Vec F S1x2048x256 .bf16) (x2 : Vec F S1x128x2048 .bf16) (n : ℕ) : St F :=
  st_k0_t1 Variants.none c none i arg2 harg2 arg3 harg3 arg4 harg4 arg5 harg5 (qs arg2 (harg2.unread x0) 0) (qs arg2 (harg2.unread x0) 1) (qs arg2 (harg2.unread x0) 2) (qs arg2 (harg2.unread x0) 3)
    (harg3.unread x1) (harg4.unread x2) (pack fun _ => start) n

/-- WHAT THE BODY LEAVES in its output block: the state after the loop, the masked last tile taken in, normalised. -/
theorem out_eq (c : Dev nD) (i : grid0.Coords) (arg2 : Memref sig .tc .vmem S1x256x1024 .bf16) (harg2 : arg2.IsWhole) (arg3 : Memref sig .tc .vmem S1x2048x256 .bf16) (harg3 : arg3.IsWhole) (arg4 : Memref sig .tc .vmem S1x128x2048 .bf16) (harg4 : arg4.IsWhole) (arg5 : Memref sig .tc .vmem S1x256x512 .bf16) (harg5 : arg5.IsWhole)
    (x0 : Vec F S1x256x1024 .bf16) (x1 : Vec F S1x2048x256 .bf16) (x2 : Vec F S1x128x2048 .bf16) :
    out0_A_3 c i arg2 harg2 arg3 harg3 arg4 harg4 arg5 harg5 x0 x1 x2
      = stored fun h => stepM (dmask i) (qs arg2 (harg2.unread x0) h)
          (View.readAt (Elt F) arg3.view (Rect.unit (s := S1x2048x256) (k0_off5 i) S1x256x256.size (k0_off5_inb i)).toLoadRect (harg3.unread x1))
          (View.readAt (Elt F) arg4.view (Rect.unit (s := S1x128x2048) (k0_off6 i) S1x128x256.size (k0_off6_inb i)).toLoadRect (harg4.unread x2))
          (hd (after c i arg2 harg2 arg3 harg3 arg4 harg4 arg5 harg5 x0 x1 x2 (k0_t1_loop i).trips) h) := by
  unfold out0_A_3
  rw [View.read_writes_eq_canon _ _ _ (cover0_A_3 c i arg2 harg2 arg3 harg3 arg4 harg4 arg5 harg5 x0 x1 x2)]
  unfold kernelRun0_A
  dsimp only
  sl_unfold_words
  rw [View.canon_unit_zero hz]
  rw [rest_trips i]
  rfl

end Cert.KernelIdeal.Val

end
-- ==== Proof.Softmax.lean ====
/-
  THE MATHEMATICS OF THE ONLINE SOFTMAX, over the extended reals and away from any program. A query's scores are reals
  `σ k` and its keys carry a weight `w k` (one where the query sees the key, zero where not). `Col` says what a running
  (maximum, denominator, sums) triple holds after `n` keys: the maximum is SOME real, and the other two are the weighted
  sums of exponentials less that real. A tile of keys keeps it (`Col.step`), the quotient at the end is the softmax average
  whatever the real was (`Col.quot`), and the plain softmax over all keys is the same average (`plain`).
-/
module

public import Idealize.ShloMosaic.PureOps.Ideal
public import Idealize.ShloMosaic.PureOps.Ideal.Laws
public import Idealize.ShloMosaic.Lib.IdealHost

@[expose] public section

noncomputable section

namespace Cert.Softmax

open Idealize.ShloMosaic Finset

/-- A finite sum of reals is the real sum. -/
theorem coe_sum {ι : Type*} (s : Finset ι) (f : ι → ℝ) : ∑ i ∈ s, (f i : EReal) = ((∑ i ∈ s, f i : ℝ) : EReal) := by
  classical
  induction s using Finset.induction with
  | empty => simp
  | insert a s ha ih => rw [Finset.sum_insert ha, Finset.sum_insert ha, ih, EReal.coe_add]

/-- The largest of a real and finitely many extended reals none of which is `⊤` is a real. -/
theorem fold_real {ι : Type*} (s : Finset ι) (f : ι → EReal) (hf : ∀ i, f i ≠ ⊤) (a : EReal) (ha : a ≠ ⊤) : s.fold max a f ≠ ⊤ := by
  classical
  induction s using Finset.induction with
  | empty => simpa using ha
  | insert x s hx ih =>
    rw [Finset.fold_insert hx]
    intro h
    rcases max_choice (f x) (s.fold max a f) with h' | h' <;> rw [h'] at h
    · exact hf x h
    · exact ih h

theorem le_fold {ι : Type*} (s : Finset ι) (f : ι → EReal) (a : EReal) (i : ι) (hi : i ∈ s) : f i ≤ s.fold max a f := by
  classical
  induction s using Finset.induction with
  | empty => simp at hi
  | insert x s hx ih =>
    rw [Finset.fold_insert hx]
    rcases Finset.mem_insert.1 hi with rfl | h
    · exact le_max_left _ _
    · exact (ih h).trans (le_max_right _ _)

theorem real_of (x : EReal) (h : x ≠ ⊤) (h' : x ≠ ⊥) : ∃ r : ℝ, x = r := ⟨x.toReal, (EReal.coe_toReal h h').symm⟩

/-- The new maximum of a tile of real scores is a real. -/
theorem newMax_real {ι : Type*} [Fintype ι] (M : ℝ) (s : ι → EReal) (hs : ∀ i, ∃ r : ℝ, s i = r) :
    ∃ M' : ℝ, max (M : EReal) (univ.fold max ⊥ s) = M' := by
  refine real_of _ ?_ ?_
  · intro h
    rcases max_choice (M : EReal) (univ.fold max ⊥ s) with h' | h' <;> rw [h'] at h
    · exact EReal.coe_ne_top M h
    · exact fold_real univ s (fun i => by obtain ⟨r, hr⟩ := hs i; rw [hr]; exact EReal.coe_ne_top r) ⊥ bot_ne_top h
  · intro h
    have := le_max_left (M : EReal) (univ.fold max ⊥ s)
    rw [h] at this
    exact EReal.coe_ne_bot M (le_bot_iff.1 this)

variable {D : Type*}

/-- WHAT A RUNNING TRIPLE HOLDS after `n` keys. -/
def Col (σ w : ℕ → ℝ) (v : D → ℕ → ℝ) (n : ℕ) (m l : EReal) (acc : D → EReal) : Prop :=
  ∃ M : ℝ, m = M ∧ l = ((∑ k ∈ range n, w k * Real.exp (σ k - M) : ℝ) : EReal)
    ∧ ∀ d, acc d = ((∑ k ∈ range n, v d k * (w k * Real.exp (σ k - M)) : ℝ) : EReal)

/-- Before the first key: any real maximum, and zeros. -/
theorem Col.zero (σ w : ℕ → ℝ) (v : D → ℕ → ℝ) (m l : EReal) (acc : D → EReal) (hm : ∃ M : ℝ, m = M) (hl : l = 0) (ha : ∀ d, acc d = 0) :
    Col σ w v 0 m l acc := by
  obtain ⟨M, hM⟩ := hm
  exact ⟨M, hM, by simp [hl], fun d => by simp [ha]⟩

/-- The sum carried, corrected to a new maximum, and a tile's sum: the sum of both under the new maximum. -/
theorem carry (f σ : ℕ → ℝ) (M M' : ℝ) (n T : ℕ) :
    Real.exp (M - M') * (∑ k ∈ range n, f k * Real.exp (σ k - M)) + ∑ r : Fin T, f (n + r) * Real.exp (σ (n + r) - M')
      = ∑ k ∈ range (n + T), f k * Real.exp (σ k - M') := by
  rw [Finset.sum_range_add, Finset.mul_sum, Finset.sum_range fun r => f (n + r) * Real.exp (σ (n + r) - M')]
  refine congrArg (· + _) (Finset.sum_congr rfl fun k _ => ?_)
  rw [show σ k - M' = (M - M') + (σ k - M) by ring, Real.exp_add]
  ring

/-- A TILE OF KEYS taken in keeps what the triple holds. -/
theorem Col.step {σ w : ℕ → ℝ} {v : D → ℕ → ℝ} {n T : ℕ} {m l : EReal} {acc : D → EReal} (h : Col σ w v n m l acc)
    (s p : Fin T → EReal) (vt : D → Fin T → EReal) (hs : ∀ r, ∃ x : ℝ, s r = x) (hv : ∀ d r, vt d r = (v d (n + r) : ℝ))
    (hp : ∀ r, ∀ M' : ℝ, max m (univ.fold max ⊥ s) = M' → p r = ((w (n + r) * Real.exp (σ (n + r) - M') : ℝ) : EReal)) :
    Col σ w v (n + T) (max m (univ.fold max ⊥ s)) (Ideal.exp (m - max m (univ.fold max ⊥ s)) * l + ∑ r, p r)
      (fun d => Ideal.exp (m - max m (univ.fold max ⊥ s)) * acc d + ∑ r, vt d r * p r) := by
  obtain ⟨M, hm, hl, ha⟩ := h
  obtain ⟨M', hM'⟩ : ∃ M' : ℝ, max m (univ.fold max ⊥ s) = M' := by rw [hm]; exact newMax_real M s hs
  have hp' := fun r => hp r M' hM'
  have he : Ideal.exp (m - max m (univ.fold max ⊥ s)) = ((Real.exp (M - M') : ℝ) : EReal) := by
    rw [hM', hm, ← EReal.coe_sub]; rfl
  refine ⟨M', hM', ?_, fun d => ?_⟩
  · rw [he, hl, Finset.sum_congr rfl fun r _ => hp' r, coe_sum, ← EReal.coe_mul, ← EReal.coe_add, carry]
  · dsimp only
    rw [he, ha d, Finset.sum_congr rfl fun r _ => (by rw [hv d r, hp' r, ← EReal.coe_mul] :
      vt d r * p r = ((v d (n + r) * (w (n + r) * Real.exp (σ (n + r) - M')) : ℝ) : EReal)), coe_sum, ← EReal.coe_mul, ← EReal.coe_add]
    have := carry (fun k => v d k * w k) σ M M' n T
    simp only [mul_assoc] at this
    rw [this]

/-- THE SOFTMAX AVERAGE of `v` over the first `n` keys, keys weighted by `w`. -/
def avg (σ w v : ℕ → ℝ) (n : ℕ) : ℝ :=
  (∑ k ∈ range n, v k * (w k * Real.exp (σ k))) / ∑ k ∈ range n, w k * Real.exp (σ k)

/-- Subtracting one number from every score does not change it. -/
theorem avg_shift (σ w v : ℕ → ℝ) (n : ℕ) (M : ℝ) :
    (∑ k ∈ range n, v k * (w k * Real.exp (σ k - M))) / (∑ k ∈ range n, w k * Real.exp (σ k - M)) = avg σ w v n := by
  have h1 : ∀ k, w k * Real.exp (σ k - M) = (w k * Real.exp (σ k)) * Real.exp (-M) := fun k => by
    rw [sub_eq_add_neg, Real.exp_add]; ring
  have h2 : ∀ k, v k * (w k * Real.exp (σ k - M)) = (v k * (w k * Real.exp (σ k))) * Real.exp (-M) := fun k => by rw [h1]; ring
  rw [Finset.sum_congr rfl fun k _ => h1 k, Finset.sum_congr rfl fun k _ => h2 k, ← Finset.sum_mul, ← Finset.sum_mul]
  exact mul_div_mul_right _ _ (Real.exp_ne_zero _)

/-- Keys of weight zero at the end do not count. -/
theorem avg_le (σ w v : ℕ → ℝ) (n N : ℕ) (h : n ≤ N) (hw : ∀ k, n ≤ k → w k = 0) : avg σ w v n = avg σ w v N := by
  unfold avg
  rw [Finset.sum_subset (Finset.range_subset_range.2 h) fun k _ hk => by rw [hw k (by simpa using hk)]; ring,
    Finset.sum_subset (f := fun k => w k * Real.exp (σ k)) (Finset.range_subset_range.2 h) fun k _ hk => by rw [hw k (by simpa using hk)]; ring]

theorem pos_sum (σ w : ℕ → ℝ) (n : ℕ) (M : ℝ) (hw : ∀ k, 0 ≤ w k) (h : ∃ k < n, 0 < w k) : 0 < ∑ k ∈ range n, w k * Real.exp (σ k - M) := by
  obtain ⟨k, hk, hpos⟩ := h
  exact Finset.sum_pos' (fun k _ => mul_nonneg (hw k) (Real.exp_pos _).le) ⟨k, Finset.mem_range.2 hk, mul_pos hpos (Real.exp_pos _)⟩

/-- The quotient of two reals, the divisor not zero. -/
theorem div_real (x y : ℝ) (hy : y ≠ 0) : Ideal.div (x : EReal) (y : EReal) = ((x / y : ℝ) : EReal) := by
  rw [Ideal.div_coe hy, ← EReal.coe_mul]; congr 1; ring

/-- THE QUOTIENT AT THE END: the triple's denominator is positive and its sums over it are the average. -/
theorem Col.quot {σ w : ℕ → ℝ} {v : D → ℕ → ℝ} {n : ℕ} {m l : EReal} {acc : D → EReal} (h : Col σ w v n m l acc)
    (hw : ∀ k, 0 ≤ w k) (hk : ∃ k < n, 0 < w k) : 0 < l ∧ ∀ d, Ideal.div (acc d) l = ((avg σ w (v d) n : ℝ) : EReal) := by
  obtain ⟨M, hm, hl, ha⟩ := h
  have hp := pos_sum σ w n M hw hk
  refine ⟨by rw [hl]; exact_mod_cast hp, fun d => ?_⟩
  rw [hl, ha d, div_real _ _ hp.ne', avg_shift]

/-- THE PLAIN SOFTMAX over `N` keys: with the hidden keys' scores at `⊥`, the largest subtracted, the exponentials over their sum, hidden keys' at zero,
    and the values averaged: the average. -/
theorem plain (σ w v : ℕ → ℝ) (N : ℕ) (vis : ℕ → Prop) [DecidablePred vis] (hw : ∀ k, w k = if vis k then 1 else 0) (hk : ∃ k < N, vis k) (s : Fin N → EReal)
    (hs : ∀ k : Fin N, s k = if vis k then (σ k : EReal) else ⊥) (m : EReal) (hm : m = max ⊥ (univ.fold max ⊥ s)) (vt : Fin N → EReal) (hv : ∀ k : Fin N, vt k = (v k : EReal)) :
    ∑ k : Fin N, vt k * (if vis k then Ideal.div (Ideal.exp (s k - m)) (0 + ∑ j : Fin N, Ideal.exp (s j - m)) else 0) = ((avg σ w v N : ℝ) : EReal) := by
  have hbot : max (⊥ : EReal) (univ.fold max ⊥ s) = univ.fold max ⊥ s := max_eq_right bot_le
  obtain ⟨M, hM⟩ : ∃ M : ℝ, m = M := by
    rw [hm, hbot]
    refine real_of _ (fold_real _ _ (fun k => ?_) _ bot_ne_top) ?_
    · rw [hs]; split
      · exact EReal.coe_ne_top _
      · exact bot_ne_top
    · obtain ⟨k, hk, hvk⟩ := hk
      intro h
      have := le_fold univ s ⊥ ⟨k, hk⟩ (mem_univ _)
      rw [h, hs, if_pos hvk] at this
      exact EReal.coe_ne_bot _ (le_bot_iff.1 this)
  have he : ∀ k : Fin N, Ideal.exp (s k - m) = ((w k * Real.exp (σ k - M) : ℝ) : EReal) := fun k => by
    rw [hs, hM, hw]
    by_cases h : vis k
    · rw [if_pos h, if_pos h, ← EReal.coe_sub, one_mul]; rfl
    · rw [if_neg h, if_neg h, zero_mul, EReal.bot_sub]; rfl
  have hpos : 0 < ∑ k ∈ range N, w k * Real.exp (σ k - M) := pos_sum σ w N M (fun k => by rw [hw]; split <;> norm_num)
    (by obtain ⟨k, h, h'⟩ := hk; exact ⟨k, h, by rw [hw, if_pos h']; norm_num⟩)
  have hsum : (0 : EReal) + ∑ j : Fin N, Ideal.exp (s j - m) = ((∑ k ∈ range N, w k * Real.exp (σ k - M) : ℝ) : EReal) := by
    rw [zero_add, Finset.sum_congr rfl fun j _ => he j, coe_sum, Finset.sum_range fun k => w k * Real.exp (σ k - M)]
  rw [hsum, Finset.sum_congr rfl fun k _ => (by
    rw [hv, he, div_real _ _ hpos.ne']
    by_cases h : vis k
    · rw [if_pos h, ← EReal.coe_mul]
    · rw [if_neg h, hw, if_neg h]; simp :
    vt k * (if vis k then Ideal.div (Ideal.exp (s k - m)) ((∑ k ∈ range N, w k * Real.exp (σ k - M) : ℝ) : EReal) else 0)
      = ((v k * ((w k * Real.exp (σ k - M)) / ∑ k ∈ range N, w k * Real.exp (σ k - M)) : ℝ) : EReal)), coe_sum, ← avg_shift σ w v N M, Finset.sum_div,
    Finset.sum_range fun k => v k * (w k * Real.exp (σ k - M)) / _]
  congr 1
  exact Finset.sum_congr rfl fun k _ => by ring

/-! ## The attention's result -/

/-- The weight of key `k` for the query at position `p`: one where the query sees it. -/
def wt (p k : ℕ) : ℝ := if k ≤ p then 1 else 0

/-- The scale of the scores, as the programs' constant has it. -/
def κ : ℝ := (Ideal.ofBits .f32 0x3DD105EC#32).toReal

/-- The pattern of minus infinity is the least extended real. -/
theorem neg_inf : Ideal.ofBits .f32 0xFF800000#32 = ⊥ := by simp [Ideal.ofBits, Ideal.ieee]

theorem scale_eq : Ideal.ofBits .f32 0x3DD105EC#32 = (κ : EReal) := by
  have : ∃ r : ℝ, Ideal.ofBits .f32 0x3DD105EC#32 = r := ⟨_, by simp [Ideal.ofBits, Ideal.ieee, -EReal.coe_mul]; rfl⟩
  obtain ⟨r, hr⟩ := this
  rw [κ, hr]
  rfl

/-- A position as an index (positions past the last wrap; none is asked for). -/
def pos (k : ℕ) : Fin 2048 := ⟨k % 2048, Nat.mod_lt _ (by norm_num)⟩

theorem pos_val (k : Fin 2048) : pos k = k := Fin.ext (Nat.mod_eq_of_lt k.isLt)

/-- The score of key `k` for a query: latent against latent, rotary against rotary, scaled. -/
def sc (q : Fin 128 → ℝ) (r : Fin 32 → ℝ) (C : Fin 2048 → Fin 128 → ℝ) (K : Fin 2048 → Fin 32 → ℝ) (k : ℕ) : ℝ :=
  (∑ l, C (pos k) l * q l + ∑ l, K (pos k) l * r l) * κ

/-- The attention's result: feature `d` of the latents averaged for the query at `p`. -/
def attn (q : Fin 128 → ℝ) (r : Fin 32 → ℝ) (C : Fin 2048 → Fin 128 → ℝ) (K : Fin 2048 → Fin 32 → ℝ) (p : ℕ) (d : Fin 128) : ℝ :=
  avg (sc q r C K) (wt p) (fun k => C (pos k) d) 2048

/-- The score as the kernel takes it: one product over 256 lanes, the query scaled, the lanes past the rotary part zero. -/
theorem lanes (C q : Fin 128 → ℝ) (K r : Fin 32 → ℝ) (s : ℝ) (f : Fin 256 → EReal)
    (hf : ∀ l : Fin 256, f l = if h : (l : ℕ) < 128 then ((C ⟨l, h⟩ * (q ⟨l, h⟩ * s) : ℝ) : EReal)
      else if h' : (l : ℕ) - 128 < 32 then ((K ⟨l - 128, h'⟩ * (r ⟨l - 128, h'⟩ * s) : ℝ) : EReal) else 0) :
    ∑ l, f l = (((∑ l, C l * q l + ∑ l, K l * r l) * s : ℝ) : EReal) := by
  have e : ∑ l, f l = ∑ l : Fin (128 + (32 + 96)), f l := rfl
  rw [e, Fin.sum_univ_add, Fin.sum_univ_add]
  have h1 : ∀ l : Fin 128, f (Fin.castAdd (32 + 96) l) = ((C l * (q l * s) : ℝ) : EReal) := fun l => by
    rw [hf]; exact dif_pos l.isLt
  have h2 : ∀ l : Fin 32, f (Fin.natAdd 128 (Fin.castAdd 96 l)) = ((K l * (r l * s) : ℝ) : EReal) := fun l => by
    rw [hf, dif_neg (by simp), dif_pos (by simp)]
    have : (⟨(Fin.natAdd 128 (Fin.castAdd 96 l) : ℕ) - 128, by simp⟩ : Fin 32) = l := Fin.ext (by simp)
    exact congrArg (fun x : Fin 32 => ((K x * (r x * s) : ℝ) : EReal)) this
  have h3 : ∀ l : Fin 96, f (Fin.natAdd 128 (Fin.natAdd 32 l)) = ((0 : ℝ) : EReal) := fun l => by
    rw [hf, dif_neg (by simp), dif_neg (by simp)]; rfl
  rw [Finset.sum_congr rfl fun l _ => h1 l, Finset.sum_congr rfl fun l _ => h2 l, Finset.sum_congr rfl fun l _ => h3 l, coe_sum, coe_sum, coe_sum,
    ← EReal.coe_add, ← EReal.coe_add]
  congr 1
  simp only [Finset.sum_const_zero, add_zero, add_mul, Finset.sum_mul, mul_assoc]

end Cert.Softmax

end
-- ==== Proof.Read.lean ====
/-
  THE BODY'S OPERATIONS READ AT AN INDEX, at the reals. Each function of the tile module, evaluated at one query column.
-/
module

public import proofs.«01_k».proof.Proof.Tile
public import proofs.«01_k».proof.Proof.Softmax
public import Idealize.ShloMosaic.Lib.Pointwise
public import Idealize.ShloMosaic.Lib.WordCmp

@[expose] public section

set_option maxRecDepth 16384

noncomputable section

namespace Cert.KernelIdeal.Val

open Idealize.ShloMosaic Idealize.ShloMosaic.TcCoe
open Cert.KernelIdeal Cert.KernelIdeal.Gen

/-- The mask's constant is a real number. -/
theorem big_real : ∃ r : ℝ, Ideal.ofBits .f32 0xF149F2CA#32 = r := ⟨_, by simp [Ideal.ofBits, Ideal.ieee, -EReal.coe_mul, -EReal.coe_neg]; rfl⟩

theorem score_at (kt q : Vec Ideal S1x256x256 .bf16) (r c : Fin 256) :
    score kt q (ix2 r c) = ∑ k : Fin 256, (kt (ix3 0 r k) : EReal) * q (ix3 0 c k) := by
  pointwise [score]

theorem newMax_at (s : FVec Ideal S256x256 .f32) (m : FVec Ideal S1x256 .f32) (c : Fin 256) :
    newMax s m (ix2 0 c) = max (m (ix2 0 c)) (Finset.univ.fold max ⊥ fun r : Fin 256 => s (ix2 r c)) := by
  pointwise [newMax]
  rw [Cert.Softmax.neg_inf]

theorem upd_l_at (s p : FVec Ideal S256x256 .f32) (lt : Vec Ideal S1x128x256 .bf16) (h : HS Ideal) (c : Fin 256) :
    (upd s p lt h).2.1 (ix2 0 c) = Ideal.exp (h.1 (ix2 0 c) - newMax s h.1 (ix2 0 c)) * h.2.1 (ix2 0 c) + ∑ r : Fin 256, p (ix2 r c) := by
  pointwise [upd, corr]

theorem upd_a_at (s p : FVec Ideal S256x256 .f32) (lt : Vec Ideal S1x128x256 .bf16) (h : HS Ideal) (d : Fin 128) (c : Fin 256) :
    (upd s p lt h).2.2 (ix2 d c) = Ideal.exp (h.1 (ix2 0 c) - newMax s h.1 (ix2 0 c)) * h.2.2 (ix2 d c) + ∑ r : Fin 256, (lt (ix3 0 d r) : EReal) * p (ix2 r c) := by
  pointwise [upd, corr]

theorem weight_at (s : FVec Ideal S256x256 .f32) (m : FVec Ideal S1x256 .f32) (r c : Fin 256) :
    weight s m (ix2 r c) = Ideal.exp (s (ix2 r c) - newMax s m (ix2 0 c)) := by
  pointwise [weight]

theorem mask_at (i : grid0.Coords) (r c : Fin 256) : dmask i (ix2 r c) = if (r : ℕ) ≤ (c : ℕ) then 1#1 else 0#1 := by
  have hi : (i 1).val < 8 := (i 1).isLt
  pointwise [dmask, k0_pay77, k0_pay42]
  have h1 : ∀ x : ℕ, x < 256 → IntOp.addi (Scalar.muli (BitVec.ofNat 32 (i 1).val) 256#32) (BitVec.ofNat 32 x) = BitVec.ofNat 32 ((i 1).val * 256 + x) := fun x _ => by
    show BitVec.ofNat 32 (i 1).val * 256#32 + BitVec.ofNat 32 x = _
    rw [BitVec.ofNat_add, BitVec.ofNat_mul]
  rw [h1 _ r.isLt, h1 _ c.isLt]
  have hr := r.isLt
  have hc := c.isLt
  simp (disch := omega) only [hlo_ix]
  by_cases h : (r : ℕ) ≤ c
  · rw [if_pos h]; simp [h]
  · rw [if_neg h]; simp [h]

theorem norm_at (h : HS Ideal) (d : Fin 128) (c : Fin 256) (hp : 0 < h.2.1 (ix2 0 c)) :
    norm h (ix2 d c) = Ideal.div (h.2.2 (ix2 d c)) (h.2.1 (ix2 0 c)) := by
  pointwise [norm]
  rw [if_pos hp, if_pos hp]

theorem stored_at (s : Fin 4 → HS Ideal) (c : Fin 256) (h : Fin 4) (d : Fin 128) :
    stored s (ix3 0 c ⟨h * 128 + d, by omega⟩) = norm (s h) (ix2 d c) := by
  fin_cases h <;> pointwise [stored]
  · rw [dif_neg (by omega), dif_neg (by omega), dif_pos (by omega)]
    exact congrArg (fun e => norm (s 2) (ix2 e c)) (Fin.ext (by dsimp only; omega))
  · rw [dif_neg (by omega), dif_neg (by omega), dif_neg (by omega)]
    exact congrArg (fun e => norm (s 3) (ix2 e c)) (Fin.ext (by dsimp only; omega))

/-- The masked scores and weights. -/
theorem maskS_at (m : IVec S256x256 1) (s : FVec Ideal S256x256 .f32) (j : S256x256.Idx) :
    maskS m s j = Scalar.select (m j) (s j) (Ideal.ofBits .f32 0xF149F2CA#32) := rfl

theorem maskP_at (m : IVec S256x256 1) (s : FVec Ideal S256x256 .f32) (j : S256x256.Idx) :
    maskP m s j = Scalar.select (m j) (s j) (Ideal.ofBits .f32 0x00000000#32) := rfl

/-! ## The loads -/

theorem q_at (arg2 : Memref sig .tc .vmem S1x256x1024 .bf16) (harg2 : arg2.IsWhole) (x0 : Vec Ideal S1x256x1024 .bf16) (h : Fin 4) (c l : Fin 256) :
    qs arg2 (harg2.unread x0) h (ix3 0 c l) = x0 (ix3 0 c ⟨h * 256 + l, by omega⟩) := by
  fin_cases h <;> simp only [qs] <;> rw [View.readAt_eq_ld, harg2.read_unread] <;> pointwise

theorem trips_eq (i : grid0.Coords) : (k0_t1_loop i).trips = (i 1).val := by
  have : ∀ j : Fin 8, Scf.trips 0#32 (Scalar.addi 0#32 (Scalar.muli (Scalar.divsi (Scalar.subi (BitVec.ofNat 32 j.val) 0#32) 1#32) 1#32)) 1#32 = j.val := by decide +kernel
  exact this (i 1)

theorem off1_eq (i : grid0.Coords) (k : Fin (k0_t1_loop i).trips) : k0_off1 i k = ![0, 256 * k.val, 0] := by
  have hk : k.val < 8 := lt_of_lt_of_le (trips_eq i ▸ k.isLt) (i 1).isLt.le
  have : ∀ j : Fin 8, (Scalar.indexCast (Scalar.muli (Scf.iv 0#32 1#32 j.val) 256#32) : Index).toNat = 256 * j.val := by decide +kernel
  unfold k0_off1
  dsimp only
  rw [this ⟨k.val, hk⟩]

theorem off2_eq (i : grid0.Coords) (k : Fin (k0_t1_loop i).trips) : k0_off2 i k = ![0, 0, 256 * k.val] := by
  have hk : k.val < 8 := lt_of_lt_of_le (trips_eq i ▸ k.isLt) (i 1).isLt.le
  have : ∀ j : Fin 8, (Scalar.indexCast (Scalar.muli (Scf.iv 0#32 1#32 j.val) 256#32) : Index).toNat = 256 * j.val := by decide +kernel
  unfold k0_off2
  dsimp only
  rw [this ⟨k.val, hk⟩]

theorem off5_eq (i : grid0.Coords) : k0_off5 i = ![0, 256 * (i 1).val, 0] := by
  have : ∀ j : Fin 8, (Scalar.indexCast (Scalar.muli (BitVec.ofNat 32 j.val) 256#32) : Index).toNat = 256 * j.val := by decide +kernel
  unfold k0_off5
  dsimp only
  rw [this (i 1)]

theorem off6_eq (i : grid0.Coords) : k0_off6 i = ![0, 0, 256 * (i 1).val] := by
  have : ∀ j : Fin 8, (Scalar.indexCast (Scalar.muli (BitVec.ofNat 32 j.val) 256#32) : Index).toNat = 256 * j.val := by decide +kernel
  unfold k0_off6
  dsimp only
  rw [this (i 1)]

/-- A tile of keys loaded at row `256 n`. -/
theorem key_at (arg3 : Memref sig .tc .vmem S1x2048x256 .bf16) (harg3 : arg3.IsWhole) (x1 : Vec Ideal S1x2048x256 .bf16) (o : Fin 3 → ℕ) (n : ℕ) (hn : n < 8) (ho : o = ![0, 256 * n, 0])
    (hb : ∀ a, o a + S1x256x256.size a ≤ S1x2048x256.size a) (r l : Fin 256) :
    View.readAt (Elt Ideal) arg3.view (Rect.unit (s := S1x2048x256) o S1x256x256.size hb).toLoadRect (harg3.unread x1) (ix3 0 r l) = x1 (ix3 0 ⟨256 * n + r, by omega⟩ l) := by
  subst ho
  rw [View.readAt_eq_ld, harg3.read_unread]
  pointwise

/-- A tile of latents loaded at column `256 n`. -/
theorem lat_at (arg4 : Memref sig .tc .vmem S1x128x2048 .bf16) (harg4 : arg4.IsWhole) (x2 : Vec Ideal S1x128x2048 .bf16) (o : Fin 3 → ℕ) (n : ℕ) (hn : n < 8) (ho : o = ![0, 0, 256 * n])
    (hb : ∀ a, o a + S1x128x256.size a ≤ S1x128x2048.size a) (d : Fin 128) (r : Fin 256) :
    View.readAt (Elt Ideal) arg4.view (Rect.unit (s := S1x128x2048) o S1x128x256.size hb).toLoadRect (harg4.unread x2) (ix3 0 d r) = x2 (ix3 0 d ⟨256 * n + r, by omega⟩) := by
  subst ho
  rw [View.readAt_eq_ld, harg4.read_unread]
  pointwise

end Cert.KernelIdeal.Val

end
-- ==== Proof.Column.lean ====
/-
  ONE BLOCK OF THE KERNEL'S OUTPUT. From what the three input blocks hold (the scores the keys and queries make, real, and
  the latents, real), the running triples after `n` tiles are those of the online softmax over `256 n` keys (`after_col`), the masked last
  tile ends them at the query's own position, and the block stored holds the softmax averages (`out_at`).
-/
module

public import proofs.«01_k».proof.Proof.Read
public import proofs.«01_k».proof.Proof.Softmax

@[expose] public section

set_option maxRecDepth 16384

noncomputable section

namespace Cert.KernelIdeal.Val

open Idealize.ShloMosaic Idealize.ShloMosaic.TcCoe
open Cert.KernelIdeal Cert.KernelIdeal.Gen Cert.Softmax

/-- A head's state at query column `c` holds the online softmax's triple over `n` keys. -/
def Holds (σ w : ℕ → ℝ) (v : Fin 128 → ℕ → ℝ) (n : ℕ) (h : HS Ideal) (c : Fin 256) : Prop :=
  Col σ w v n (h.1 (ix2 0 c)) (h.2.1 (ix2 0 c)) fun d => h.2.2 (ix2 d c)

/-- A tile, its scores and weights real, keeps it. -/
theorem upd_holds {σ w : ℕ → ℝ} {v : Fin 128 → ℕ → ℝ} {n : ℕ} {h : HS Ideal} {c : Fin 256} (H : Holds σ w v n h c)
    (s p : FVec Ideal S256x256 .f32) (lt : Vec Ideal S1x128x256 .bf16) (hs : ∀ r : Fin 256, ∃ x : ℝ, s (ix2 r c) = x)
    (hv : ∀ (d : Fin 128) (r : Fin 256), lt (ix3 0 d r) = ((v d (n + r) : ℝ) : EReal))
    (hp : ∀ r : Fin 256, ∀ M' : ℝ, newMax s h.1 (ix2 0 c) = M' → p (ix2 r c) = ((w (n + r) * Real.exp (σ (n + r) - M') : ℝ) : EReal)) :
    Holds σ w v (n + 256) (upd s p lt h) c := by
  have := H.step (fun r => s (ix2 r c)) (fun r => p (ix2 r c)) (fun d r => lt (ix3 0 d r)) hs hv (fun r M' hM => hp r M' (by rw [newMax_at]; exact hM))
  unfold Holds
  rw [upd_l_at]
  simp only [upd_a_at]
  rw [show (upd s p lt h).1 = newMax s h.1 from rfl, newMax_at]
  exact this

/-- A tile all of whose keys are visible. -/
theorem stepU_holds {σ w : ℕ → ℝ} {v : Fin 128 → ℕ → ℝ} {n : ℕ} {h : HS Ideal} {c : Fin 256} (H : Holds σ w v n h c)
    (q kt : Vec Ideal S1x256x256 .bf16) (lt : Vec Ideal S1x128x256 .bf16)
    (hs : ∀ r : Fin 256, ∑ l : Fin 256, (kt (ix3 0 r l) : EReal) * q (ix3 0 c l) = ((σ (n + r) : ℝ) : EReal))
    (hv : ∀ (d : Fin 128) (r : Fin 256), lt (ix3 0 d r) = ((v d (n + r) : ℝ) : EReal)) (hw : ∀ r : Fin 256, w (n + r) = 1) :
    Holds σ w v (n + 256) (stepU q kt lt h) c := by
  have hsc : ∀ r : Fin 256, score kt q (ix2 r c) = ((σ (n + r) : ℝ) : EReal) := fun r => (score_at kt q r c).trans (hs r)
  refine upd_holds H _ _ lt (fun r => ⟨_, hsc r⟩) hv fun r M' hM => ?_
  rw [weight_at, hM, hsc, hw, one_mul, ← EReal.coe_sub]
  rfl

/-- The masked tile. -/
theorem stepM_holds {σ w : ℕ → ℝ} {v : Fin 128 → ℕ → ℝ} {n : ℕ} {h : HS Ideal} {c : Fin 256} (H : Holds σ w v n h c) (i : grid0.Coords)
    (q kt : Vec Ideal S1x256x256 .bf16) (lt : Vec Ideal S1x128x256 .bf16)
    (hs : ∀ r : Fin 256, ∑ l : Fin 256, (kt (ix3 0 r l) : EReal) * q (ix3 0 c l) = ((σ (n + r) : ℝ) : EReal))
    (hv : ∀ (d : Fin 128) (r : Fin 256), lt (ix3 0 d r) = ((v d (n + r) : ℝ) : EReal)) (hw : ∀ r : Fin 256, w (n + r) = if (r : ℕ) ≤ c then 1 else 0) :
    Holds σ w v (n + 256) (stepM (dmask i) q kt lt h) c := by
  have hsc : ∀ r : Fin 256, score kt q (ix2 r c) = ((σ (n + r) : ℝ) : EReal) := fun r => (score_at kt q r c).trans (hs r)
  refine upd_holds H _ _ lt (fun r => ?_) hv fun r M' hM => ?_
  · rw [maskS_at, mask_at]
    by_cases hr : (r : ℕ) ≤ c
    · rw [if_pos hr]; exact ⟨_, hsc r⟩
    · rw [if_neg hr]; exact big_real
  · rw [maskP_at, mask_at, weight_at, hM, hw]
    by_cases hr : (r : ℕ) ≤ c
    · rw [if_pos hr, if_pos hr, maskS_at, mask_at, if_pos hr, one_mul]
      show Ideal.exp (score kt q (ix2 r c) - _) = _
      rw [hsc, ← EReal.coe_sub]
      rfl
    · rw [if_neg hr, if_neg hr, zero_mul]
      exact Ideal.ofBits_zero_f32

section Block

variable (cc : Dev nD) (i : grid0.Coords) (arg2 : Memref sig .tc .vmem S1x256x1024 .bf16) (harg2 : arg2.IsWhole) (arg3 : Memref sig .tc .vmem S1x2048x256 .bf16) (harg3 : arg3.IsWhole) (arg4 : Memref sig .tc .vmem S1x128x2048 .bf16) (harg4 : arg4.IsWhole) (arg5 : Memref sig .tc .vmem S1x256x512 .bf16) (harg5 : arg5.IsWhole)
  (x0 : Vec Ideal S1x256x1024 .bf16) (x1 : Vec Ideal S1x2048x256 .bf16) (x2 : Vec Ideal S1x128x2048 .bf16)
  (σ : Fin 4 → Fin 256 → ℕ → ℝ) (v : Fin 128 → ℕ → ℝ)

/-- AFTER `n` TILES of the loop each head's column holds the triple over `256 n` keys. -/
theorem after_col (hs : ∀ (h : Fin 4) (c : Fin 256) (k : Fin 2048), ∑ l : Fin 256, (x1 (ix3 0 k l) : EReal) * x0 (ix3 0 c ⟨h * 256 + l, by omega⟩) = ((σ h c k : ℝ) : EReal))
    (hv : ∀ (d : Fin 128) (k : Fin 2048), x2 (ix3 0 d k) = ((v d k : ℝ) : EReal)) (h : Fin 4) (c : Fin 256) :
    ∀ n : ℕ, n ≤ (i 1).val → Holds (σ h c) (wt (256 * (i 1).val + c)) v (256 * n) (hd (after cc i arg2 harg2 arg3 harg3 arg4 harg4 arg5 harg5 x0 x1 x2 n) h) c
  | 0, _ => by
    show Holds _ _ _ _ (hd (pack fun _ => start) h) c
    rw [hd_pack]
    exact Col.zero _ _ _ _ _ _ big_real Ideal.ofBits_zero_f32 fun d => Ideal.ofBits_zero_f32
  | n + 1, hn => by
    have hi : (i 1).val < 8 := (i 1).isLt
    have hk : n < (k0_t1_loop i).trips := by rw [trips_eq]; omega
    have := st_k0_t1_succ Variants.none cc none i arg2 harg2 arg3 harg3 arg4 harg4 arg5 harg5 (qs arg2 (harg2.unread x0) 0) (qs arg2 (harg2.unread x0) 1) (qs arg2 (harg2.unread x0) 2) (qs arg2 (harg2.unread x0) 3)
      (harg3.unread x1) (harg4.unread x2) (pack fun _ => start) ⟨n, hk⟩
    show Holds _ _ _ _ (hd (st_k0_t1 _ _ _ _ _ _ _ _ _ _ _ _ _ _ _ _ _ _ _ (n + 1)) h) c
    rw [this, trip_eq, hd_pack]
    refine stepU_holds (after_col hs hv h c n (by omega)) _ _ _ (fun r => ?_) (fun d r => ?_) fun r => ?_
    · rw [Finset.sum_congr rfl fun l _ => by rw [key_at arg3 harg3 x1 _ n (by omega) (off1_eq i ⟨n, hk⟩), q_at]]
      exact hs h c ⟨256 * n + r, by omega⟩
    · rw [lat_at arg4 harg4 x2 _ n (by omega) (off2_eq i ⟨n, hk⟩)]
      exact hv d ⟨256 * n + r, by omega⟩
    · exact if_pos (by omega)

/-- THE BLOCK: head `h`'s feature `d` of query `c` is the softmax average over the keys up to the query's own. -/
theorem out_at (hs : ∀ (h : Fin 4) (c : Fin 256) (k : Fin 2048), ∑ l : Fin 256, (x1 (ix3 0 k l) : EReal) * x0 (ix3 0 c ⟨h * 256 + l, by omega⟩) = ((σ h c k : ℝ) : EReal))
    (hv : ∀ (d : Fin 128) (k : Fin 2048), x2 (ix3 0 d k) = ((v d k : ℝ) : EReal)) (h : Fin 4) (c : Fin 256) (d : Fin 128) :
    out0_A_3 cc i arg2 harg2 arg3 harg3 arg4 harg4 arg5 harg5 x0 x1 x2 (ix3 0 c ⟨h * 128 + d, by omega⟩)
      = ((avg (σ h c) (wt (256 * (i 1).val + c)) (v d) 2048 : ℝ) : EReal) := by
  have hi : (i 1).val < 8 := (i 1).isLt
  rw [out_eq, stored_at, trips_eq]
  have H : Holds (σ h c) (wt (256 * (i 1).val + c)) v (256 * (i 1).val + 256) (stepM (dmask i) (qs arg2 (harg2.unread x0) h)
          (View.readAt (Elt Ideal) arg3.view (Rect.unit (s := S1x2048x256) (k0_off5 i) S1x256x256.size (k0_off5_inb i)).toLoadRect (harg3.unread x1))
          (View.readAt (Elt Ideal) arg4.view (Rect.unit (s := S1x128x2048) (k0_off6 i) S1x128x256.size (k0_off6_inb i)).toLoadRect (harg4.unread x2))
          (hd (after cc i arg2 harg2 arg3 harg3 arg4 harg4 arg5 harg5 x0 x1 x2 (i 1).val) h)) c := by
    refine stepM_holds (after_col cc i arg2 harg2 arg3 harg3 arg4 harg4 arg5 harg5 x0 x1 x2 σ v hs hv h c _ le_rfl) i _ _ _ (fun r => ?_) (fun d r => ?_) fun r => ?_
    · rw [Finset.sum_congr rfl fun l _ => by rw [key_at arg3 harg3 x1 _ _ hi (off5_eq i), q_at]]
      exact hs h c ⟨256 * (i 1).val + r, by omega⟩
    · rw [lat_at arg4 harg4 x2 _ _ hi (off6_eq i)]
      exact hv d ⟨256 * (i 1).val + r, by omega⟩
    · unfold wt
      by_cases hr : (r : ℕ) ≤ c
      · rw [if_pos hr, if_pos (by omega)]
      · rw [if_neg hr, if_neg (by omega)]
  obtain ⟨h1, h2⟩ := Col.quot H (fun k => by unfold wt; split <;> norm_num) ⟨256 * (i 1).val + c, by omega, by rw [wt, if_pos le_rfl]; norm_num⟩
  rw [norm_at _ d c h1]
  refine (h2 d).trans ?_
  exact congrArg _ (avg_le (σ h c) (wt (256 * (i 1).val + c)) (v d) (256 * (i 1).val + 256) 2048 (by omega) fun k hk => if_neg (by omega))

end Block

end Cert.KernelIdeal.Val

end
-- ==== Proof.Host.lean ====
/-
  WHAT THE HOST CODE HANDS THE KERNEL: the packed and scaled queries, the keys, the latents in columns, read at an index.
-/
module

public import proofs.«01_k».proof.Proof.Column
public import Idealize.ShloMosaic.Lib.Pipeline.ValueKit
public import Idealize.ShloMosaic.Lib.StableHlo.RunClose

@[expose] public section

set_option maxRecDepth 16384

noncomputable section

namespace Cert.KernelIdeal.Val

open Idealize.ShloMosaic Idealize.ShloMosaic.TcCoe
open Cert.KernelIdeal Cert.KernelIdeal.Gen Cert.Softmax

variable (m : (ℓ : Loc nD τ sig) → Buf (Elt Ideal) ℓ)

/-- Three arrays of queries side by side. -/
def sideQ (X0 : FVec Ideal S16x2048x4x128 .f32) (X1 : FVec Ideal S16x2048x4x32 .f32) (Z : FVec Ideal S16x2048x4x96 .f32) : FVec Ideal S16x2048x4x256 .f32 :=
  concatenate S16x2048x4x256 3 [⟨S16x2048x4x128, X0⟩, ⟨S16x2048x4x32, X1⟩, ⟨S16x2048x4x96, Z⟩] concatenates_S16x2048x4x128_S16x2048x4x32_S16x2048x4x96_S16x2048x4x256_d3

/-- The heads joined into one row, scaled and rounded. -/
def scaled (Y : FVec Ideal S16x2048x4x256 .f32) : FVec Ideal S16x2048x1024 .bf16 :=
  truncf .bf16 (mulf (shapeCast S16x2048x1024 Y shapeCasts_S16x2048x4x256_S16x2048x1024) (broadcastInDim S16x2048x1024 ![] bcast_S_S16x2048x1024 (constant S_ .f32 0x3DD105EC#32))) bitsLt_bf16_f32

/-- Three arrays of keys side by side. -/
def sideK (X2 : FVec Ideal S16x2048x128 .f32) (X3 : FVec Ideal S16x2048x32 .f32) (Z : FVec Ideal S16x2048x96 .f32) : FVec Ideal S16x2048x256 .f32 :=
  concatenate S16x2048x256 2 [⟨S16x2048x128, X2⟩, ⟨S16x2048x32, X3⟩, ⟨S16x2048x96, Z⟩] concatenates_S16x2048x128_S16x2048x32_S16x2048x96_S16x2048x256_d2

/-- The zero lanes of the queries. -/
def zeroQ : FVec Ideal S16x2048x4x96 .f32 := broadcastInDim S16x2048x4x96 ![] bcast_S_S16x2048x4x96 (constant S_ .f32 0x00000000#32)

/-- The zero lanes of the keys. -/
def zeroK : FVec Ideal S16x2048x96 .f32 := broadcastInDim S16x2048x96 ![] bcast_S_S16x2048x96 (constant S_ .f32 0x00000000#32)

/-- The packed queries: latent, rotary and zero lanes side by side, scaled. -/
def mq (X0 : FVec Ideal S16x2048x4x128 .f32) (X1 : FVec Ideal S16x2048x4x32 .f32) : FVec Ideal S16x2048x1024 .bf16 := scaled (sideQ X0 X1 zeroQ)

/-- The keys: latent, rotary and zero lanes side by side. -/
def mk (X2 : FVec Ideal S16x2048x128 .f32) (X3 : FVec Ideal S16x2048x32 .f32) : FVec Ideal S16x2048x256 .bf16 := truncf .bf16 (sideK X2 X3 zeroK) bitsLt_bf16_f32

/-- The latents in columns. -/
def lat (X2 : FVec Ideal S16x2048x128 .f32) : FVec Ideal S16x128x2048 .bf16 :=
  truncf .bf16 (transpose S16x128x2048 [0, 2, 1] X2 transposes_S16x2048x128_S16x128x2048_0_2_1) bitsLt_bf16_f32

set_option maxHeartbeats 1000000 in
/-- The first argument of the launch is the packed queries. -/
theorem V_q (c : Dev nD) : V m c main_v6 = mq (m ((c : Thread nD τ).loc main_arg0)) (m ((c : Thread nD τ).loc main_arg1)) := by
  show StableHlo.after hostOps0 (fun b => m (c, b)) (Proc.devRef .tc main_v6) = _
  unfold mq scaled sideQ zeroQ
  after_results_entrywise (rounds := 1) []

set_option maxHeartbeats 1000000 in
/-- The second is the keys. -/
theorem V_k (c : Dev nD) : V m c main_v8 = mk (m ((c : Thread nD τ).loc main_arg2)) (m ((c : Thread nD τ).loc main_arg3)) := by
  show StableHlo.after hostOps0 (fun b => m (c, b)) (Proc.devRef .tc main_v8) = _
  unfold mk sideK zeroK
  after_results_entrywise (rounds := 1) []

/-- The third is the latents in columns. -/
theorem V_l (c : Dev nD) : V m c main_v10 = lat (m ((c : Thread nD τ).loc main_arg2)) := by
  unfold lat
  entry_read
  rfl

theorem zeroQ_at (b : Fin 16) (q : Fin 2048) (h : Fin 4) (l : Fin 96) : zeroQ (ix4 b q h l) = 0 := by
  pointwise [zeroQ]

theorem zeroK_at (b : Fin 16) (k : Fin 2048) (l : Fin 96) : zeroK (ix3 b k l) = 0 := by
  pointwise [zeroK]

theorem sideQ_at (X0 : FVec Ideal S16x2048x4x128 .f32) (X1 : FVec Ideal S16x2048x4x32 .f32) (Z : FVec Ideal S16x2048x4x96 .f32) (b : Fin 16) (q : Fin 2048) (h : Fin 4) (l : Fin 256) :
    sideQ X0 X1 Z (ix4 b q h l) = if h' : (l : ℕ) < 128 then X0 (ix4 b q h ⟨l, h'⟩) else if h'' : (l : ℕ) - 128 < 32 then X1 (ix4 b q h ⟨l - 128, h''⟩) else Z (ix4 b q h ⟨l - 128 - 32, by omega⟩) := by
  pointwise [sideQ]

theorem sideK_at (X2 : FVec Ideal S16x2048x128 .f32) (X3 : FVec Ideal S16x2048x32 .f32) (Z : FVec Ideal S16x2048x96 .f32) (b : Fin 16) (k : Fin 2048) (l : Fin 256) :
    sideK X2 X3 Z (ix3 b k l) = if h' : (l : ℕ) < 128 then X2 (ix3 b k ⟨l, h'⟩) else if h'' : (l : ℕ) - 128 < 32 then X3 (ix3 b k ⟨l - 128, h''⟩) else Z (ix3 b k ⟨l - 128 - 32, by omega⟩) := by
  pointwise [sideK]

theorem scaled_at (Y : FVec Ideal S16x2048x4x256 .f32) (b : Fin 16) (q : Fin 2048) (h : Fin 4) (l : Fin 256) :
    scaled Y (ix3 b q ⟨h * 256 + l, by omega⟩) = Y (ix4 b q h l) * (κ : EReal) := by
  pointwise [scaled]
  rw [scale_eq]

/-- The packed queries read at a head's lane. -/
theorem mq_at (X0 : FVec Ideal S16x2048x4x128 .f32) (X1 : FVec Ideal S16x2048x4x32 .f32) (b : Fin 16) (q : Fin 2048) (h : Fin 4) (l : Fin 256) :
    mq X0 X1 (ix3 b q ⟨h * 256 + l, by omega⟩) = (if h' : (l : ℕ) < 128 then X0 (ix4 b q h ⟨l, h'⟩) else if h'' : (l : ℕ) - 128 < 32 then X1 (ix4 b q h ⟨l - 128, h''⟩) else (0 : EReal)) * (κ : EReal) := by
  rw [mq, scaled_at, sideQ_at]
  simp only [zeroQ_at]

theorem round_at (Y : FVec Ideal S16x2048x256 .f32) (b : Fin 16) (k : Fin 2048) (l : Fin 256) : truncf .bf16 Y bitsLt_bf16_f32 (ix3 b k l) = Y (ix3 b k l) := rfl

/-- The keys read at a lane. -/
theorem mk_at (X2 : FVec Ideal S16x2048x128 .f32) (X3 : FVec Ideal S16x2048x32 .f32) (b : Fin 16) (k : Fin 2048) (l : Fin 256) :
    mk X2 X3 (ix3 b k l) = (if h' : (l : ℕ) < 128 then X2 (ix3 b k ⟨l, h'⟩) else if h'' : (l : ℕ) - 128 < 32 then X3 (ix3 b k ⟨l - 128, h''⟩) else (0 : EReal)) := by
  rw [mk, round_at, sideK_at]
  simp only [zeroK_at]

/-- The latents in columns. -/
theorem lat_arr_at (X2 : FVec Ideal S16x2048x128 .f32) (b : Fin 16) (d : Fin 128) (k : Fin 2048) : lat X2 (ix3 b d k) = X2 (ix3 b k d) := by
  pointwise [lat]

end Cert.KernelIdeal.Val

end
-- ==== Proof.Array.lean ====
/-
  THE KERNEL'S RESULT: the array the launch leaves is the attention's, at every index.
-/
module

public import proofs.«01_k».proof.Proof.Host
public import proofs.«01_k».proof.Proof.Gen.KernelIdeal.Value
public import Idealize.ShloMosaic.Lib.Pipeline.ValueKit

@[expose] public section

set_option maxRecDepth 16384

noncomputable section

namespace Cert.KernelIdeal.Val

open Idealize.ShloMosaic Idealize.ShloMosaic.TcCoe
open Cert.KernelIdeal Cert.KernelIdeal.Gen Cert.Softmax

variable (m : (ℓ : Loc nD τ sig) → Buf (Elt Ideal) ℓ)

/-- Which blocks a grid point reads and writes: the sequence of its first coordinate, and for the queries and the result the tile of its second. -/
theorem idx : ∀ t : Fin cfg0.N, win0_0.index t = ![(grid0.coords t 0).val, (grid0.coords t 1).val, 0] ∧ win0_1.index t = ![(grid0.coords t 0).val, 0, 0]
    ∧ win0_2.index t = ![(grid0.coords t 0).val, 0, 0] ∧ win0_3.index t = ![(grid0.coords t 0).val, (grid0.coords t 1).val, 0] :=
  (by decide +kernel : ∀ t : Fin grid0.N, _)

/-- A block of the queries, of any array. -/
theorem read0 (t : Fin cfg0.N) (f : FVec Ideal S16x2048x1024 .bf16) (r : Fin 256) (l : Fin 1024) :
    View.read (Elt Ideal) (win0_0.blk t).view f (ix3 0 r l) = f (ix3 (grid0.coords t 0) ⟨256 * (grid0.coords t 1).val + r, by have : (grid0.coords t 1).val < 8 := (grid0.coords t 1).isLt; omega⟩ l) := by
  show f _ = f _
  refine congrArg f ?_
  funext a
  fin_cases a
  all_goals apply Fin.ext
  all_goals blk_simp [idx t]
  · rfl
  · exact congrArg (· + r.val) (Nat.mul_comm _ _)
  · rfl

/-- A block of the keys, of any array. -/
theorem read1 (t : Fin cfg0.N) (f : FVec Ideal S16x2048x256 .bf16) (k : Fin 2048) (l : Fin 256) :
    View.read (Elt Ideal) (win0_1.blk t).view f (ix3 0 k l) = f (ix3 (grid0.coords t 0) k l) := by
  show f _ = f _
  refine congrArg f ?_
  funext a
  fin_cases a
  all_goals apply Fin.ext
  all_goals blk_simp [idx t]
  all_goals rfl

/-- A block of the latents' columns, of any array. -/
theorem read2 (t : Fin cfg0.N) (f : FVec Ideal S16x128x2048 .bf16) (d : Fin 128) (k : Fin 2048) :
    View.read (Elt Ideal) (win0_2.blk t).view f (ix3 0 d k) = f (ix3 (grid0.coords t 0) d k) := by
  show f _ = f _
  refine congrArg f ?_
  funext a
  fin_cases a
  all_goals apply Fin.ext
  all_goals blk_simp [idx t]
  all_goals rfl

theorem x0_at (c : Dev nD) (t : Fin cfg0.N) (r : Fin 256) (l : Fin 1024) :
    iblk m c 0 t (ix3 0 r l) = V m c main_v6 (ix3 (grid0.coords t 0) ⟨256 * (grid0.coords t 1).val + r, by have : (grid0.coords t 1).val < 8 := (grid0.coords t 1).isLt; omega⟩ l) :=
  read0 t (V m c main_v6) r l

theorem x1_at (c : Dev nD) (t : Fin cfg0.N) (k : Fin 2048) (l : Fin 256) :
    iblk m c 1 t (ix3 0 k l) = V m c main_v8 (ix3 (grid0.coords t 0) k l) :=
  read1 t (V m c main_v8) k l

theorem x2_at (c : Dev nD) (t : Fin cfg0.N) (d : Fin 128) (k : Fin 2048) :
    iblk m c 2 t (ix3 0 d k) = V m c main_v10 (ix3 (grid0.coords t 0) d k) :=
  read2 t (V m c main_v10) d k

/-- The scores of one query and one key over the packed lanes. -/
theorem packed_score (Q : Fin 16 → Fin 2048 → Fin 4 → Fin 128 → ℝ) (R : Fin 16 → Fin 2048 → Fin 4 → Fin 32 → ℝ) (C : Fin 16 → Fin 2048 → Fin 128 → ℝ) (K : Fin 16 → Fin 2048 → Fin 32 → ℝ)
    (X0 : FVec Ideal S16x2048x4x128 .f32) (X1 : FVec Ideal S16x2048x4x32 .f32) (X2 : FVec Ideal S16x2048x128 .f32) (X3 : FVec Ideal S16x2048x32 .f32)
    (h0 : ∀ b q h l, X0 (ix4 b q h l) = (Q b q h l : EReal)) (h1 : ∀ b q h l, X1 (ix4 b q h l) = (R b q h l : EReal)) (h2 : ∀ b k l, X2 (ix3 b k l) = (C b k l : EReal)) (h3 : ∀ b k l, X3 (ix3 b k l) = (K b k l : EReal))
    (b : Fin 16) (q : Fin 2048) (h : Fin 4) (k : Fin 2048) :
    ∑ l : Fin 256, (mk X2 X3 (ix3 b k l) : EReal) * mq X0 X1 (ix3 b q ⟨h * 256 + l, by omega⟩) = ((sc (Q b q h) (R b q h) (C b) (K b) k : ℝ) : EReal) := by
  rw [lanes (C b k) (Q b q h) (K b k) (R b q h) κ, sc, pos_val]
  intro l
  rw [mk_at, mq_at]
  by_cases hl : (l : ℕ) < 128
  · rw [dif_pos hl, dif_pos hl, dif_pos hl, h2, h0, ← EReal.coe_mul, ← EReal.coe_mul]
  · rw [dif_neg hl, dif_neg hl, dif_neg hl]
    by_cases hl' : (l : ℕ) - 128 < 32
    · rw [dif_pos hl', dif_pos hl', dif_pos hl', h3, h1, ← EReal.coe_mul, ← EReal.coe_mul]
    · rw [dif_neg hl', dif_neg hl', dif_neg hl', zero_mul]

/-- Where an element of the result's block lies. -/
theorem emb3 (t : Fin cfg0.N) (r : Fin 256) (l : Fin 512) :
    (win0_3.blk t).view.emb (ix3 0 r l) = (ix3 (grid0.coords t 0) ⟨256 * (grid0.coords t 1).val + r, by have : (grid0.coords t 1).val < 8 := (grid0.coords t 1).isLt; omega⟩ l : S16x2048x512.Idx) := by
  funext a
  fin_cases a
  all_goals apply Fin.ext
  all_goals blk_simp [idx t]
  · rfl
  · exact congrArg (· + r.val) (Nat.mul_comm _ _)
  · rfl

/-- The attention as an array: the lane says the head and the column. -/
def result (Q : Fin 16 → Fin 2048 → Fin 4 → Fin 128 → ℝ) (R : Fin 16 → Fin 2048 → Fin 4 → Fin 32 → ℝ) (C : Fin 16 → Fin 2048 → Fin 128 → ℝ) (K : Fin 16 → Fin 2048 → Fin 32 → ℝ) : FVec Ideal S16x2048x512 .f32 := fun j =>
  have h2 : (j 2).val < 512 := (j 2).isLt
  ((attn (Q (j 0) (j 1) ⟨(j 2).val / 128, by omega⟩) (R (j 0) (j 1) ⟨(j 2).val / 128, by omega⟩) (C (j 0)) (K (j 0)) (j 1 : Fin 2048) ⟨(j 2).val % 128, by omega⟩ : ℝ) : EReal)

theorem result_at (Q : Fin 16 → Fin 2048 → Fin 4 → Fin 128 → ℝ) (R : Fin 16 → Fin 2048 → Fin 4 → Fin 32 → ℝ) (C : Fin 16 → Fin 2048 → Fin 128 → ℝ) (K : Fin 16 → Fin 2048 → Fin 32 → ℝ)
    (b : Fin 16) (q : Fin 2048) (h : Fin 4) (d : Fin 128) : result Q R C K (ix3 b q ⟨h * 128 + d, by omega⟩) = ((attn (Q b q h) (R b q h) (C b) (K b) q d : ℝ) : EReal) := by
  have e1 : (⟨(h.val * 128 + d.val) / 128, by omega⟩ : Fin 4) = h := Fin.ext (by show (h.val * 128 + d.val) / 128 = h.val; omega)
  have e2 : (⟨(h.val * 128 + d.val) % 128, by omega⟩ : Fin 128) = d := Fin.ext (by show (h.val * 128 + d.val) % 128 = d.val; omega)
  show ((attn (Q b q ⟨(h.val * 128 + d.val) / 128, _⟩) (R b q ⟨(h.val * 128 + d.val) / 128, _⟩) (C b) (K b) q ⟨(h.val * 128 + d.val) % 128, _⟩ : ℝ) : EReal) = _
  rw [e1, e2]

/-- THE KERNEL'S RESULT over real arguments. -/
theorem array (c : Dev nD) (Q : Fin 16 → Fin 2048 → Fin 4 → Fin 128 → ℝ) (R : Fin 16 → Fin 2048 → Fin 4 → Fin 32 → ℝ) (C : Fin 16 → Fin 2048 → Fin 128 → ℝ) (K : Fin 16 → Fin 2048 → Fin 32 → ℝ)
    (X0 : FVec Ideal S16x2048x4x128 .f32) (X1 : FVec Ideal S16x2048x4x32 .f32) (X2 : FVec Ideal S16x2048x128 .f32) (X3 : FVec Ideal S16x2048x32 .f32)
    (e0 : m ((c : Thread nD τ).loc main_arg0) = X0) (e1 : m ((c : Thread nD τ).loc main_arg1) = X1) (e2 : m ((c : Thread nD τ).loc main_arg2) = X2) (e3 : m ((c : Thread nD τ).loc main_arg3) = X3)
    (h0 : ∀ b q h l, X0 (ix4 b q h l) = (Q b q h l : EReal)) (h1 : ∀ b q h l, X1 (ix4 b q h l) = (R b q h l : EReal)) (h2 : ∀ b k l, X2 (ix3 b k l) = (C b k l : EReal)) (h3 : ∀ b k l, X3 (ix3 b k l) = (K b k l : EReal)) :
    (dats m 0 c).arrAt 3 cfg0.N = result Q R C K := by
  refine (dats m 0 c).arrAt_eq_of_covers 3 _ (by decide +kernel) fun t _ y => ?_
  blk_simp
  rw [after0_3]
  obtain ⟨a, r, l, rfl⟩ : ∃ (a : Fin 1) (r : Fin 256) (l : Fin 512), y = ix3 a r l := ⟨y 0, y 1, y 2, by funext k; fin_cases k <;> rfl⟩
  obtain ⟨h, d, rfl⟩ : ∃ (h : Fin 4) (d : Fin 128), l = ⟨h * 128 + d, by omega⟩ := ⟨⟨l / 128, by omega⟩, ⟨l % 128, by omega⟩, Fin.ext (by show l.val = l.val / 128 * 128 + l.val % 128; omega)⟩
  obtain rfl : a = 0 := Subsingleton.elim _ _
  have ht : (grid0.coords t 1).val < 8 := (grid0.coords t 1).isLt
  have E := out_at c (grid0.coords t) (ms0_0 t) (hs0_0 t) (ms0_1 t) (hs0_1 t) (ms0_2 t) (hs0_2 t) (ms0_3 t) (hs0_3 t) (iblk m c 0 t) (iblk m c 1 t) (iblk m c 2 t)
    (fun h r k => sc (Q (grid0.coords t 0) ⟨256 * (grid0.coords t 1).val + r, by omega⟩ h) (R (grid0.coords t 0) ⟨256 * (grid0.coords t 1).val + r, by omega⟩ h) (C (grid0.coords t 0)) (K (grid0.coords t 0)) k)
    (fun d k => C (grid0.coords t 0) (pos k) d)
    (fun h r k => by
      refine (Finset.sum_congr rfl fun l _ => congrArg₂ (fun x y : EReal => x * y) ((x1_at m c t k l).trans (congrFun (V_k m c) _)) ((x0_at m c t r ⟨h * 256 + l, by omega⟩).trans (congrFun (V_q m c) _))).trans ?_
      rw [e0, e1, e2, e3]
      exact packed_score Q R C K X0 X1 X2 X3 h0 h1 h2 h3 _ _ h k)
    (fun d k => by
      refine (x2_at m c t d k).trans ((congrFun (V_l m c) _).trans ?_)
      rw [e2]
      exact (lat_arr_at X2 _ d k).trans ((h2 _ _ _).trans (by rw [pos_val]))) h r d
  refine E.trans ?_
  exact ((congrArg (result Q R C K) (emb3 t r ⟨h * 128 + d, by omega⟩)).trans (result_at Q R C K _ _ h d)).symm

end Cert.KernelIdeal.Val

end
-- ==== Proof.Plain.lean ====
/-
  WHAT THE REFERENCE COMPUTES, at the reals: the plain softmax attention, read at an index.
-/
module

public import proofs.«01_k».proof.Proof.Gen.ReferenceIdeal.Run
public import proofs.«01_k».proof.Proof.Softmax
public import Idealize.ShloMosaic.Lib.Pointwise
public import Idealize.ShloMosaic.Lib.WordCmp

@[expose] public section

set_option maxRecDepth 16384

noncomputable section

namespace Cert.ReferenceIdeal.Val

open Idealize.ShloMosaic Idealize.ShloMosaic.TcCoe
open Cert.ReferenceIdeal Cert.ReferenceIdeal.Gen Cert.Softmax

/-- The mask: a key is seen by the queries at and after its position. -/
def mask : IVec S16x4x2048x2048 1 :=
  broadcastInDim S16x4x2048x2048 ![0, 1, 2, 3] bcast_S1x1x2048x2048_S16x4x2048x2048_0_1_2_3 (broadcastInDim S1x1x2048x2048 ![2, 3] bcast_S2048x2048_S1x1x2048x2048_2_3 (cmpi .sle (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0)))))

variable (X0 : FVec Ideal S16x2048x4x128 .f32) (X1 : FVec Ideal S16x2048x4x32 .f32) (X2 : FVec Ideal S16x2048x128 .f32) (X3 : FVec Ideal S16x2048x32 .f32)

/-- The scores, the hidden ones at minus infinity. -/
def scores : FVec Ideal S16x4x2048x2048 .f32 :=
  select mask (mulf (addf (transpose S16x4x2048x2048 [0, 3, 2, 1] (Host.dotGeneral dot_S16x2048x128_S16x2048x4x128_S16x2048x2048x4_2_3_1_12_0_0 none X2 X0) transposes_S16x2048x2048x4_S16x4x2048x2048_0_3_2_1) (transpose S16x4x2048x2048 [0, 3, 2, 1] (Host.dotGeneral dot_S16x2048x32_S16x2048x4x32_S16x2048x2048x4_2_3_1_12_0_0 none X3 X1) transposes_S16x2048x2048x4_S16x4x2048x2048_0_3_2_1)) (broadcastInDim S16x4x2048x2048 ![] bcast_S_S16x4x2048x2048 (constant S_ .f32 0x3DD105EC#32))) (broadcastInDim S16x4x2048x2048 ![] bcast_S_S16x4x2048x2048 (id (constant S_ .f32 0xFF800000#32)))

/-- The row maxima. -/
def peak (s : FVec Ideal S16x4x2048x2048 .f32) : FVec Ideal S16x4x2048 .f32 :=
  Host.reduce FloatOps.maximumf s (constant S_ .f32 0xFF800000#32) reducesTo_S16x4x2048x2048_S16x4x2048_d3 h_S_

/-- Never below minus infinity. -/
def top (x : FVec Ideal S16x4x2048 .f32) : FVec Ideal S16x4x2048 .f32 :=
  maximumf (broadcastInDim S16x4x2048 ![] bcast_S_S16x4x2048 (constant S_ .f32 0xFF800000#32)) x

/-- The exponentials. -/
def expo (s : FVec Ideal S16x4x2048x2048 .f32) (M : FVec Ideal S16x4x2048 .f32) : FVec Ideal S16x4x2048x2048 .f32 :=
  Host.exp (subf s (broadcastInDim S16x4x2048x2048 ![0, 1, 2, 3] bcast_S16x4x2048x1_S16x4x2048x2048_0_1_2_3 (broadcastInDim S16x4x2048x1 ![0, 1, 2] bcast_S16x4x2048_S16x4x2048x1_0_1_2 M)))

/-- The probabilities, the hidden ones at zero. -/
def probs (e : FVec Ideal S16x4x2048x2048 .f32) : FVec Ideal S16x4x2048x2048 .f32 :=
  select mask (Host.divf e (broadcastInDim S16x4x2048x2048 ![0, 1, 2, 3] bcast_S16x4x2048x1_S16x4x2048x2048_0_1_2_3 (broadcastInDim S16x4x2048x1 ![0, 1, 2] bcast_S16x4x2048_S16x4x2048x1_0_1_2 (Host.reduceAdd e (constant S_ .f32 0x00000000#32) reducesTo_S16x4x2048x2048_S16x4x2048_d3 h_S_)))) (broadcastInDim S16x4x2048x2048 ![] bcast_S_S16x4x2048x2048 (id (constant S_ .f32 0x00000000#32)))

/-- The averaged latents, heads side by side. -/
def averaged (p : FVec Ideal S16x4x2048x2048 .f32) : FVec Ideal S16x2048x512 .bf16 :=
  truncf .bf16 (shapeCast S16x2048x512 (transpose S16x2048x4x128 [0, 3, 2, 1] (Host.dotGeneral dot_S16x2048x128_S16x4x2048x2048_S16x128x4x2048_1_3_2_12_0_0 none X2 p) transposes_S16x128x4x2048_S16x2048x4x128_0_3_2_1) shapeCasts_S16x2048x4x128_S16x2048x512) bitsLt_bf16_f32

/-- The reference's result is these steps. -/
def whole : FVec Ideal S16x2048x512 .bf16 := averaged X2 (probs (expo (scores X0 X1 X2 X3) (top (peak (scores X0 X1 X2 X3)))))

theorem res_eq (m : (ℓ : Loc nD τ sig) → Buf (Elt Ideal) ℓ) (c : Dev nD) :
    Cert.ReferenceIdeal.Value.res_main_v31 m c = whole (m ((c.tc : Thread nD τ).loc main_arg0)) (m ((c.tc : Thread nD τ).loc main_arg1)) (m ((c.tc : Thread nD τ).loc main_arg2)) (m ((c.tc : Thread nD τ).loc main_arg3)) := rfl

theorem mask_at (b : Fin 16) (h : Fin 4) (q k : Fin 2048) : mask (ix4 b h q k) = if (k : ℕ) ≤ q then 1#1 else 0#1 := by
  have hq := q.isLt
  have hk := k.isLt
  pointwise [mask]
  simp (disch := omega) only [hlo_ix]
  by_cases h : (k : ℕ) ≤ q
  · rw [if_pos h]; simp [h]
  · rw [if_neg h]; simp [h]

theorem scores_at (b : Fin 16) (h : Fin 4) (q k : Fin 2048) :
    scores X0 X1 X2 X3 (ix4 b h q k) = Scalar.select (mask (ix4 b h q k)) ((∑ l : Fin 128, X2 (ix3 b k l) * X0 (ix4 b q h l) + ∑ l : Fin 32, X3 (ix3 b k l) * X1 (ix4 b q h l)) * Ideal.ofBits .f32 0x3DD105EC#32) (Ideal.ofBits .f32 0xFF800000#32) := by
  pointwise [scores]
  rfl

theorem peak_at (s : FVec Ideal S16x4x2048x2048 .f32) (b : Fin 16) (h : Fin 4) (q : Fin 2048) :
    peak s (ix3 b h q) = Finset.univ.fold max (Ideal.ofBits .f32 0xFF800000#32) fun k : Fin 2048 => s (ix4 b h q k) := by
  pointwise [peak]

theorem top_at (x : FVec Ideal S16x4x2048 .f32) (b : Fin 16) (h : Fin 4) (q : Fin 2048) :
    top x (ix3 b h q) = max (Ideal.ofBits .f32 0xFF800000#32) (x (ix3 b h q)) := by
  pointwise [top]

theorem expo_at (s : FVec Ideal S16x4x2048x2048 .f32) (M : FVec Ideal S16x4x2048 .f32) (b : Fin 16) (h : Fin 4) (q k : Fin 2048) :
    expo s M (ix4 b h q k) = Ideal.exp (s (ix4 b h q k) - M (ix3 b h q)) := by
  pointwise [expo]

theorem probs_at (e : FVec Ideal S16x4x2048x2048 .f32) (b : Fin 16) (h : Fin 4) (q k : Fin 2048) :
    probs e (ix4 b h q k) = Scalar.select (mask (ix4 b h q k)) (Ideal.div (e (ix4 b h q k)) (0 + ∑ j : Fin 2048, e (ix4 b h q j))) (0 : EReal) := by
  pointwise [probs]
  rw [show (id (constant (F := Ideal) S_ .f32 0x00000000#32) ix0 : EReal) = 0 from Ideal.ofBits_zero_f32]

theorem averaged_at (p : FVec Ideal S16x4x2048x2048 .f32) (b : Fin 16) (q : Fin 2048) (h : Fin 4) (d : Fin 128) :
    averaged X2 p (ix3 b q ⟨h * 128 + d, by omega⟩) = ∑ k : Fin 2048, X2 (ix3 b k d) * p (ix4 b h q k) := by
  pointwise [averaged]

/-- THE REFERENCE'S RESULT over real arguments: the attention's. -/
theorem whole_at (Q : Fin 16 → Fin 2048 → Fin 4 → Fin 128 → ℝ) (R : Fin 16 → Fin 2048 → Fin 4 → Fin 32 → ℝ) (C : Fin 16 → Fin 2048 → Fin 128 → ℝ) (K : Fin 16 → Fin 2048 → Fin 32 → ℝ)
    (h0 : ∀ b q h l, X0 (ix4 b q h l) = (Q b q h l : EReal)) (h1 : ∀ b q h l, X1 (ix4 b q h l) = (R b q h l : EReal)) (h2 : ∀ b k l, X2 (ix3 b k l) = (C b k l : EReal)) (h3 : ∀ b k l, X3 (ix3 b k l) = (K b k l : EReal))
    (b : Fin 16) (q : Fin 2048) (h : Fin 4) (d : Fin 128) :
    whole X0 X1 X2 X3 (ix3 b q ⟨h * 128 + d, by omega⟩) = ((attn (Q b q h) (R b q h) (C b) (K b) q d : ℝ) : EReal) := by
  have hs : ∀ k : Fin 2048, scores X0 X1 X2 X3 (ix4 b h q k) = if (k : ℕ) ≤ q then ((sc (Q b q h) (R b q h) (C b) (K b) k : ℝ) : EReal) else ⊥ := fun k => by
    rw [scores_at, mask_at]
    by_cases hk : (k : ℕ) ≤ q
    · rw [if_pos hk, if_pos hk]
      show (_ + _) * _ = _
      rw [Finset.sum_congr rfl fun l _ => (by rw [h2, h0, ← EReal.coe_mul] : X2 (ix3 b k l) * X0 (ix4 b q h l) = ((C b k l * Q b q h l : ℝ) : EReal)),
        Finset.sum_congr rfl fun l _ => (by rw [h3, h1, ← EReal.coe_mul] : X3 (ix3 b k l) * X1 (ix4 b q h l) = ((K b k l * R b q h l : ℝ) : EReal)),
        coe_sum, coe_sum, ← EReal.coe_add, scale_eq, ← EReal.coe_mul, sc, pos_val]
    · rw [if_neg hk, if_neg hk]
      exact neg_inf
  rw [whole, averaged_at]
  rw [attn, ← plain (sc (Q b q h) (R b q h) (C b) (K b)) (wt q) (fun k => C b (pos k) d) 2048 (fun k => k ≤ q) (fun k => rfl) ⟨q, q.isLt, le_rfl⟩
    (fun k => scores X0 X1 X2 X3 (ix4 b h q k)) hs (top (peak (scores X0 X1 X2 X3)) (ix3 b h q)) (by rw [top_at, peak_at, neg_inf]) (fun k => X2 (ix3 b k d)) (fun k => by rw [h2, pos_val])]
  refine Finset.sum_congr rfl fun k _ => congrArg _ ?_
  rw [probs_at, mask_at]
  simp only [expo_at]
  by_cases hk : (k : ℕ) ≤ q
  · rw [if_pos hk, if_pos hk]; rfl
  · rw [if_neg hk, if_neg hk]; rfl

end Cert.ReferenceIdeal.Val

end
-- ==== Proof.Pre.lean ====
/-
  THE PRECONDITION: every argument element is a real number.
-/
module

public import proofs.«01_k».proof.Defs
public import Idealize.ShloMosaic.Lib.ReduceAll
public import Idealize.ShloMosaic.Lib.Pointwise

@[expose] public section

set_option maxRecDepth 16384

noncomputable section

namespace Cert.Pre_finite

open Idealize.ShloMosaic

/-- What the predicate's operations ask of its shapes. -/
theorem facts : Facts := by
  constructor <;> decide

attribute [local instance] facts
open Facts

/-- An element whose magnitude is below plus infinity is a real. -/
theorem real_of_lt {s : Shape} (x y : FVec Ideal s .f32) (i : s.Idx) (hy : y i = Ideal.ofBits .f32 0x7F800000#32) (h : cmpf .olt (Host.absf x) y i = 1#1) :
    x i = ((EReal.toReal (x i) : ℝ) : EReal) := by
  have e : (⊤ : EReal) = Ideal.ofBits .f32 0x7F800000#32 := by simp [Ideal.ofBits, Ideal.ieee]
  rw [← e] at hy
  have : max (x i) (-(x i)) < y i := by
    by_contra hn
    revert h
    show Ideal.cmp .olt (max (x i) (-(x i))) (y i) = 1#1 → False
    rw [Ideal.cmp]; simp [hn]
  rw [hy, max_lt_iff] at this
  refine (EReal.coe_toReal this.1.ne fun hb => ?_).symm
  rw [hb] at this
  exact absurd this.2 (by simp)

instance : Subsingleton S_.Idx := ⟨fun a b => funext fun k => k.elim0⟩

/-- The precondition in words: every element of every argument is a real. -/
theorem reals (a : FVec Ideal S16x2048x4x128 .f32) (b : FVec Ideal S16x2048x4x32 .f32) (c : FVec Ideal S16x2048x128 .f32) (d : FVec Ideal S16x2048x32 .f32)
    (h : fn (F := Ideal) a b c d = fun _ => 1#1) :
    (∀ i, a i = ((EReal.toReal (a i) : ℝ) : EReal)) ∧ (∀ i, b i = ((EReal.toReal (b i) : ℝ) : EReal)) ∧ (∀ i, c i = ((EReal.toReal (c i) : ℝ) : EReal)) ∧ (∀ i, d i = ((EReal.toReal (d i) : ℝ) : EReal)) := by
  have h0 := congrFun h (fun k => k.elim0)
  unfold fn fn_part1 at h0
  obtain ⟨h1, hd⟩ := IntOp.andi_eq_one.1 h0
  obtain ⟨h2, hc⟩ := IntOp.andi_eq_one.1 h1
  obtain ⟨ha, hb⟩ := IntOp.andi_eq_one.1 h2
  exact ⟨fun i => real_of_lt a _ i rfl (Host.reduce_andi_all _ _ _ _ _ ha i), fun i => real_of_lt b _ i rfl (Host.reduce_andi_all _ _ _ _ _ hb i),
    fun i => real_of_lt c _ i rfl (Host.reduce_andi_all _ _ _ _ _ hc i), fun i => real_of_lt d _ i rfl (Host.reduce_andi_all _ _ _ _ _ hd i)⟩

end Cert.Pre_finite

end
-- ==== Proof.IdealBody.lean ====
/-
  THE EXPERT FEED-FORWARD BODY, run once at a grid point. The branch taken is a matter of one word of the second table, so the two
  runs are two theorems: below the number of used tiles the body leaves the feed-forward tile in its output buffer, from there on zeros.
-/
module

public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.Kernel2Ideal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel2Ideal Cert.Kernel2Ideal.Gen

variable {F : FTy → Type} [FloatOps F]

local notation "𝕄" => MT nD τ sig Unit (Elt F) ℕ (UR sig nD τ) ℕ

/-- The table of experts and the table of the number of used tiles, whole. -/
abbrev teM : Memref sig .tc .smem S289 .i32 := Memref.whole main_arg1
abbrev nuM : Memref sig .tc .smem S1 .i32 := Memref.whole main_arg2
abbrev hteM : teM.IsWhole := Memref.isWhole_whole _
abbrev hnuM : nuM.IsWhole := Memref.isWhole_whole _

/-- A table's contents on a core, and the half of it the body holds while it runs. -/
abbrev Words (c : Dev nD) {S : Shape} {e : EltTy} (M : Memref sig .tc .smem S e) : Type := Buf (Elt F) (M.view.loc (c : Thread nD τ))
abbrev half (c : Dev nD) {S : Shape} {e : EltTy} (M : Memref sig .tc .smem S e) (f : Words (F := F) c M) : sProp 𝕄 :=
  M.view.loc (c : Thread nD τ) ↦{fullShare.right} f

/-- Exactly one of the body's two branches is taken. -/
theorem cond_cases (i : grid0.Coords) (w : BitVec 32) : (k0_cond1 i w = 1#1 ∧ ¬ k0_cond2 i w = 1#1) ∨ (¬ k0_cond1 i w = 1#1 ∧ k0_cond2 i w = 1#1) := by
  unfold k0_cond1 k0_cond2
  simp only [Scalar.cmpi, Scalar.extui, IntOp.cmpi, BitVec.sle, BitVec.slt]
  by_cases h : (BitVec.ofNat 32 (i 0).val).toInt < w.toInt
  · left; rw [decide_eq_true h, decide_eq_false (by omega)]; decide
  · right; rw [decide_eq_false h, decide_eq_true (by omega)]; decide

set_option maxHeartbeats 1000000 in
/-- Below the number of used tiles: the output buffer ends at the feed-forward tile of the point's blocks. -/
theorem busy_run (c : Dev nD) (i : grid0.Coords) (a3 : Memref sig .tc .vmem S256x1024 .bf16) (h3 : a3.IsWhole) (a4 : Memref sig .tc .vmem S1x1x1024x256 .f32) (h4 : a4.IsWhole)
    (a5 : Memref sig .tc .vmem S1x1x1024x256 .f32) (h5 : a5.IsWhole) (a6 : Memref sig .tc .vmem S1x1x256x1024 .f32) (h6 : a6.IsWhole) (a7 : Memref sig .tc .vmem S256x1024 .bf16) (h7 : a7.IsWhole)
    (x0 : Vec F S256x1024 .bf16) (x1 : Vec F S1x1x1024x256 .f32) (x2 : Vec F S1x1x1024x256 .f32) (x3 : Vec F S1x1x256x1024 .f32) (te : Words (F := F) c teM) (nu : Words (F := F) c nuM)
    (on : ∀ j, k0_cond1 i (nu j) = 1#1) (off : ∀ j, ¬ k0_cond2 i (nu j) = 1#1) (E : Set ℕ) (K : PUnit → sProp 𝕄) :
    iprop(owns (c : Thread nD τ) a3 fullShare x0 ∗ owns (c : Thread nD τ) a4 fullShare x1 ∗ owns (c : Thread nD τ) a5 fullShare x2 ∗ owns (c : Thread nD τ) a6 fullShare x3 ∗ (∃ d, owns (c : Thread nD τ) a7 fullShare d) ∗ half c teM te ∗ half c nuM nu
        ∗ (iprop(owns (c : Thread nD τ) a3 fullShare x0 ∗ owns (c : Thread nD τ) a4 fullShare x1 ∗ owns (c : Thread nD τ) a5 fullShare x2 ∗ owns (c : Thread nD τ) a6 fullShare x3 ∗ owns (c : Thread nD τ) a7 fullShare (k0_pay1 x0 x1 x2 x3) ∗ half c teM te ∗ half c nuM nu) -∗ K ⟨⟩))
      ⊢ wp frame (wpE (defs₀ (F := F)) Variants.none c none) E (cc0_expert_ffn i teM hteM nuM hnuM a3 h3 a4 h4 a5 h5 a6 h6 a7 h7) K := by
  simp only [cc0_expert_ffn_eq_skeleton]; unfold cc0_expert_ffn_skel
  unfold owns
  iintro ⟨⟨%f0, %hf0, H0⟩, ⟨%f1, %hf1, H1⟩, ⟨%f2, %hf2, H2⟩, ⟨%f3, %hf3, H3⟩, ⟨%d4, %f4, -, H4⟩, HT0, HT1, Hk⟩
  obtain rfl := h3.eq_unread hf0; obtain rfl := h4.eq_unread hf1; obtain rfl := h5.eq_unread hf2; obtain rfl := h6.eq_unread hf3
  sl_exec
  sl_step
  iapply Hk
  isplitl [H0]
  · iexists _; isplitr; · ipureintro; exact h3.read_unread _
    iexact H0
  isplitl [H1]
  · iexists _; isplitr; · ipureintro; exact h4.read_unread _
    iexact H1
  isplitl [H2]
  · iexists _; isplitr; · ipureintro; exact h5.read_unread _
    iexact H2
  isplitl [H3]
  · iexists _; isplitr; · ipureintro; exact h6.read_unread _
    iexact H3
  isplitl [H4]
  · iexists _; isplitr
    swap; · iexact H4
    ipureintro
    refine (View.read_writes_full _ _ _ _ _).trans ?_
    rw [View.readAt_full a3.view, View.readAt_full a4.view, View.readAt_full a5.view, View.readAt_full a6.view, hf0, hf1, hf2, hf3]
  isplitl [HT0]; · iexact HT0
  iexact HT1

set_option maxHeartbeats 1000000 in
/-- From the number of used tiles on: the output buffer ends at zeros. -/
theorem spare_run (c : Dev nD) (i : grid0.Coords) (a3 : Memref sig .tc .vmem S256x1024 .bf16) (h3 : a3.IsWhole) (a4 : Memref sig .tc .vmem S1x1x1024x256 .f32) (h4 : a4.IsWhole)
    (a5 : Memref sig .tc .vmem S1x1x1024x256 .f32) (h5 : a5.IsWhole) (a6 : Memref sig .tc .vmem S1x1x256x1024 .f32) (h6 : a6.IsWhole) (a7 : Memref sig .tc .vmem S256x1024 .bf16) (h7 : a7.IsWhole)
    (x0 : Vec F S256x1024 .bf16) (x1 : Vec F S1x1x1024x256 .f32) (x2 : Vec F S1x1x1024x256 .f32) (x3 : Vec F S1x1x256x1024 .f32) (te : Words (F := F) c teM) (nu : Words (F := F) c nuM)
    (off : ∀ j, ¬ k0_cond1 i (nu j) = 1#1) (on : ∀ j, k0_cond2 i (nu j) = 1#1) (E : Set ℕ) (K : PUnit → sProp 𝕄) :
    iprop(owns (c : Thread nD τ) a3 fullShare x0 ∗ owns (c : Thread nD τ) a4 fullShare x1 ∗ owns (c : Thread nD τ) a5 fullShare x2 ∗ owns (c : Thread nD τ) a6 fullShare x3 ∗ (∃ d, owns (c : Thread nD τ) a7 fullShare d) ∗ half c teM te ∗ half c nuM nu
        ∗ (iprop(owns (c : Thread nD τ) a3 fullShare x0 ∗ owns (c : Thread nD τ) a4 fullShare x1 ∗ owns (c : Thread nD τ) a5 fullShare x2 ∗ owns (c : Thread nD τ) a6 fullShare x3 ∗ owns (c : Thread nD τ) a7 fullShare (k0_pay2 (F := F)) ∗ half c teM te ∗ half c nuM nu) -∗ K ⟨⟩))
      ⊢ wp frame (wpE (defs₀ (F := F)) Variants.none c none) E (cc0_expert_ffn i teM hteM nuM hnuM a3 h3 a4 h4 a5 h5 a6 h6 a7 h7) K := by
  simp only [cc0_expert_ffn_eq_skeleton]; unfold cc0_expert_ffn_skel
  unfold owns
  iintro ⟨⟨%f0, %hf0, H0⟩, ⟨%f1, %hf1, H1⟩, ⟨%f2, %hf2, H2⟩, ⟨%f3, %hf3, H3⟩, ⟨%d4, %f4, -, H4⟩, HT0, HT1, Hk⟩
  obtain rfl := h3.eq_unread hf0; obtain rfl := h4.eq_unread hf1; obtain rfl := h5.eq_unread hf2; obtain rfl := h6.eq_unread hf3
  sl_exec
  sl_step
  iapply Hk
  isplitl [H0]
  · iexists _; isplitr; · ipureintro; exact h3.read_unread _
    iexact H0
  isplitl [H1]
  · iexists _; isplitr; · ipureintro; exact h4.read_unread _
    iexact H1
  isplitl [H2]
  · iexists _; isplitr; · ipureintro; exact h5.read_unread _
    iexact H2
  isplitl [H3]
  · iexists _; isplitr; · ipureintro; exact h6.read_unread _
    iexact H3
  isplitl [H4]
  · iexists _; isplitr
    swap; · iexact H4
    ipureintro
    exact View.read_writes_full _ _ _ _ _
  isplitl [HT0]; · iexact HT0
  iexact HT1

end Cert.Kernel2Ideal.Ffn

end
-- ==== Proof.IdealRun.lean ====
/-
  THE EXPERT FEED-FORWARD CALL, launched. Each grid point's blocks are read off the arrays under the two tables, the body's two runs give what
  every point leaves in the output's buffer, and the library's pipeline theorem turns that into the run of the whole program.
  Everything is under `Ok`: the blocks the table of experts names lie inside the weights.
-/
module

public import proofs.«01_k».proof.Proof.IdealBody
public import Idealize.ShloMosaic.Lib.Claim
public import Idealize.ShloMosaic.Lib.Pipeline.Kit

@[expose] public section

set_option maxRecDepth 16384

noncomputable section

namespace Cert.Kernel2Ideal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A core's arrays when the call begins: the host's rounding of the rows has run. -/
abbrev V (c : Dev nD) (b : Ref sig .tc) : Buf (Elt F) ((c : Thread nD τ).loc b) := StableHlo.after hostOps0 (fun b => m (c, b)) b

theorem host_fresh : (hostOps0 : List (HloOp τ sig (Elt F))).Forall fun op => op.fresh = ∅ := by
  simp only [List.Forall]; repeat' constructor

set_option maxHeartbeats 800000 in
/-- The program is its host operation and then the call. -/
theorem prefixed (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub host_fresh main_chain

/-- The host operation writes one buffer only. -/
theorem V_of_ne (c : Dev nD) (b : Ref sig .tc) (h : b ≠ main_v0) : V m c b = m ((c : Thread nD τ).loc b) :=
  StableHlo.after_of_forall_not_mem (b := Proc.devRef .tc b) _ _ (List.forall_iff_forall_mem.mp (by
    simp only [hostOps0, List.flatten_cons, List.flatten_nil, List.append_nil, List.cons_append, List.nil_append, List.Forall, StableHlo.unary_writes, Finset.mem_singleton]
    repeat' apply And.intro
    all_goals exact StableHlo.devRef_ne_of_ne h))

/-- The tables when the call begins. There is one device. -/
def tbl : pre0.Contents (Elt F) := fun j => V m (0 : Dev nD) (pre0.ref j)

theorem V_pre (c : Dev nD) (j : Fin 2) : V m c (pre0.ref j) = tbl m j := by
  obtain rfl : c = 0 := Subsingleton.elim _ _; rfl

/-- The blocks named by the tables lie inside their arrays. -/
abbrev Ok : Prop := ok0 (F := F) (tbl m)

/-- They do when the table of experts names experts that exist. -/
theorem ok_of (h : ∀ j, ((tbl m 0) j).toNat < 32) : Ok m := by
  refine ⟨fun i => ⟨fun a => ?_, Or.inl rfl⟩, fun i => ⟨fun a => ?_, Or.inl rfl⟩, fun i => ⟨fun a => ?_, Or.inl rfl⟩⟩
  all_goals
    fin_cases a
    · exact Nat.le_refl _
    · exact (Nat.mul_one _).trans_le (h _)
    · exact Nat.le_refl _
    · exact Nat.le_refl _

variable (hO : Ok m)

abbrev adm : (pcfg0 (F := F)).Adm := ⟨tbl m, hO⟩
abbrev cfgM : Pipeline.Cfg sig Λ₀ := cfg0 (adm m hO)

theorem tables_eq (c : Dev nD) : (Pipeline.ΦT pre0 (tbl m) c : sProp 𝕄) = iprop(half c teM (tbl m 0) ∗ half c nuM (tbl m 1)) := by
  unfold Pipeline.ΦT Pipeline.prefHeld
  rw [show (Finset.univ : Finset (Fin 2)) = insert (0 : Fin 2) {(1 : Fin 2)} from by decide, bigSep_insert (by decide), bigSep_singleton]
  rfl

/-- The number of used tiles. -/
def used : BitVec 32 := (tbl m).atD 1 ![0]

theorem used_eq (j : S1.Idx) : (tbl m 1) j = used m := by
  unfold used
  refine Eq.symm ((dif_pos (by intro a; fin_cases a; decide)).trans (congrArg (tbl m 1) (funext fun a => ?_)))
  fin_cases a
  exact Fin.ext (by have h : (j 0).val < 1 := (j 0).isLt; show 0 = (j 0).val; omega)

/-- A window's block at a point. -/
def iblk (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- What a point leaves in the output's buffer. -/
def left (c : Dev nD) (t : Fin (cfgM m hO).N) : Vec F S256x1024 .bf16 :=
  if k0_cond1 (grid0.coords t) (used m) = 1#1 then k0_pay1 (iblk m hO c 0 t) (iblk m hO c 1 t) (iblk m hO c 2 t) (iblk m hO c 3 t) else k0_pay2

/-- The pipeline's data: inputs stay at their blocks, the output's buffer is what the point leaves. -/
def dats (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => left m hO c t
  Φ _ := iprop(Pipeline.ΦA spec0 c ∗ Pipeline.ΦT pre0 (tbl m) c)
  q _ := fullShare
  owed _ := 0

theorem A_eq (c : Dev nD) (w : Fin (cfgM m hO).W) : (dats m hO 0 c).A w = V m c (Pipeline.arrRef spec0 w) := by dsimp only [dats]

theorem after_0 (c : Dev nD) (t : Fin (cfgM m hO).N) : (dats m hO 0 c).after 0 t = iblk m hO c 0 t := by dsimp only [dats]; try rfl
theorem after_1 (c : Dev nD) (t : Fin (cfgM m hO).N) : (dats m hO 0 c).after 1 t = iblk m hO c 1 t := by dsimp only [dats]; try rfl
theorem after_2 (c : Dev nD) (t : Fin (cfgM m hO).N) : (dats m hO 0 c).after 2 t = iblk m hO c 2 t := by dsimp only [dats]; try rfl
theorem after_3 (c : Dev nD) (t : Fin (cfgM m hO).N) : (dats m hO 0 c).after 3 t = iblk m hO c 3 t := by dsimp only [dats]; try rfl
theorem after_4 (c : Dev nD) (t : Fin (cfgM m hO).N) : (dats m hO 0 c).after 4 t = left m hO c t := by dsimp only [dats]; try rfl

/-- An input's buffer holds the point's block when the body starts, fetched there or kept from the point before. -/
theorem before_0 (c : Dev nD) (t : Fin (cfgM m hO).N) (d) : (dats m hO 0 c).before 0 t d = iblk m hO c 0 t :=
  ((dats m hO 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin (cfgM m hO).N) (d) : (dats m hO 0 c).before 1 t d = iblk m hO c 1 t :=
  ((dats m hO 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin (cfgM m hO).N) (d) : (dats m hO 0 c).before 2 t d = iblk m hO c 2 t :=
  ((dats m hO 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin (cfgM m hO).N) (d) : (dats m hO 0 c).before 3 t d = iblk m hO c 3 t :=
  ((dats m hO 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)

/-- The current buffer of each window at a point, as the pipeline passes it. -/
abbrev b0 (t : Fin (cfgM m hO).N) : Memref sig .tc .vmem S256x1024 .bf16 := spec0_0.stage ((cfgM m hO).slots t 0)
abbrev b1 (t : Fin (cfgM m hO).N) : Memref sig .tc .vmem S1x1x1024x256 .f32 := spec0_1.stage ((cfgM m hO).slots t 1)
abbrev b2 (t : Fin (cfgM m hO).N) : Memref sig .tc .vmem S1x1x1024x256 .f32 := spec0_2.stage ((cfgM m hO).slots t 2)
abbrev b3 (t : Fin (cfgM m hO).N) : Memref sig .tc .vmem S1x1x256x1024 .f32 := spec0_3.stage ((cfgM m hO).slots t 3)
abbrev b4 (t : Fin (cfgM m hO).N) : Memref sig .tc .vmem S256x1024 .bf16 := spec0_4.stage ((cfgM m hO).slots t 4)

/-- The body as the pipeline calls it at a point. -/
abbrev bodyAt (t : Fin (cfgM m hO).N) : Prog (TpuEff nD τ sig (Elt F) Λ₀ .tc) PUnit :=
  cc0_expert_ffn (grid0.coords t) teM hteM nuM hnuM (b0 m hO t) (hstage0_0 (((cfgM m hO).slots t 0).cast nbuf0_0)) (b1 m hO t) (hstage0_1 (((cfgM m hO).slots t 1).cast nbuf0_1))
    (b2 m hO t) (hstage0_2 (((cfgM m hO).slots t 2).cast nbuf0_2)) (b3 m hO t) (hstage0_3 (((cfgM m hO).slots t 3).cast nbuf0_3)) (b4 m hO t) (hstage0_4 (((cfgM m hO).slots t 4).cast nbuf0_4))

/-- What the body is given at a point and what it gives back. -/
def given (c : Dev nD) (t : Fin (cfgM m hO).N) : sProp 𝕄 :=
  iprop((dats m hO 0 c).Φ t.castSucc ∗ (dats m hO 0 c).owesAt () t.castSucc
    ∗ (∃ d, owns (c : Thread nD τ) (b0 m hO t) fullShare ((dats m hO 0 c).before 0 t d))
    ∗ (∃ d, owns (c : Thread nD τ) (b1 m hO t) fullShare ((dats m hO 0 c).before 1 t d))
    ∗ (∃ d, owns (c : Thread nD τ) (b2 m hO t) fullShare ((dats m hO 0 c).before 2 t d))
    ∗ (∃ d, owns (c : Thread nD τ) (b3 m hO t) fullShare ((dats m hO 0 c).before 3 t d))
    ∗ (∃ d, owns (c : Thread nD τ) (b4 m hO t) fullShare ((dats m hO 0 c).before 4 t d)))
def back (c : Dev nD) (t : Fin (cfgM m hO).N) : sProp 𝕄 :=
  iprop((dats m hO 0 c).Φ t.succ ∗ (dats m hO 0 c).owesAt () t.succ
    ∗ owns (c : Thread nD τ) (b0 m hO t) fullShare ((dats m hO 0 c).after 0 t)
    ∗ owns (c : Thread nD τ) (b1 m hO t) fullShare ((dats m hO 0 c).after 1 t)
    ∗ owns (c : Thread nD τ) (b2 m hO t) fullShare ((dats m hO 0 c).after 2 t)
    ∗ owns (c : Thread nD τ) (b3 m hO t) fullShare ((dats m hO 0 c).after 3 t)
    ∗ owns (c : Thread nD τ) (b4 m hO t) fullShare ((dats m hO 0 c).after 4 t))

/-- The body at any point, by the run of the branch its word takes. -/
theorem point (c : Dev nD) (t : Fin (cfgM m hO).N) :
    given m hO c t ⊢ wp frame (wpE (defs₀ (F := F)) Variants.none c none) Set.univ (bodyAt m hO t) (fun _ => back m hO c t) := by
  unfold given back bodyAt
  simp only [before_0, before_1, before_2, before_3]
  rw [show (dats m hO 0 c).Φ t.succ = (dats m hO 0 c).Φ t.castSucc from rfl,
    show (dats m hO 0 c).owesAt () t.succ = (dats m hO 0 c).owesAt () t.castSucc from rfl,
    after_0, after_1, after_2, after_3, after_4]
  rw [show (dats m hO 0 c).Φ t.castSucc = iprop(Pipeline.ΦA spec0 c ∗ Pipeline.ΦT pre0 (tbl m) c) from rfl, tables_eq]
  unfold left
  iintro ⟨⟨HΦ, ⟨HT0, HT1⟩⟩, Ho, ⟨%d0, H0⟩, ⟨%d1, H1⟩, ⟨%d2, H2⟩, ⟨%d3, H3⟩, ⟨%d4, H4⟩⟩
  rcases cond_cases (grid0.coords t) (used m) with ⟨on, off⟩ | ⟨off, on⟩
  · rw [if_pos on]
    iapply (busy_run c (grid0.coords t) _ _ _ _ _ _ _ _ _ _ (iblk m hO c 0 t) (iblk m hO c 1 t) (iblk m hO c 2 t) (iblk m hO c 3 t) (tbl m 0) (tbl m 1)
      (fun j => by rw [used_eq m j]; exact on) (fun j => by rw [used_eq m j]; exact off) Set.univ _)
    isplitl [H0]; · iexact H0
    isplitl [H1]; · iexact H1
    isplitl [H2]; · iexact H2
    isplitl [H3]; · iexact H3
    isplitl [H4]; · iexists _; iexact H4
    isplitl [HT0]; · iexact HT0
    isplitl [HT1]; · iexact HT1
    iintro ⟨H0, H1, H2, H3, H4, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    isplitl [H2]; · iexact H2
    isplitl [H3]; · iexact H3
    iexact H4
  · rw [if_neg off]
    iapply (spare_run c (grid0.coords t) _ _ _ _ _ _ _ _ _ _ (iblk m hO c 0 t) (iblk m hO c 1 t) (iblk m hO c 2 t) (iblk m hO c 3 t) (tbl m 0) (tbl m 1)
      (fun j => by rw [used_eq m j]; exact off) (fun j => by rw [used_eq m j]; exact on) Set.univ _)
    isplitl [H0]; · iexact H0
    isplitl [H1]; · iexact H1
    isplitl [H2]; · iexact H2
    isplitl [H3]; · iexact H3
    isplitl [H4]; · iexists _; iexact H4
    isplitl [HT0]; · iexact HT0
    isplitl [HT1]; · iexact HT1
    iintro ⟨H0, H1, H2, H3, H4, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    isplitl [H2]; · iexact H2
    isplitl [H3]; · iexact H3
    iexact H4

theorem row (t : Fin (cfgM m hO).N) : defs₀ (F := F) .tc (cfgM m hO).body ((cfgM m hO).bodyArgs t ((cfgM m hO).slots t)) = bodyAt m hO t := by
  unfold defs₀; rw [Defs.onTc_tc]

/-- No point leaves the output's buffer alone. -/
theorem live (t : Fin (cfgM m hO).N) : (cfgM m hO).idle 4 ((cfgM m hO).grid.coords t) = false := by
  show (!(k0_cond1 (grid0.coords t) (used m) == 1#1) && !(k0_cond2 (grid0.coords t) (used m) == 1#1)) = false
  rcases cond_cases (grid0.coords t) (used m) with ⟨on, _⟩ | ⟨_, on⟩ <;> rw [on] <;> simp

/-- So every point leaves it at what the data say. -/
theorem leaves_4 (c : Dev nD) (t : Fin (cfgM m hO).N) :
    ((dats m hO 0 c).leavesExact 4 t : sProp 𝕄) = owns (c : Thread nD τ) (b4 m hO t) fullShare ((dats m hO 0 c).after 4 t) := by
  unfold Dat.leavesExact
  rw [live m hO t]
  rfl

theorem back_eq (c : Dev nD) (t : Fin (cfgM m hO).N) : back m hO c t = iprop((dats m hO 0 c).Φ t.succ ∗ (dats m hO 0 c).owesAt () t.succ
    ∗ owns (c : Thread nD τ) (b0 m hO t) fullShare ((dats m hO 0 c).after 0 t)
    ∗ owns (c : Thread nD τ) (b1 m hO t) fullShare ((dats m hO 0 c).after 1 t)
    ∗ owns (c : Thread nD τ) (b2 m hO t) fullShare ((dats m hO 0 c).after 2 t)
    ∗ owns (c : Thread nD τ) (b3 m hO t) fullShare ((dats m hO 0 c).after 3 t)
    ∗ (dats m hO 0 c).leavesExact 4 t) := by
  rw [leaves_4]; rfl

set_option maxHeartbeats 4000000 in
/-- The library's obligation on the body, at every point. -/
theorem obligation (c : Dev nD) : BodyObligation (dats (F := F) m hO 0 c) (defs₀ (F := F)) Variants.none () Set.univ := fun t => by
  rw [bigSep_W0, bigSep_W0, row m hO]
  exact triple_restated (point m hO c t) rfl .rfl fun _ => by
    rw [back_eq]
    exact .rfl

set_option backward.isDefEq.respectTransparency.types false in
/-- THE RUN: it terminates with every array at what the pipeline's data give, the rest as found, and every counter at zero. -/
theorem run : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (obligation m hO c).loose) (hshare := fun c => (dats m hO 0 c).share_full fun _ => rfl)
    (howed := fun _ _ => rfl) (V := V m) (hmain := prefixed m Variants.none) (hA := A_eq m hO) (hpf := V_pre m) (hΦ := fun _ _ => rfl)

/-- What the final state holds, in words: the result at what the pipeline wrote, the arguments as they were, the counters at zero. -/
theorem final : θ_run defs (onTc (τ := τ) (main (F := F))) ⟨m, fun _ => 0, ρ⟩ (fun r => (∀ c : Dev nD,
      r.2.mem ((c.tc : Thread nD τ).loc main_v1) = (dats m hO 0 c).arrAt 4 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(h.1 c).1 4,
      ((h.1 c).2 main_arg0 (by decide : main_arg0 ∈ Pipeline.restRefs sig spec0)).trans (V_of_ne m c main_arg0 (by decide)),
      ((h.1 c).2 main_arg1 (by decide : main_arg1 ∈ Pipeline.restRefs sig spec0)).trans (V_of_ne m c main_arg1 (by decide)),
      ((h.1 c).2 main_arg2 (by decide : main_arg2 ∈ Pipeline.restRefs sig spec0)).trans (V_of_ne m c main_arg2 (by decide)),
      ((h.1 c).1 1).trans (((dats m hO 0 c).arrAt_in 1 rfl _).trans ((A_eq m hO c 1).trans (V_of_ne m c main_arg3 (by decide)))),
      ((h.1 c).1 2).trans (((dats m hO 0 c).arrAt_in 2 rfl _).trans ((A_eq m hO c 2).trans (V_of_ne m c main_arg4 (by decide)))),
      ((h.1 c).1 3).trans (((dats m hO 0 c).arrAt_in 3 rfl _).trans ((A_eq m hO c 3).trans (V_of_ne m c main_arg5 (by decide))))⟩, h.2⟩) (run m ρ hO)

/-- THE FRAME: the arguments end as they were and the counters at zero. -/
theorem framed (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => (h.1 c).2, h.2⟩) (final m ρ hO)

end Cert.Kernel2Ideal.Ffn

end
-- ==== Proof.Expert.lean ====
/-
  THE EXPERT FEED-FORWARD IN MATHEMATICS, at the extended reals.
-/
module

public import Idealize.ShloMosaic.Lib.Pointwise

@[expose] public section

noncomputable section

namespace Cert.Expert

open Idealize.ShloMosaic

/-- One row through one expert: the gate's product times its logistic, times the other product, back by the last weights. -/
def ffn (x : Fin 1024 → EReal) (g u : Fin 1024 → Fin 256 → EReal) (d : Fin 256 → EReal) : EReal :=
  ∑ f : Fin 256, (∑ l : Fin 1024, x l * g l f) * Ideal.div 1 (1 + Ideal.exp (-(∑ l : Fin 1024, x l * g l f))) * (∑ l : Fin 1024, x l * u l f) * d f

end Cert.Expert

end
-- ==== Proof.Pre2.lean ====
/-
  THE SECOND PRECONDITION: the table of experts names experts that exist.
-/
module

public import proofs.«01_k».proof.Defs
public import Idealize.ShloMosaic.Lib.ReduceAll
public import Idealize.ShloMosaic.Lib.Pointwise
public import Idealize.ShloMosaic.Lib.StableHlo.Predicate

@[expose] public section

set_option maxRecDepth 16384

noncomputable section

namespace Cert.Pre_in_range

open Idealize.ShloMosaic

/-- What the predicate's operations ask of its shapes. -/
theorem facts : Facts := by
  constructor <;> decide

attribute [local instance] facts
open Facts

instance : Subsingleton S_.Idx := ⟨fun a b => funext fun k => k.elim0⟩

/-- A word between zero and thirty-two, as a signed comparison says it, is one of thirty-two numbers. -/
theorem small (w : BitVec 32) (h0 : IntOp.cmpi .sge w 0#32 = 1#1) (h1 : IntOp.cmpi .slt w 32#32 = 1#1) : w.toNat < 32 := by
  unfold IntOp.cmpi at h0 h1
  simp only [BitVec.sle, BitVec.slt] at h0 h1
  have e0 : (0#32 : BitVec 32).toInt = 0 := by decide
  have e1 : (32#32 : BitVec 32).toInt = 32 := by decide
  rw [e0] at h0; rw [e1] at h1
  have g0 : 0 ≤ w.toInt := by by_contra hn; rw [decide_eq_false hn] at h0; exact absurd h0 (by decide)
  have g1 : w.toInt < 32 := by by_contra hn; rw [decide_eq_false hn] at h1; exact absurd h1 (by decide)
  have := w.isLt
  rw [BitVec.toInt_eq_toNat_cond] at g0 g1
  split at g0 <;> omega

/-- The precondition in words: every entry of the table of experts is below thirty-two. -/
theorem words {F : FTy → Type} [FloatOps F] (a : FVec F S73984x1024 .f32) (te : IVec S289 32) (nu : IVec S1 32) (g u : FVec F S2x32x1024x256 .f32) (d : FVec F S2x32x256x1024 .f32)
    (h : fn a te nu g u d = fun _ => 1#1) (j : S289.Idx) : (te j).toNat < 32 := by
  have h0 := congrFun h (fun k => k.elim0)
  unfold fn at h0
  obtain ⟨ha, hb⟩ := IntOp.andi_eq_one.1 (Host.reduce_andi_all _ _ _ _ _ h0 j)
  exact small (te j) ha hb

end Cert.Pre_in_range

end
-- ==== Proof.Array2.lean ====
/-
  THE EXPERT FEED-FORWARD KERNEL'S RESULT as an array: each tile's rows through the tile's expert while the tile is used, zeros after.
-/
module

public import proofs.«01_k».proof.Proof.IdealRun
public import proofs.«01_k».proof.Proof.Expert
public import proofs.«01_k».proof.Proof.Pre2
public import Idealize.ShloMosaic.Lib.Pointwise
public import Idealize.ShloMosaic.Lib.Pipeline.ValueKit
public import Idealize.ShloMosaic.Lib.StableHlo.RunClose
public import Idealize.ShloMosaic.Lib.Pipeline.Covers

@[expose] public section

set_option maxRecDepth 16384

noncomputable section

namespace Cert.Kernel2Ideal.Ffn

open Idealize.ShloMosaic Idealize.ShloMosaic.TcCoe
open Cert.Kernel2Ideal Cert.Kernel2Ideal.Gen

/-- The tile a used point stores. -/
theorem pay1_at (x : Vec Ideal S256x1024 .bf16) (g u : Vec Ideal S1x1x1024x256 .f32) (d : Vec Ideal S1x1x256x1024 .f32) (r : Fin 256) (j : Fin 1024) :
    k0_pay1 (F := Ideal) x g u d (ix2 r j) = Cert.Expert.ffn (fun l => x (ix2 r l)) (fun l f => g (ix4 0 0 l f)) (fun l f => u (ix4 0 0 l f)) (fun f => d (ix4 0 0 f j)) := by
  pointwise [k0_pay1, Cert.Expert.ffn]
  rfl

/-- The tile the other points store. -/
theorem pay2_at (r : Fin 256) (j : Fin 1024) : (k0_pay2 (F := Ideal) (ix2 r j) : EReal) = 0 := by
  pointwise [k0_pay2]

/-- The first branch is taken where the point's number is below the number of used tiles. -/
theorem cond1_iff (i : grid0.Coords) (w : BitVec 32) : k0_cond1 i w = 1#1 ↔ IntOp.cmpi .slt (BitVec.ofNat 32 (i 0).val) w = 1#1 := by
  unfold k0_cond1
  simp only [Scalar.cmpi, Scalar.extui]
  generalize IntOp.cmpi .slt (BitVec.ofNat 32 (i 0).val) w = b
  revert b
  decide

/-- The one coordinate of a point is its number. -/
theorem coord (t : Fin grid0.N) : (grid0.coords t 0).val = t.val := (by decide +kernel : ∀ t : Fin grid0.N, (grid0.coords t 0).val = t.val) t

/-- A point's number among the tiles. -/
def tile (t : Fin grid0.N) : Fin 289 := ⟨t.val, t.isLt⟩

/-- A point's number as a word. -/
theorem coord_word (t : Fin grid0.N) : (BitVec.ofNat 32 (grid0.coords t 0).val).toNat = t.val := by
  have h : t.val < 289 := t.isLt
  rw [coord, BitVec.toNat_ofNat]
  omega

variable (m : (ℓ : Loc nD τ sig) → Buf (Elt Ideal) ℓ) (hO : Ok m)

/-- The entry of the table of experts an index map reads at a point is the point's own. -/
theorem word_at (i : grid0.Coords) (hi : ∀ a, (![(BitVec.ofNat 32 (i 0).val).toNat] : Fin 1 → Nat) a + S1.size a ≤ S289.size a) (h1 : S1.numel = 1) :
    (tbl m).at 0 (Rect.unit (s := S289) ![(BitVec.ofNat 32 (i 0).val).toNat] S1.size hi) h1 = tbl m 0 (ix1 (i 0 : Fin 289)) := by
  refine congrArg (tbl m 0) (funext fun a => ?_)
  fin_cases a
  apply Fin.ext
  have h : (i 0).val < 289 := (i 0).isLt
  show (BitVec.ofNat 32 (i 0).val).toNat + 1 * 0 = (i 0).val
  rw [BitVec.toNat_ofNat]
  omega

/-- A point's expert. -/
theorem expert_at (t : Fin grid0.N) (hi : ∀ a, (![(BitVec.ofNat 32 (grid0.coords t 0).val).toNat] : Fin 1 → Nat) a + S1.size a ≤ S289.size a) (h1 : S1.numel = 1) (e : Fin 32) (he : tbl m 0 (ix1 (tile t)) = BitVec.ofNat 32 e) :
    ((tbl m).at 0 (Rect.unit (s := S289) ![(BitVec.ofNat 32 (grid0.coords t 0).val).toNat] S1.size hi) h1).toNat = e.val := by
  rw [word_at, show (grid0.coords t 0 : Fin 289) = tile t from Fin.ext (coord t), he]
  have := e.isLt
  show (BitVec.ofNat 32 e.val).toNat = e.val
  rw [BitVec.toNat_ofNat]
  omega

/-- Where a window's block lies in its array: row tiles by the point's number, weights by the tile's expert. -/
theorem read0 (t : Fin (cfgM m hO).N) (f : FVec Ideal S73984x1024 .bf16) (r : Fin 256) (l : Fin 1024) :
    View.read (Elt Ideal) (((cfgM m hO).win 0).blk t).view f (ix2 r l) = f (ix2 ⟨t.val * 256 + r, by have h : t.val < 289 := t.isLt; omega⟩ l) := by
  show f _ = f _
  refine congrArg f ?_
  funext a
  fin_cases a
  all_goals apply Fin.ext
  all_goals blk_simp
  · exact congrArg (· * 256 + r.val) (coord_word t)
  · exact (congrArg (· + l.val) (Nat.zero_mul _)).trans (Nat.zero_add _)

theorem read1 (t : Fin (cfgM m hO).N) (f : FVec Ideal S2x32x1024x256 .f32) (e : Fin 32) (he : tbl m 0 (ix1 (tile t)) = BitVec.ofNat 32 e) (l : Fin 1024) (k : Fin 256) :
    View.read (Elt Ideal) (((cfgM m hO).win 1).blk t).view f (ix4 0 0 l k) = f (ix4 1 e l k) := by
  show f _ = f _
  refine congrArg f ?_
  funext a
  fin_cases a
  all_goals apply Fin.ext
  all_goals blk_simp
  · rfl
  · exact expert_at m t _ _ e he
  · exact (congrArg (· + l.val) (Nat.zero_mul _)).trans (Nat.zero_add _)
  · exact (congrArg (· + k.val) (Nat.zero_mul _)).trans (Nat.zero_add _)

theorem read2 (t : Fin (cfgM m hO).N) (f : FVec Ideal S2x32x1024x256 .f32) (e : Fin 32) (he : tbl m 0 (ix1 (tile t)) = BitVec.ofNat 32 e) (l : Fin 1024) (k : Fin 256) :
    View.read (Elt Ideal) (((cfgM m hO).win 2).blk t).view f (ix4 0 0 l k) = f (ix4 1 e l k) := by
  show f _ = f _
  refine congrArg f ?_
  funext a
  fin_cases a
  all_goals apply Fin.ext
  all_goals blk_simp
  · rfl
  · exact expert_at m t _ _ e he
  · exact (congrArg (· + l.val) (Nat.zero_mul _)).trans (Nat.zero_add _)
  · exact (congrArg (· + k.val) (Nat.zero_mul _)).trans (Nat.zero_add _)

theorem read3 (t : Fin (cfgM m hO).N) (f : FVec Ideal S2x32x256x1024 .f32) (e : Fin 32) (he : tbl m 0 (ix1 (tile t)) = BitVec.ofNat 32 e) (k : Fin 256) (j : Fin 1024) :
    View.read (Elt Ideal) (((cfgM m hO).win 3).blk t).view f (ix4 0 0 k j) = f (ix4 1 e k j) := by
  show f _ = f _
  refine congrArg f ?_
  funext a
  fin_cases a
  all_goals apply Fin.ext
  all_goals blk_simp
  · rfl
  · exact expert_at m t _ _ e he
  · exact (congrArg (· + k.val) (Nat.zero_mul _)).trans (Nat.zero_add _)
  · exact (congrArg (· + j.val) (Nat.zero_mul _)).trans (Nat.zero_add _)

/-- Where an element of the result's block lies. -/
theorem emb4 (t : Fin (cfgM m hO).N) (r : Fin 256) (j : Fin 1024) :
    (((cfgM m hO).win 4).blk t).view.emb (ix2 r j) = (ix2 ⟨t.val * 256 + r, by have h : t.val < 289 := t.isLt; omega⟩ j : S73984x1024.Idx) := by
  funext a
  fin_cases a
  all_goals apply Fin.ext
  all_goals blk_simp
  · exact congrArg (· * 256 + r.val) (coord_word t)
  · exact (congrArg (· + j.val) (Nat.zero_mul _)).trans (Nat.zero_add _)

/-- The host's rounding of the rows. -/
theorem V_rows (c : Dev nD) : V m c main_v0 = (truncf .bf16 (m ((c : Thread nD τ).loc main_arg0) : FVec Ideal S73984x1024 .f32) Facts₀.bitsLt_bf16_f32 : FVec Ideal S73984x1024 .bf16) := by
  entry_read
  rfl

/-- Every block of the result's array, by its two block numbers, is the index map's at some point. -/
theorem reached (β : Fin 2 → Nat) (h0 : β 0 < 289) (h1 : β 1 < 1) : ∃ i : grid0.Coords, ∀ a, cc0_transform_4 i a = β a := by
  refine ⟨fun a => ⟨β 0, by fin_cases a; exact h0⟩, fun a => ?_⟩
  fin_cases a
  · show (BitVec.ofNat 32 (β 0)).toNat = β 0
    rw [BitVec.toNat_ofNat]
    omega
  · show 0 = β 1
    omega

/-- So the points' blocks cover the result. -/
theorem covers : ((cfgM m hO).win 4).Covers :=
  Pipeline.Window.covers_of_indexMap_surj _ rfl (show ∀ a : Fin 2, 0 < S256x1024.size a by decide) fun β =>
    reached (fun a => (β a).val) (Nat.lt_of_lt_of_eq (β (0 : Fin 2)).isLt (show (73984 + 256 - 1) / 256 = 289 by decide))
      (Nat.lt_of_lt_of_eq (β (1 : Fin 2)).isLt (show (1024 + 1024 - 1) / 1024 = 1 by decide))

/-- An index of a tile is a row and a column. -/
theorem places (y : S256x1024.Idx) : ∃ (r : Fin 256) (j : Fin 1024), y = ix2 r j := ⟨y 0, y 1, by funext k; fin_cases k <;> rfl⟩

/-- What a point leaves, at the arguments. -/
theorem left_at (t : Fin (cfgM m hO).N) (X : FVec Ideal S73984x1024 .f32) (nu : IVec S1 32) (Wg Wu : FVec Ideal S2x32x1024x256 .f32) (Wd : FVec Ideal S2x32x256x1024 .f32)
    (e0 : m (((0 : Dev nD) : Thread nD τ).loc main_arg0) = X) (hu : used m = nu (ix1 0))
    (e3 : m (((0 : Dev nD) : Thread nD τ).loc main_arg3) = Wg) (e4 : m (((0 : Dev nD) : Thread nD τ).loc main_arg4) = Wu) (e5 : m (((0 : Dev nD) : Thread nD τ).loc main_arg5) = Wd)
    (e : Fin 32) (he : tbl m 0 (ix1 (tile t)) = BitVec.ofNat 32 e) (r : Fin 256) (j : Fin 1024) :
    left m hO 0 t (ix2 r j) = if IntOp.cmpi .slt (BitVec.ofNat 32 (tile t)) (nu (ix1 0)) = 1#1 then
          Cert.Expert.ffn (fun l => X (ix2 ⟨tile t * 256 + r, by omega⟩ l)) (fun l f => Wg (ix4 1 e l f)) (fun l f => Wu (ix4 1 e l f)) (fun f => Wd (ix4 1 e f j)) else 0 := by
  have on : k0_cond1 (grid0.coords t) (used m) = 1#1 ↔ IntOp.cmpi .slt (BitVec.ofNat 32 (tile t)) (nu (ix1 0)) = 1#1 := by
    rw [hu, cond1_iff, coord]
    rfl
  have b0 : ∀ l, iblk m hO 0 0 t (ix2 r l) = X (ix2 ⟨tile t * 256 + r, by omega⟩ l) := fun l =>
    (read0 m hO t (V m 0 main_v0) r l).trans ((congrFun (V_rows m 0) _).trans (congrFun e0 _))
  have b1 : ∀ l f, iblk m hO 0 1 t (ix4 0 0 l f) = Wg (ix4 1 e l f) := fun l f =>
    (read1 m hO t (V m 0 main_arg3) e he l f).trans (congrFun ((V_of_ne m 0 main_arg3 (by decide)).trans e3) _)
  have b2 : ∀ l f, iblk m hO 0 2 t (ix4 0 0 l f) = Wu (ix4 1 e l f) := fun l f =>
    (read2 m hO t (V m 0 main_arg4) e he l f).trans (congrFun ((V_of_ne m 0 main_arg4 (by decide)).trans e4) _)
  have b3 : ∀ f, iblk m hO 0 3 t (ix4 0 0 f j) = Wd (ix4 1 e f j) := fun f =>
    (read3 m hO t (V m 0 main_arg5) e he f j).trans (congrFun ((V_of_ne m 0 main_arg5 (by decide)).trans e5) _)
  unfold left
  by_cases h : k0_cond1 (grid0.coords t) (used m) = 1#1
  · rw [if_pos h, if_pos (on.mp h)]
    refine (pay1_at _ _ _ _ r j).trans ?_
    exact congr (congr (congr (congrArg Cert.Expert.ffn (funext b0)) (funext fun l => funext fun f => b1 l f)) (funext fun l => funext fun f => b2 l f)) (funext b3)
  · rw [if_neg h, if_neg fun h' => h (on.mpr h')]
    exact pay2_at r j

/-- THE KERNEL'S RESULT is any array that holds, tile by tile, the rows' feed-forward through the tile's expert while the tile is used and zeros after. -/
theorem array (c : Dev nD) (X : FVec Ideal S73984x1024 .f32) (te : IVec S289 32) (nu : IVec S1 32) (Wg Wu : FVec Ideal S2x32x1024x256 .f32) (Wd : FVec Ideal S2x32x256x1024 .f32)
    (e0 : m ((c : Thread nD τ).loc main_arg0) = X) (e1 : m ((c : Thread nD τ).loc main_arg1) = te) (e2 : m ((c : Thread nD τ).loc main_arg2) = nu)
    (e3 : m ((c : Thread nD τ).loc main_arg3) = Wg) (e4 : m ((c : Thread nD τ).loc main_arg4) = Wu) (e5 : m ((c : Thread nD τ).loc main_arg5) = Wd)
    (hte : ∀ j, (te j).toNat < 32) (G : FVec Ideal S73984x1024 .bf16)
    (hG : ∀ (t : Fin 289) (e : Fin 32), te (ix1 t) = BitVec.ofNat 32 e → ∀ (r : Fin 256) (j : Fin 1024), G (ix2 ⟨t * 256 + r, by omega⟩ j)
      = if IntOp.cmpi .slt (BitVec.ofNat 32 t) (nu (ix1 0)) = 1#1 then
          Cert.Expert.ffn (fun l => X (ix2 ⟨t * 256 + r, by omega⟩ l)) (fun l f => Wg (ix4 1 e l f)) (fun l f => Wu (ix4 1 e l f)) (fun f => Wd (ix4 1 e f j)) else 0) :
    (dats m hO 0 c).arrAt 4 (cfgM m hO).N = G := by
  obtain rfl : c = 0 := Subsingleton.elim _ _
  refine (dats m hO 0 0).arrAt_eq_of_covers 4 _ (covers m hO) fun t _ y => ?_
  rw [after_4]
  obtain ⟨r, j, rfl⟩ := places y
  have ht : tbl m 0 (ix1 (tile t)) = te (ix1 (tile t)) := congrFun ((V_of_ne m 0 main_arg1 (by decide)).trans e1) _
  have hu : used m = nu (ix1 0) := (used_eq m (ix1 0)).symm.trans (congrFun ((V_of_ne m 0 main_arg2 (by decide)).trans e2) _)
  obtain ⟨e, he⟩ : ∃ e : Fin 32, te (ix1 (tile t)) = BitVec.ofNat 32 e := ⟨⟨(te (ix1 (tile t))).toNat, hte _⟩, by simp⟩
  have hg := hG (tile t) e he r j
  refine Eq.trans ?_ ((congrArg G (emb4 m hO t r j)).trans hg).symm
  exact left_at m hO t X nu Wg Wu Wd e0 hu e3 e4 e5 e (ht.trans he) r j

end Cert.Kernel2Ideal.Ffn

end
-- ==== Proof.Plain2.lean ====
/-
  WHAT THE SECOND REFERENCE COMPUTES, at the extended reals: every expert's feed-forward, weighted by the one-hot row of the tile's expert.
-/
module

public import proofs.«01_k».proof.Proof.Gen.Reference2Ideal.Run
public import proofs.«01_k».proof.Proof.Expert
public import Idealize.ShloMosaic.Lib.Pointwise
public import Idealize.ShloMosaic.Lib.WordCmp

@[expose] public section

set_option maxRecDepth 16384

noncomputable section

namespace Cert.Reference2Ideal.Val

open Idealize.ShloMosaic Idealize.ShloMosaic.TcCoe
open Cert.Reference2Ideal Cert.Reference2Ideal.Gen

/-- A tile's weights: the one-hot row of its expert while the tile is used, zeros after. -/
def weights (te : IVec S289 32) (nu : IVec S1 32) : FVec Ideal S289x32 .f32 :=
  select (broadcastInDim S289x32 ![0, 1] bcast_S289x1_S289x32_0_1 (cmpi .slt (broadcastInDim S289x1 ![0] bcast_S289_S289x1_0 (iotaInDim S289 32 0)) (broadcastInDim S289x1 ![0, 1] bcast_S1x1_S289x1_0_1 (broadcastInDim S1x1 ![1] bcast_S1_S1x1_1 nu)))) (uitofp .f32 (cmpi .eq (broadcastInDim S289x32 ![0, 1] bcast_S289x1_S289x32_0_1 (broadcastInDim S289x1 ![0] bcast_S289_S289x1_0 te)) (broadcastInDim S289x32 ![0, 1] bcast_S1x32_S289x32_0_1 (iotaInDim S1x32 32 1)))) (broadcastInDim S289x32 ![] bcast_S_S289x32 (id (constant S_ .f32 0x00000000#32)))

/-- The tiles' weights, row by row. -/
def spread (w : FVec Ideal S289x32 .f32) : FVec Ideal S73984x32x1024 .f32 :=
  broadcastInDim S73984x32x1024 ![0, 1, 2] bcast_S73984x32x1_S73984x32x1024_0_1_2 (broadcastInDim S73984x32x1 ![0, 1] bcast_S73984x32_S73984x32x1_0_1 (shapeCast S73984x32 (broadcastInDim S289x256x32 ![0, 1, 2] bcast_S289x1x32_S289x256x32_0_1_2 (broadcastInDim S289x1x32 ![0, 2] bcast_S289x32_S289x1x32_0_2 w)) shapeCasts_S289x256x32_S73984x32))

/-- The rows into every expert's hidden width. -/
def into (X : FVec Ideal S73984x1024 .f32) (W : FVec Ideal S2x32x1024x256 .f32) : FVec Ideal S73984x32x256 .f32 :=
  Host.dotGeneral dot_S73984x1024_S32x1024x256_S73984x32x256_1_1_0_02_n_n none X (shapeCast S32x1024x256 (extractStridedSlice S1x32x1024x256 ![1, 0, 0, 0] W slices_S2x32x1024x256_S1x32x1024x256_1_0_0_0) shapeCasts_S1x32x1024x256_S32x1024x256)

/-- A number times its logistic. -/
def swish (g : FVec Ideal S73984x32x256 .f32) : FVec Ideal S73984x32x256 .f32 :=
  mulf g (Host.divf (broadcastInDim S73984x32x256 ![] bcast_S_S73984x32x256 (constant S_ .f32 0x3F800000#32)) (addf (broadcastInDim S73984x32x256 ![] bcast_S_S73984x32x256 (constant S_ .f32 0x3F800000#32)) (Host.exp (Host.negf g))))

/-- The hidden values back to the model's width. -/
def outof (h : FVec Ideal S73984x32x256 .f32) (W : FVec Ideal S2x32x256x1024 .f32) : FVec Ideal S73984x32x1024 .f32 :=
  transpose S73984x32x1024 [2, 0, 1] (Host.dotGeneral dot_S32x256x1024_S73984x32x256_S32x1024x73984_1_2_2_0_0_1 none (shapeCast S32x256x1024 (extractStridedSlice S1x32x256x1024 ![1, 0, 0, 0] W slices_S2x32x256x1024_S1x32x256x1024_1_0_0_0) shapeCasts_S1x32x256x1024_S32x256x1024) h) transposes_S32x1024x73984_S73984x32x1024_2_0_1

/-- The experts' weighted sum. -/
def mix (w y : FVec Ideal S73984x32x1024 .f32) : FVec Ideal S73984x1024 .bf16 :=
  truncf .bf16 (Host.reduceAdd (mulf w y) (constant S_ .f32 0x00000000#32) reducesTo_S73984x32x1024_S73984x1024_d1 h_S_) bitsLt_bf16_f32

/-- The reference's result. -/
def whole (X : FVec Ideal S73984x1024 .f32) (te : IVec S289 32) (nu : IVec S1 32) (Wg Wu : FVec Ideal S2x32x1024x256 .f32) (Wd : FVec Ideal S2x32x256x1024 .f32) : FVec Ideal S73984x1024 .bf16 :=
  mix (spread (weights te nu)) (outof (mulf (swish (into X Wg)) (into X Wu)) Wd)

/-- The one-hot row: one at the tile's expert, zero elsewhere and everywhere from the number of used tiles on. -/
theorem weights_at (te : IVec S289 32) (nu : IVec S1 32) (t : Fin 289) (e : Fin 32) :
    weights te nu (ix2 t e) = if IntOp.cmpi .slt (BitVec.ofNat 32 t) (nu (ix1 0)) = 1#1 then (if te (ix1 t) = BitVec.ofNat 32 e then 1 else 0) else 0 := by
  pointwise [weights]
  rw [show (id (constant (F := Ideal) S_ .f32 0x00000000#32) ix0 : EReal) = 0 from Ideal.ofBits_zero_f32]
  by_cases h : IntOp.cmpi .slt (BitVec.ofNat 32 t) (nu (ix1 0)) = 1#1
  · rw [if_pos h, h]
    show (((IntOp.cmpi .eq (te (ix1 t)) (BitVec.ofNat 32 e)).toNat : ℝ) : EReal) = _
    unfold IntOp.cmpi
    by_cases g : te (ix1 t) = BitVec.ofNat 32 e
    · rw [if_pos g, g]; simp
    · rw [if_neg g]; simp [g]
  · rw [if_neg h]
    exact if_neg h

theorem spread_at (w : FVec Ideal S289x32 .f32) (t : Fin 289) (r : Fin 256) (e : Fin 32) (j : Fin 1024) :
    spread w (ix3 ⟨t * 256 + r, by omega⟩ e j) = w (ix2 t e) := by
  pointwise [spread]

theorem into_at (X : FVec Ideal S73984x1024 .f32) (W : FVec Ideal S2x32x1024x256 .f32) (r : Fin 73984) (e : Fin 32) (f : Fin 256) :
    into X W (ix3 r e f) = ∑ d : Fin 1024, (X (ix2 r d) : EReal) * W (ix4 1 e d f) := by
  pointwise [into]

theorem swish_at (g : FVec Ideal S73984x32x256 .f32) (r : Fin 73984) (e : Fin 32) (f : Fin 256) :
    swish g (ix3 r e f) = g (ix3 r e f) * Ideal.div 1 (1 + Ideal.exp (-(g (ix3 r e f)))) := by
  pointwise [swish]

theorem outof_at (h : FVec Ideal S73984x32x256 .f32) (W : FVec Ideal S2x32x256x1024 .f32) (r : Fin 73984) (e : Fin 32) (j : Fin 1024) :
    outof h W (ix3 r e j) = ∑ f : Fin 256, (W (ix4 1 e f j) : EReal) * h (ix3 r e f) := by
  pointwise [outof]

theorem mix_at (w y : FVec Ideal S73984x32x1024 .f32) (r : Fin 73984) (j : Fin 1024) :
    mix w y (ix2 r j) = ∑ e : Fin 32, w (ix3 r e j) * y (ix3 r e j) := by
  pointwise [mix]

/-- THE REFERENCE'S RESULT: a used tile's row through its expert, zero after. -/
theorem whole_at (X : FVec Ideal S73984x1024 .f32) (te : IVec S289 32) (nu : IVec S1 32) (Wg Wu : FVec Ideal S2x32x1024x256 .f32) (Wd : FVec Ideal S2x32x256x1024 .f32)
    (t : Fin 289) (e : Fin 32) (he : te (ix1 t) = BitVec.ofNat 32 e) (r : Fin 256) (j : Fin 1024) :
    whole X te nu Wg Wu Wd (ix2 ⟨t * 256 + r, by omega⟩ j) = if IntOp.cmpi .slt (BitVec.ofNat 32 t) (nu (ix1 0)) = 1#1 then
      Cert.Expert.ffn (fun l => X (ix2 ⟨t * 256 + r, by omega⟩ l)) (fun l f => Wg (ix4 1 e l f)) (fun l f => Wu (ix4 1 e l f)) (fun f => Wd (ix4 1 e f j)) else 0 := by
  rw [whole, mix_at]
  simp only [spread_at, weights_at, he]
  by_cases h : IntOp.cmpi .slt (BitVec.ofNat 32 t) (nu (ix1 0)) = 1#1
  · simp only [if_pos h]
    rw [Finset.sum_eq_single e (fun e' _ hne => by
      rw [if_neg (fun hh => hne (Fin.ext (by
        have h1 := congrArg BitVec.toNat hh
        simp only [BitVec.toNat_ofNat] at h1
        have := e.isLt; have := e'.isLt
        omega))), zero_mul]) (fun hn => absurd (Finset.mem_univ e) hn), if_pos rfl, one_mul, outof_at]
    refine Finset.sum_congr rfl fun f _ => ?_
    rw [mul_comm]
    refine congrArg₂ (fun x y : EReal => x * y) ?_ rfl
    show (swish (into X Wg) (ix3 _ e f) : EReal) * into X Wu (ix3 _ e f) = _
    rw [swish_at, into_at, into_at]
  · simp only [if_neg h, zero_mul, Finset.sum_const_zero]

end Cert.Reference2Ideal.Val

end
-- ==== Proof.IdealBody3.lean ====
/-
  THE INPUT PROJECTION CALL: what one grid point's body leaves in each of its seventeen output buffers, as a function of the ten
  input blocks. The body runs straight through; every output buffer is written whole, some in two or three pieces.
  The same text stands twice, over the program as printed and over its idealized print: these are two programs with names of their own.
-/
module

public import proofs.«01_k».proof.Proof.Gen.Kernel3Ideal.Launch
public import proofs.«01_k».proof.Proof.Gen.Kernel3Ideal.Skeleton
public import proofs.«01_k».proof.Proof.Gen.Kernel3Ideal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Kernel3Ideal.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel3Ideal Cert.Kernel3Ideal.Gen

variable {F : FTy → Type} [FloatOps F]

local notation "𝕄" => MT nD τ sig Unit (Elt F) ℕ (UR sig nD τ) ℕ

/-! ## The rectangles the body reads and writes -/

abbrev r0 : Rect S1x256x1024 := Rect.unit (s := S1x256x1024) ![0, 0, 0] S1x256x1024.size inb_S1x256x1024_S1x256x1024_0_0_0
abbrev r1 : Rect S1x1x1024 := Rect.unit (s := S1x1x1024) ![0, 0, 0] S1x1x1024.size inb_S1x1x1024_S1x1x1024_0_0_0
abbrev r2 : Rect S1024x5248 := Rect.unit (s := S1024x5248) ![0, 0] S1024x256.size inb_S1024x5248_S1024x256_0_0
abbrev r3 : Rect S8x256x128 := Rect.unit (s := S8x256x128) ![0, 0, 0] S1x256x128.size inb_S8x256x128_S1x256x128_0_0_0
abbrev r4 : Rect S8x256x128 := Rect.unit (s := S8x256x128) ![1, 0, 0] S1x256x128.size inb_S8x256x128_S1x256x128_1_0_0
abbrev r5 : Rect S1x256x256 := Rect.unit (s := S1x256x256) ![0, 0, 0] S1x256x128.size inb_S1x256x256_S1x256x128_0_0_0
abbrev r6 : Rect S1x256x256 := Rect.unit (s := S1x256x256) ![0, 0, 128] S1x256x128.size inb_S1x256x256_S1x256x128_0_0_128
abbrev r7 : Rect S1024x5248 := Rect.unit (s := S1024x5248) ![0, 256] S1024x384.size inb_S1024x5248_S1024x384_0_256
abbrev r8 : Rect S8x256x128 := Rect.unit (s := S8x256x128) ![2, 0, 0] S1x256x128.size inb_S8x256x128_S1x256x128_2_0_0
abbrev r9 : Rect S8x256x128 := Rect.unit (s := S8x256x128) ![3, 0, 0] S1x256x128.size inb_S8x256x128_S1x256x128_3_0_0
abbrev r10 : Rect S1x256x256 := Rect.unit (s := S1x256x256) ![0, 0, 0] S1x128x256.size inb_S1x256x256_S1x128x256_0_0_0
abbrev r11 : Rect S1x256x128 := Rect.unit (s := S1x256x128) ![0, 0, 0] S1x256x128.size inb_S1x256x128_S1x256x128_0_0_0
abbrev r12 : Rect S1x256x256 := Rect.unit (s := S1x256x256) ![0, 128, 0] S1x128x256.size inb_S1x256x256_S1x128x256_0_128_0
abbrev r13 : Rect S1024x5248 := Rect.unit (s := S1024x5248) ![0, 640] S1024x128.size inb_S1024x5248_S1024x128_0_640
abbrev r14 : Rect S1024x5248 := Rect.unit (s := S1024x5248) ![0, 768] S1024x256.size inb_S1024x5248_S1024x256_0_768
abbrev r15 : Rect S1x256 := Rect.unit (s := S1x256) ![0, 0] S1x256.size inb_S1x256_S1x256_0_0
abbrev r16 : Rect S256x384 := Rect.unit (s := S256x384) ![0, 0] S256x384.size inb_S256x384_S256x384_0_0
abbrev r17 : Rect S8x256x128 := Rect.unit (s := S8x256x128) ![6, 0, 0] S1x256x128.size inb_S8x256x128_S1x256x128_6_0_0
abbrev r18 : Rect S8x256x128 := Rect.unit (s := S8x256x128) ![7, 0, 0] S1x256x128.size inb_S8x256x128_S1x256x128_7_0_0
abbrev r19 : Rect S384x1024 := Rect.unit (s := S384x1024) ![0, 0] S256x1024.size inb_S384x1024_S256x1024_0_0
abbrev r20 : Rect S384x1024 := Rect.unit (s := S384x1024) ![256, 0] S128x1024.size inb_S384x1024_S128x1024_256_0
abbrev r21 : Rect S1024x5248 := Rect.unit (s := S1024x5248) ![0, 1024] S1024x256.size inb_S1024x5248_S1024x256_0_1024
abbrev r22 : Rect S1x128 := Rect.unit (s := S1x128) ![0, 0] S1x128.size inb_S1x128_S1x128_0_0
abbrev r23 : Rect S8x256x128 := Rect.unit (s := S8x256x128) ![4, 0, 0] S1x256x128.size inb_S8x256x128_S1x256x128_4_0_0
abbrev r24 : Rect S8x256x128 := Rect.unit (s := S8x256x128) ![5, 0, 0] S1x256x128.size inb_S8x256x128_S1x256x128_5_0_0
abbrev r25 : Rect S1x256x32 := Rect.unit (s := S1x256x32) ![0, 0, 0] S1x256x32.size inb_S1x256x32_S1x256x32_0_0_0
abbrev r26 : Rect S1x128x256 := Rect.unit (s := S1x128x256) ![0, 0, 0] S1x128x256.size inb_S1x128x256_S1x128x256_0_0_0
abbrev r27 : Rect S1024x5248 := Rect.unit (s := S1024x5248) ![0, 1280] S1024x768.size inb_S1024x5248_S1024x768_0_1280
abbrev r28 : Rect S1x256x256 := Rect.unit (s := S1x256x256) ![0, 0, 0] S1x256x256.size inb_S1x256x256_S1x256x256_0_0_0
abbrev r29 : Rect S1x256x512 := Rect.unit (s := S1x256x512) ![0, 0, 0] S1x256x512.size inb_S1x256x512_S1x256x512_0_0_0
abbrev r30 : Rect S1024x5248 := Rect.unit (s := S1024x5248) ![0, 2048] S1024x128.size inb_S1024x5248_S1024x128_0_2048
abbrev r31 : Rect S1024x5248 := Rect.unit (s := S1024x5248) ![0, 2176] S1024x1024.size inb_S1024x5248_S1024x1024_0_2176
abbrev r32 : Rect S1x256x3072 := Rect.unit (s := S1x256x3072) ![0, 0, 0] S1x256x1024.size inb_S1x256x3072_S1x256x1024_0_0_0
abbrev r33 : Rect S1024x5248 := Rect.unit (s := S1024x5248) ![0, 3200] S1024x1024.size inb_S1024x5248_S1024x1024_0_3200
abbrev r34 : Rect S1x256x3072 := Rect.unit (s := S1x256x3072) ![0, 0, 1024] S1x256x1024.size inb_S1x256x3072_S1x256x1024_0_0_1024
abbrev r35 : Rect S1024x5248 := Rect.unit (s := S1024x5248) ![0, 4224] S1024x1024.size inb_S1024x5248_S1024x1024_0_4224
abbrev r36 : Rect S1x256x3072 := Rect.unit (s := S1x256x3072) ![0, 0, 2048] S1x256x1024.size inb_S1x256x3072_S1x256x1024_0_0_2048

/-- The ten blocks a point reads. -/
structure Ins (F : FTy → Type) [FloatOps F] where
  /-- the tile of x -/
  x0 : Vec F S1x256x1024 .f32
  /-- the shift -/
  x1 : Vec F S1x1x1024 .f32
  /-- the scale -/
  x2 : Vec F S1x1x1024 .f32
  /-- the rotation tables -/
  x3 : Vec F S8x256x128 .f32
  /-- the packed projection -/
  x4 : Vec F S1024x5248 .bf16
  /-- the query norm -/
  x5 : Vec F S1x256 .f32
  /-- the folded query up-projection -/
  x6 : Vec F S256x384 .bf16
  /-- the folded key up-projection -/
  x7 : Vec F S384x1024 .bf16
  /-- the latent norm -/
  x8 : Vec F S1x128 .f32
  /-- the forget bias -/
  x9 : Vec F S1x128 .f32

/-- The lane numbers. -/
def lanes : IVec S1x128 32 := iota .tc S1x128 32 [1] iota_S1x128_d1_w32

/-- The modulated rows, the values several outputs share, and the mean of squares of the latent row. -/
def Ins.modulated (X : Ins F) : FVec F S256x1024 .bf16 := k0_pay3 (View.ld X.x0 r0) (View.ld X.x2 r1) (View.ld X.x1 r1)
def Ins.qkv (X : Ins F) : FVec F S256x384 .f32 := k0_pay8 X.modulated (View.ld X.x4 r7)
def Ins.keys (X : Ins F) : FVec F S256x128 .f32 := k0_pay12 lanes X.qkv (View.ld X.x3 r8) (View.ld X.x3 r9)
def Ins.lr (X : Ins F) : FVec F S256x256 .f32 := k0_pay24 X.modulated (View.ld X.x4 r21)
def Ins.latent (X : Ins F) : FVec F S256x128 .f32 := k0_pay25 X.modulated (View.ld X.x4 r21)
def Ins.sq (X : Ins F) : FVec F S256 .f32 := k0_pay26 X.modulated (View.ld X.x4 r21)

/-! ## What each output buffer ends with, the last store first -/

def o10 (X : Ins F) : Vec F S1x256x256 .bf16 :=
  View.canon [⟨r6, k0_pay7 lanes (k0_pay4 (View.ld X.x0 r0) (View.ld X.x2 r1) (View.ld X.x1 r1) (View.ld X.x4 r2)) (View.ld X.x3 r3) (View.ld X.x3 r4)⟩,
    ⟨r5, k0_pay6 (k0_pay5 (View.ld X.x0 r0) (View.ld X.x2 r1) (View.ld X.x1 r1) (View.ld X.x4 r2) (View.ld X.x3 r3) (View.ld X.x3 r4)) (Scalar.ofBits .f32 0x3E000000#32)⟩]
def o11 (X : Ins F) : Vec F S1x256x256 .f32 :=
  View.canon [⟨r6, k0_pay13 (X.keys)⟩,
    ⟨r5, k0_pay11 lanes (k0_pay9 (X.modulated) (View.ld X.x4 r7)) (k0_pay10 (View.ld X.x3 r8)) (View.ld X.x3 r9)⟩]
def o12 (X : Ins F) : Vec F S1x256x128 .f32 :=
  View.canon [⟨r11, k0_pay17 lanes (X.qkv) (View.ld X.x3 r8) (View.ld X.x3 r9)⟩]
def o13 (X : Ins F) : Vec F S1x256x256 .bf16 :=
  View.canon [⟨r6, k0_pay18 lanes (X.qkv) (View.ld X.x3 r8) (View.ld X.x3 r9)⟩,
    ⟨r5, k0_pay14 (X.keys)⟩]
def o14 (X : Ins F) : Vec F S1x256x128 .f32 :=
  View.canon [⟨r11, k0_pay20 (X.modulated) (View.ld X.x4 r13)⟩]
def o15 (X : Ins F) : Vec F S1x256x1024 .bf16 :=
  View.canon [⟨r0, k0_pay23 lanes (k0_pay21 (X.modulated) (View.ld X.x4 r14) (View.ld X.x5 r15) (View.ld X.x6 r16)) (k0_pay22 (X.modulated) (View.ld X.x4 r14) (View.ld X.x5 r15) (View.ld X.x6 r16)) (View.ld X.x3 r17) (View.ld X.x3 r18) (View.ld X.x7 r19) (View.ld X.x7 r20)⟩]
def o16 (X : Ins F) : Vec F S1x256x128 .f32 :=
  View.canon [⟨r11, k0_pay29 (X.latent) (X.sq) (View.ld X.x8 r22)⟩]
def o17 (X : Ins F) : Vec F S1x256x32 .f32 :=
  View.canon [⟨r25, k0_pay30 lanes (X.lr) (View.ld X.x3 r23) (View.ld X.x3 r24)⟩]
def o18 (X : Ins F) : Vec F S1x256x256 .bf16 :=
  View.canon [⟨r6, k0_pay33 (k0_pay28 lanes (X.lr) (View.ld X.x3 r23) (View.ld X.x3 r24))⟩,
    ⟨r5, k0_pay32 (k0_pay31 (X.latent) (X.sq) (View.ld X.x8 r22))⟩]
def o19 (X : Ins F) : Vec F S1x256x256 .bf16 :=
  View.canon [⟨r28, k0_pay36 (X.modulated) (View.ld X.x4 r27)⟩]
def o20 (X : Ins F) : Vec F S1x256x512 .f32 :=
  View.canon [⟨r29, k0_pay37 (X.modulated) (View.ld X.x4 r27)⟩]
def o21 (X : Ins F) : Vec F S1x256x512 .bf16 :=
  View.canon [⟨r29, k0_pay38 (X.modulated) (View.ld X.x4 r27)⟩]
def o22 (X : Ins F) : Vec F S1x256x128 .f32 :=
  View.canon [⟨r11, k0_pay41 (X.modulated) (View.ld X.x4 r30) (View.ld X.x9 r22)⟩]
def o23 (X : Ins F) : Vec F S1x256x3072 .bf16 :=
  View.canon [⟨r36, k0_pay2 (X.modulated) (View.ld X.x4 r35)⟩,
    ⟨r34, k0_pay1 (X.modulated) (k0_pay43 (View.ld X.x4 r33)) (constant S256x1024 .f32 0x00000000#32)⟩,
    ⟨r32, k0_pay42 (X.modulated) (View.ld X.x4 r31)⟩]
def o24 (X : Ins F) : Vec F S1x256x256 .bf16 :=
  View.canon [⟨r28, k0_pay40 (k0_pay39 (X.modulated) (View.ld X.x4 r27))⟩]
def o25 (X : Ins F) : Vec F S1x128x256 .bf16 :=
  View.canon [⟨r26, k0_pay34 (k0_pay27 (X.latent) (X.sq) (View.ld X.x8 r22))⟩]
def o26 (X : Ins F) : Vec F S1x256x256 .bf16 :=
  View.canon [⟨r12, k0_pay19 (k0_pay16 lanes (X.qkv) (View.ld X.x3 r8) (View.ld X.x3 r9))⟩,
    ⟨r10, k0_pay15 (X.keys)⟩]

/-- Each output's stores reach every place of its buffer. -/
theorem fills10 (p0 : Vec F S1x256x128 .bf16) (p1 : Vec F S1x256x128 .bf16) (y : S1x256x256.Idx) : ∃ pc ∈ ([⟨r6, p0⟩, ⟨r5, p1⟩] : List (View.Piece (Elt F) S1x256x256 .bf16)), y ∈ pc.1.set :=
  View.cover_of_tiled [⟨r6, p0⟩, ⟨r5, p1⟩] S1x256x128.size (by rfl) y
theorem fills11 (p0 : Vec F S1x256x128 .f32) (p1 : Vec F S1x256x128 .f32) (y : S1x256x256.Idx) : ∃ pc ∈ ([⟨r6, p0⟩, ⟨r5, p1⟩] : List (View.Piece (Elt F) S1x256x256 .f32)), y ∈ pc.1.set :=
  View.cover_of_tiled [⟨r6, p0⟩, ⟨r5, p1⟩] S1x256x128.size (by rfl) y
theorem fills12 (p0 : Vec F S1x256x128 .f32) (y : S1x256x128.Idx) : ∃ pc ∈ ([⟨r11, p0⟩] : List (View.Piece (Elt F) S1x256x128 .f32)), y ∈ pc.1.set :=
  View.cover_of_tiled [⟨r11, p0⟩] S1x256x128.size (by rfl) y
theorem fills13 (p0 : Vec F S1x256x128 .bf16) (p1 : Vec F S1x256x128 .bf16) (y : S1x256x256.Idx) : ∃ pc ∈ ([⟨r6, p0⟩, ⟨r5, p1⟩] : List (View.Piece (Elt F) S1x256x256 .bf16)), y ∈ pc.1.set :=
  View.cover_of_tiled [⟨r6, p0⟩, ⟨r5, p1⟩] S1x256x128.size (by rfl) y
theorem fills14 (p0 : Vec F S1x256x128 .f32) (y : S1x256x128.Idx) : ∃ pc ∈ ([⟨r11, p0⟩] : List (View.Piece (Elt F) S1x256x128 .f32)), y ∈ pc.1.set :=
  View.cover_of_tiled [⟨r11, p0⟩] S1x256x128.size (by rfl) y
theorem fills15 (p0 : Vec F S1x256x1024 .bf16) (y : S1x256x1024.Idx) : ∃ pc ∈ ([⟨r0, p0⟩] : List (View.Piece (Elt F) S1x256x1024 .bf16)), y ∈ pc.1.set :=
  View.cover_of_tiled [⟨r0, p0⟩] S1x256x1024.size (by rfl) y
theorem fills16 (p0 : Vec F S1x256x128 .f32) (y : S1x256x128.Idx) : ∃ pc ∈ ([⟨r11, p0⟩] : List (View.Piece (Elt F) S1x256x128 .f32)), y ∈ pc.1.set :=
  View.cover_of_tiled [⟨r11, p0⟩] S1x256x128.size (by rfl) y
theorem fills17 (p0 : Vec F S1x256x32 .f32) (y : S1x256x32.Idx) : ∃ pc ∈ ([⟨r25, p0⟩] : List (View.Piece (Elt F) S1x256x32 .f32)), y ∈ pc.1.set :=
  View.cover_of_tiled [⟨r25, p0⟩] S1x256x32.size (by rfl) y
theorem fills18 (p0 : Vec F S1x256x128 .bf16) (p1 : Vec F S1x256x128 .bf16) (y : S1x256x256.Idx) : ∃ pc ∈ ([⟨r6, p0⟩, ⟨r5, p1⟩] : List (View.Piece (Elt F) S1x256x256 .bf16)), y ∈ pc.1.set :=
  View.cover_of_tiled [⟨r6, p0⟩, ⟨r5, p1⟩] S1x256x128.size (by rfl) y
theorem fills19 (p0 : Vec F S1x256x256 .bf16) (y : S1x256x256.Idx) : ∃ pc ∈ ([⟨r28, p0⟩] : List (View.Piece (Elt F) S1x256x256 .bf16)), y ∈ pc.1.set :=
  View.cover_of_tiled [⟨r28, p0⟩] S1x256x256.size (by rfl) y
theorem fills20 (p0 : Vec F S1x256x512 .f32) (y : S1x256x512.Idx) : ∃ pc ∈ ([⟨r29, p0⟩] : List (View.Piece (Elt F) S1x256x512 .f32)), y ∈ pc.1.set :=
  View.cover_of_tiled [⟨r29, p0⟩] S1x256x512.size (by rfl) y
theorem fills21 (p0 : Vec F S1x256x512 .bf16) (y : S1x256x512.Idx) : ∃ pc ∈ ([⟨r29, p0⟩] : List (View.Piece (Elt F) S1x256x512 .bf16)), y ∈ pc.1.set :=
  View.cover_of_tiled [⟨r29, p0⟩] S1x256x512.size (by rfl) y
theorem fills22 (p0 : Vec F S1x256x128 .f32) (y : S1x256x128.Idx) : ∃ pc ∈ ([⟨r11, p0⟩] : List (View.Piece (Elt F) S1x256x128 .f32)), y ∈ pc.1.set :=
  View.cover_of_tiled [⟨r11, p0⟩] S1x256x128.size (by rfl) y
theorem fills23 (p0 : Vec F S1x256x1024 .bf16) (p1 : Vec F S1x256x1024 .bf16) (p2 : Vec F S1x256x1024 .bf16) (y : S1x256x3072.Idx) : ∃ pc ∈ ([⟨r36, p0⟩, ⟨r34, p1⟩, ⟨r32, p2⟩] : List (View.Piece (Elt F) S1x256x3072 .bf16)), y ∈ pc.1.set :=
  View.cover_of_tiled [⟨r36, p0⟩, ⟨r34, p1⟩, ⟨r32, p2⟩] S1x256x1024.size (by rfl) y
theorem fills24 (p0 : Vec F S1x256x256 .bf16) (y : S1x256x256.Idx) : ∃ pc ∈ ([⟨r28, p0⟩] : List (View.Piece (Elt F) S1x256x256 .bf16)), y ∈ pc.1.set :=
  View.cover_of_tiled [⟨r28, p0⟩] S1x256x256.size (by rfl) y
theorem fills25 (p0 : Vec F S1x128x256 .bf16) (y : S1x128x256.Idx) : ∃ pc ∈ ([⟨r26, p0⟩] : List (View.Piece (Elt F) S1x128x256 .bf16)), y ∈ pc.1.set :=
  View.cover_of_tiled [⟨r26, p0⟩] S1x128x256.size (by rfl) y
theorem fills26 (p0 : Vec F S1x128x256 .bf16) (p1 : Vec F S1x128x256 .bf16) (y : S1x256x256.Idx) : ∃ pc ∈ ([⟨r12, p0⟩, ⟨r10, p1⟩] : List (View.Piece (Elt F) S1x256x256 .bf16)), y ∈ pc.1.set :=
  View.cover_of_tiled [⟨r12, p0⟩, ⟨r10, p1⟩] S1x128x256.size (by rfl) y

/-! ## The run of the body -/

set_option maxHeartbeats 4000000 in
/-- The body, given its ten inputs and any contents of its outputs' buffers, leaves the inputs alone and the outputs as above. -/
theorem body_run (c : Dev nD) (E : Set ℕ) (i : grid0.Coords)
    (b0 : Memref sig .tc .vmem S1x256x1024 .f32) (h0 : b0.IsWhole) (b1 : Memref sig .tc .vmem S1x1x1024 .f32) (h1 : b1.IsWhole) (b2 : Memref sig .tc .vmem S1x1x1024 .f32)
      (h2 : b2.IsWhole) (b3 : Memref sig .tc .vmem S8x256x128 .f32) (h3 : b3.IsWhole) (b4 : Memref sig .tc .vmem S1024x5248 .bf16) (h4 : b4.IsWhole) (b5 : Memref sig .tc
      .vmem S1x256 .f32) (h5 : b5.IsWhole) (b6 : Memref sig .tc .vmem S256x384 .bf16) (h6 : b6.IsWhole) (b7 : Memref sig .tc .vmem S384x1024 .bf16) (h7 : b7.IsWhole) (b8
      : Memref sig .tc .vmem S1x128 .f32) (h8 : b8.IsWhole) (b9 : Memref sig .tc .vmem S1x128 .f32) (h9 : b9.IsWhole) (b10 : Memref sig .tc .vmem S1x256x256 .bf16) (h10 :
      b10.IsWhole) (b11 : Memref sig .tc .vmem S1x256x256 .f32) (h11 : b11.IsWhole) (b12 : Memref sig .tc .vmem S1x256x128 .f32) (h12 : b12.IsWhole) (b13 : Memref sig .tc
      .vmem S1x256x256 .bf16) (h13 : b13.IsWhole) (b14 : Memref sig .tc .vmem S1x256x128 .f32) (h14 : b14.IsWhole) (b15 : Memref sig .tc .vmem S1x256x1024 .bf16) (h15 :
      b15.IsWhole) (b16 : Memref sig .tc .vmem S1x256x128 .f32) (h16 : b16.IsWhole) (b17 : Memref sig .tc .vmem S1x256x32 .f32) (h17 : b17.IsWhole) (b18 : Memref sig .tc
      .vmem S1x256x256 .bf16) (h18 : b18.IsWhole) (b19 : Memref sig .tc .vmem S1x256x256 .bf16) (h19 : b19.IsWhole) (b20 : Memref sig .tc .vmem S1x256x512 .f32) (h20 :
      b20.IsWhole) (b21 : Memref sig .tc .vmem S1x256x512 .bf16) (h21 : b21.IsWhole) (b22 : Memref sig .tc .vmem S1x256x128 .f32) (h22 : b22.IsWhole) (b23 : Memref sig
      .tc .vmem S1x256x3072 .bf16) (h23 : b23.IsWhole) (b24 : Memref sig .tc .vmem S1x256x256 .bf16) (h24 : b24.IsWhole) (b25 : Memref sig .tc .vmem S1x128x256 .bf16)
      (h25 : b25.IsWhole) (b26 : Memref sig .tc .vmem S1x256x256 .bf16) (h26 : b26.IsWhole)
    (X : Ins F) (K : PUnit → sProp 𝕄) :
    iprop(owns (c : Thread nD τ) b0 fullShare X.x0 ∗ owns (c : Thread nD τ) b1 fullShare X.x1 ∗ owns (c : Thread nD τ) b2 fullShare X.x2 ∗ owns (c : Thread nD τ) b3
      fullShare X.x3 ∗ owns (c : Thread nD τ) b4 fullShare X.x4 ∗ owns (c : Thread nD τ) b5 fullShare X.x5 ∗ owns (c : Thread nD τ) b6 fullShare X.x6 ∗ owns (c : Thread
      nD τ) b7 fullShare X.x7 ∗ owns (c : Thread nD τ) b8 fullShare X.x8 ∗ owns (c : Thread nD τ) b9 fullShare X.x9 ∗ (∃ d, owns (c : Thread nD τ) b10 fullShare d) ∗ (∃
      d, owns (c : Thread nD τ) b11 fullShare d) ∗ (∃ d, owns (c : Thread nD τ) b12 fullShare d) ∗ (∃ d, owns (c : Thread nD τ) b13 fullShare d) ∗ (∃ d, owns (c : Thread
      nD τ) b14 fullShare d) ∗ (∃ d, owns (c : Thread nD τ) b15 fullShare d) ∗ (∃ d, owns (c : Thread nD τ) b16 fullShare d) ∗ (∃ d, owns (c : Thread nD τ) b17 fullShare
      d) ∗ (∃ d, owns (c : Thread nD τ) b18 fullShare d) ∗ (∃ d, owns (c : Thread nD τ) b19 fullShare d) ∗ (∃ d, owns (c : Thread nD τ) b20 fullShare d) ∗ (∃ d, owns (c :
      Thread nD τ) b21 fullShare d) ∗ (∃ d, owns (c : Thread nD τ) b22 fullShare d) ∗ (∃ d, owns (c : Thread nD τ) b23 fullShare d) ∗ (∃ d, owns (c : Thread nD τ) b24
      fullShare d) ∗ (∃ d, owns (c : Thread nD τ) b25 fullShare d) ∗ (∃ d, owns (c : Thread nD τ) b26 fullShare d) ∗ (iprop(owns (c : Thread nD τ) b0 fullShare X.x0 ∗
      owns (c : Thread nD τ) b1 fullShare X.x1 ∗ owns (c : Thread nD τ) b2 fullShare X.x2 ∗ owns (c : Thread nD τ) b3 fullShare X.x3 ∗ owns (c : Thread nD τ) b4 fullShare
      X.x4 ∗ owns (c : Thread nD τ) b5 fullShare X.x5 ∗ owns (c : Thread nD τ) b6 fullShare X.x6 ∗ owns (c : Thread nD τ) b7 fullShare X.x7 ∗ owns (c : Thread nD τ) b8
      fullShare X.x8 ∗ owns (c : Thread nD τ) b9 fullShare X.x9 ∗ owns (c : Thread nD τ) b10 fullShare (o10 X) ∗ owns (c : Thread nD τ) b11 fullShare (o11 X) ∗ owns (c :
      Thread nD τ) b12 fullShare (o12 X) ∗ owns (c : Thread nD τ) b13 fullShare (o13 X) ∗ owns (c : Thread nD τ) b14 fullShare (o14 X) ∗ owns (c : Thread nD τ) b15
      fullShare (o15 X) ∗ owns (c : Thread nD τ) b16 fullShare (o16 X) ∗ owns (c : Thread nD τ) b17 fullShare (o17 X) ∗ owns (c : Thread nD τ) b18 fullShare (o18 X) ∗
      owns (c : Thread nD τ) b19 fullShare (o19 X) ∗ owns (c : Thread nD τ) b20 fullShare (o20 X) ∗ owns (c : Thread nD τ) b21 fullShare (o21 X) ∗ owns (c : Thread nD τ)
      b22 fullShare (o22 X) ∗ owns (c : Thread nD τ) b23 fullShare (o23 X) ∗ owns (c : Thread nD τ) b24 fullShare (o24 X) ∗ owns (c : Thread nD τ) b25 fullShare (o25 X) ∗
      owns (c : Thread nD τ) b26 fullShare (o26 X)) -∗ K ⟨⟩))
      ⊢ wp frame (wpE (defs₀ (F := F)) Variants.none c none) E (cc0_inproj i b0 h0 b1 h1 b2 h2 b3 h3 b4 h4 b5 h5 b6 h6 b7 h7 b8 h8 b9 h9 b10 h10 b11 h11 b12 h12 b13 h13
        b14 h14 b15 h15 b16 h16 b17 h17 b18 h18 b19 h19 b20 h20 b21 h21 b22 h22 b23 h23 b24 h24 b25 h25 b26 h26) K := by
  obtain ⟨x0, x1, x2, x3, x4, x5, x6, x7, x8, x9⟩ := X
  simp only [cc0_inproj_eq_skeleton]; unfold cc0_inproj_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩,
    ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17,
    -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩,
    ⟨%d25, %f25, -, H25⟩, ⟨%d26, %f26, -, H26⟩, Hk⟩
  dsimp only at e0 e1 e2 e3 e4 e5 e6 e7 e8 e9
  subst e0 e1 e2 e3 e4 e5 e6 e7 e8 e9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    exact (View.read_writes_eq_canon _ _ _ (fills10 _ _)).trans rfl
  isplitl [H11]
  · iexists _; isplitr
    swap; · iexact H11
    ipureintro
    exact (View.read_writes_eq_canon _ _ _ (fills11 _ _)).trans rfl
  isplitl [H12]
  · iexists _; isplitr
    swap; · iexact H12
    ipureintro
    exact (View.read_writes_eq_canon _ _ _ (fills12 _)).trans rfl
  isplitl [H13]
  · iexists _; isplitr
    swap; · iexact H13
    ipureintro
    exact (View.read_writes_eq_canon _ _ _ (fills13 _ _)).trans rfl
  isplitl [H14]
  · iexists _; isplitr
    swap; · iexact H14
    ipureintro
    exact (View.read_writes_eq_canon _ _ _ (fills14 _)).trans rfl
  isplitl [H15]
  · iexists _; isplitr
    swap; · iexact H15
    ipureintro
    exact (View.read_writes_eq_canon _ _ _ (fills15 _)).trans rfl
  isplitl [H16]
  · iexists _; isplitr
    swap; · iexact H16
    ipureintro
    exact (View.read_writes_eq_canon _ _ _ (fills16 _)).trans rfl
  isplitl [H17]
  · iexists _; isplitr
    swap; · iexact H17
    ipureintro
    exact (View.read_writes_eq_canon _ _ _ (fills17 _)).trans rfl
  isplitl [H18]
  · iexists _; isplitr
    swap; · iexact H18
    ipureintro
    exact (View.read_writes_eq_canon _ _ _ (fills18 _ _)).trans rfl
  isplitl [H19]
  · iexists _; isplitr
    swap; · iexact H19
    ipureintro
    exact (View.read_writes_eq_canon _ _ _ (fills19 _)).trans rfl
  isplitl [H20]
  · iexists _; isplitr
    swap; · iexact H20
    ipureintro
    exact (View.read_writes_eq_canon _ _ _ (fills20 _)).trans rfl
  isplitl [H21]
  · iexists _; isplitr
    swap; · iexact H21
    ipureintro
    exact (View.read_writes_eq_canon _ _ _ (fills21 _)).trans rfl
  isplitl [H22]
  · iexists _; isplitr
    swap; · iexact H22
    ipureintro
    exact (View.read_writes_eq_canon _ _ _ (fills22 _)).trans rfl
  isplitl [H23]
  · iexists _; isplitr
    swap; · iexact H23
    ipureintro
    exact (View.read_writes_eq_canon _ _ _ (fills23 _ _ _)).trans rfl
  isplitl [H24]
  · iexists _; isplitr
    swap; · iexact H24
    ipureintro
    exact (View.read_writes_eq_canon _ _ _ (fills24 _)).trans rfl
  isplitl [H25]
  · iexists _; isplitr
    swap; · iexact H25
    ipureintro
    exact (View.read_writes_eq_canon _ _ _ (fills25 _)).trans rfl
  iexists _; isplitr
  swap; · iexact H26
  ipureintro
  exact (View.read_writes_eq_canon _ _ _ (fills26 _ _)).trans rfl

end Cert.Kernel3Ideal.Proj

end
-- ==== Proof.Angle3.lean ====
/-
  ROTARY ANGLES, and the three lines by which a rotation's two halves and the lanes it leaves are the reference's.
-/
module

public import Idealize.ShloMosaic.Lib.Pointwise

@[expose] public section

noncomputable section

namespace Cert.Angle3

open Idealize.ShloMosaic

/-- The angle at place `t` of the pair `i`, in a rotation of the width whose bits are `n`. -/
def angle (t : ℕ) (i n : BitVec 32) : EReal :=
  FloatOps.sitofp (F := Ideal) .f32 (BitVec.ofNat 32 t) * Ideal.div 1 (Ideal.pow (Ideal.ofBits .f32 0x48F42400#32) (Ideal.div (FloatOps.sitofp (F := Ideal) .f32 i * Ideal.ofBits .f32 0x40000000#32) (Ideal.ofBits .f32 n)))

/-- A choice by a decidable bit. -/
theorem pick {α : Type} (p : Prop) [Decidable p] (a b : α) : Scalar.select (if p then 1#1 else 0#1) a b = if p then a else b := by
  split <;> rfl

/-- The first half of a rotation, the turned partner added with the opposite sign. -/
theorem turn_lo (x y c s : EReal) : x * c + y * -s = x * c - y * s := by
  rw [mul_neg, sub_eq_add_neg]

/-- A lane that a rotation leaves. -/
theorem turn_id (x y : EReal) : x * 1 + y * 0 = x := by
  rw [mul_one, mul_zero, add_zero]

end Cert.Angle3

end
-- ==== Proof.Tile3.lean ====
/-
  ONE TILE OF THE INPUT PROJECTION, at the extended reals: what the body's values are at an index, over any blocks.
-/
module

public import proofs.«01_k».proof.Proof.IdealBody3
public import proofs.«01_k».proof.Proof.Angle3
public import Idealize.ShloMosaic.Lib.Pointwise

@[expose] public section

set_option maxRecDepth 16384

noncomputable section

namespace Cert.Kernel3Ideal.Val

open Idealize.ShloMosaic Idealize.ShloMosaic.TcCoe
open Cert.Kernel3Ideal Cert.Kernel3Ideal.Gen Cert.Kernel3Ideal.Proj Cert.Angle3

/-- The modulated rows. -/
theorem mod_at (x : Vec Ideal S1x256x1024 .f32) (sc sh : Vec Ideal S1x1x1024 .f32) (r : Fin 256) (l : Fin 1024) :
    k0_pay3 x sc sh (ix2 r l) = x (ix3 0 r l) * (1 + sc (ix3 0 0 l)) + sh (ix3 0 0 l) := by
  pointwise [k0_pay3]

/-- The gates' first third, of any rows and any columns. -/
theorem gate_at (h : FVec Ideal S256x1024 .bf16) (w : Vec Ideal S1024x1024 .bf16) (r : Fin 256) (j : Fin 1024) :
    k0_pay42 h w (ix3 0 r j) = Ideal.div 1 (1 + Ideal.exp (-(∑ l : Fin 1024, h (ix2 r l) * w (ix2 l j)))) := by
  show _ = Ideal.logistic _
  pointwise [k0_pay42]

theorem gate1_at (h : FVec Ideal S256x1024 .bf16) (w : Vec Ideal S1024x1024 .bf16) (r : Fin 256) (j : Fin 1024) :
    k0_pay1 h (k0_pay43 w) (constant S256x1024 .f32 0x00000000#32) (ix3 0 r j) = Ideal.div 1 (1 + Ideal.exp (-(∑ l : Fin 1024, h (ix2 r l) * w (ix2 l j)))) := by
  show _ = Ideal.logistic _
  pointwise [k0_pay1, k0_pay43]

theorem gate2_at (h : FVec Ideal S256x1024 .bf16) (w : Vec Ideal S1024x1024 .bf16) (r : Fin 256) (j : Fin 1024) :
    k0_pay2 h w (ix3 0 r j) = Ideal.div 1 (1 + Ideal.exp (-(∑ l : Fin 1024, h (ix2 r l) * w (ix2 l j)))) := by
  show _ = Ideal.logistic _
  pointwise [k0_pay2]

/-- The forgetting attention's keys and values. -/
theorem frow_at (h : FVec Ideal S256x1024 .bf16) (w : Vec Ideal S1024x768 .bf16) (r : Fin 256) (j : Fin 512) :
    k0_pay37 h w (ix3 0 r j) = ∑ l : Fin 1024, h (ix2 r l) * w (ix2 l ⟨256 + j, by omega⟩) := by
  pointwise [k0_pay37, k0_pay35]

/-- The latent row and the rotary row after it. -/
theorem lr_at (h : FVec Ideal S256x1024 .bf16) (w : Vec Ideal S1024x256 .bf16) (r : Fin 256) (j : Fin 256) :
    k0_pay24 h w (ix2 r j) = ∑ l : Fin 1024, h (ix2 r l) * w (ix2 l j) := by
  pointwise [k0_pay24]

theorem latent_at (h : FVec Ideal S256x1024 .bf16) (w : Vec Ideal S1024x256 .bf16) (r : Fin 256) (j : Fin 128) :
    k0_pay25 h w (ix2 r j) = k0_pay24 h w (ix2 r ⟨j, by omega⟩) := by
  pointwise [k0_pay25]

theorem sq_at (h : FVec Ideal S256x1024 .bf16) (w : Vec Ideal S1024x256 .bf16) (r : Fin 256) :
    k0_pay26 h w (ix1 r) = ∑ j : Fin 128, k0_pay25 h w (ix2 r j) * k0_pay25 h w (ix2 r j) := by
  pointwise [k0_pay26]

theorem norm_at (v : FVec Ideal S256x128 .f32) (s : FVec Ideal S256 .f32) (g : Vec Ideal S1x128 .f32) (r : Fin 256) (j : Fin 128) :
    k0_pay29 v s g (ix3 0 r j) = v (ix2 r j) * Ideal.rsqrt (Ideal.div (s (ix1 r)) (Ideal.ofBits .f32 0x43000000#32) + Ideal.ofBits .f32 0x3727C5AC#32) * g (ix2 0 j) := by
  pointwise [k0_pay29, k0_pay27]

/-- The queries', keys' and values' columns of the sparse attention. -/
theorem qkv_at (h : FVec Ideal S256x1024 .bf16) (w : Vec Ideal S1024x384 .bf16) (r : Fin 256) (j : Fin 384) :
    k0_pay8 h w (ix2 r j) = ∑ l : Fin 1024, h (ix2 r l) * w (ix2 l j) := by
  pointwise [k0_pay8]

/-- Which lanes are in the first half of their rotation, sixteen of every sixty-four lanes turning. -/
theorem first8 : ∀ j : Fin 128, IntOp.cmpi .slt (IntOp.andi (BitVec.ofNat 32 j) 63#32) 8#32 = if j.val % 64 < 8 then 1#1 else 0#1 := by
  decide +kernel

theorem first16 : ∀ j : Fin 32, IntOp.cmpi .slt (IntOp.andi (BitVec.ofNat 32 j) 31#32) 16#32 = if j.val < 16 then 1#1 else 0#1 := by
  decide +kernel

theorem keys_at (h : FVec Ideal S256x1024 .bf16) (w : Vec Ideal S1024x384 .bf16) (c s : Vec Ideal S1x256x128 .f32) (r : Fin 256) (j : Fin 128) :
    k0_pay11 lanes (k0_pay9 h w) (k0_pay10 c) s (ix3 0 r j)
      = k0_pay8 h w (ix2 r ⟨j, by omega⟩) * c (ix3 0 r j)
        + (if j.val % 64 < 8 then k0_pay8 h w (ix2 r ⟨(j.val + 128 - 120) % 128, by omega⟩) else k0_pay8 h w (ix2 r ⟨(j.val + 128 - 8) % 128, by omega⟩)) * s (ix3 0 r j) := by
  pointwise [k0_pay11, k0_pay9, k0_pay10, lanes]
  rw [first8, pick]

theorem keys1_at (q : FVec Ideal S256x384 .f32) (c s : Vec Ideal S1x256x128 .f32) (r : Fin 256) (j : Fin 128) :
    k0_pay13 (k0_pay12 lanes q c s) (ix3 0 r j)
      = q (ix2 r ⟨128 + j, by omega⟩) * c (ix3 0 r j)
        + (if j.val % 64 < 8 then q (ix2 r ⟨128 + (j.val + 128 - 120) % 128, by omega⟩) else q (ix2 r ⟨128 + (j.val + 128 - 8) % 128, by omega⟩)) * s (ix3 0 r j) := by
  pointwise [k0_pay13, k0_pay12, lanes]
  rw [first8, pick]

theorem win_at (q : FVec Ideal S256x384 .f32) (c s : Vec Ideal S1x256x128 .f32) (r : Fin 256) (j : Fin 128) :
    k0_pay17 lanes q c s (ix3 0 r j)
      = q (ix2 r ⟨256 + j, by omega⟩) * c (ix3 0 r j)
        + (if j.val % 64 < 8 then q (ix2 r ⟨256 + (j.val + 128 - 120) % 128, by omega⟩) else q (ix2 r ⟨256 + (j.val + 128 - 8) % 128, by omega⟩)) * s (ix3 0 r j) := by
  pointwise [k0_pay17, k0_pay16, lanes]
  rw [first8, pick]

theorem rope_at (q : FVec Ideal S256x256 .f32) (c s : Vec Ideal S1x256x128 .f32) (r : Fin 256) (j : Fin 32) :
    k0_pay30 lanes q c s (ix3 0 r j)
      = q (ix2 r ⟨128 + j, by omega⟩) * c (ix3 0 r ⟨j, by omega⟩)
        + (if j.val < 16 then q (ix2 r ⟨128 + (j.val + 128 - 112) % 128, by omega⟩) else q (ix2 r ⟨128 + (j.val + 128 - 16) % 128, by omega⟩)) * s (ix3 0 r ⟨j, by omega⟩) := by
  pointwise [k0_pay30, k0_pay28, lanes]
  rw [first16, pick]

end Cert.Kernel3Ideal.Val

end
-- ==== Proof.Lane3.lean ====
/-
  A ROTATED LANE: where a row is turned by its tables, lane by lane, it is the row whose first half, second half and the lanes left over
  are the rotation's. Sixteen lanes of 128 turn in the sparse attention's heads, thirty-two in the latent attention's key.
-/
module

public import proofs.«01_k».proof.Proof.Angle3

@[expose] public section

noncomputable section

namespace Cert.Angle3

open Idealize.ShloMosaic

/-- Values at equal places. -/
theorem place {n : ℕ} (q : Fin n → EReal) {i j : ℕ} (hi : i < n) (hj : j < n) (h : i = j) : q ⟨i, hi⟩ = q ⟨j, hj⟩ := by
  subst h; rfl

/-- Sixteen lanes of 128 turned. -/
theorem meet8 (q C S G : Fin 128 → EReal) (a : ℕ → EReal)
    (hC : ∀ j : Fin 128, C j = if j.val < 16 then Ideal.cos (a (j.val % 8)) else 1)
    (hS : ∀ j : Fin 128, S j = if j.val < 16 then (if j.val < 8 then -(Ideal.sin (a (j.val % 8))) else Ideal.sin (a (j.val % 8))) else 0)
    (hlo : ∀ i : Fin 8, G ⟨i, by omega⟩ = q ⟨i, by omega⟩ * Ideal.cos (a i) - q ⟨8 + i, by omega⟩ * Ideal.sin (a i))
    (hhi : ∀ i : Fin 8, G ⟨8 + i, by omega⟩ = q ⟨i, by omega⟩ * Ideal.sin (a i) + q ⟨8 + i, by omega⟩ * Ideal.cos (a i))
    (hid : ∀ i : Fin 112, G ⟨16 + i, by omega⟩ = q ⟨16 + i, by omega⟩) (j : Fin 128) :
    q j * C j + (if j.val % 64 < 8 then q ⟨(j.val + 128 - 120) % 128, by omega⟩ else q ⟨(j.val + 128 - 8) % 128, by omega⟩) * S j = G j := by
  obtain ⟨j, hj⟩ := j
  rw [hC, hS]
  by_cases h : j < 8
  · have h16 : j < 16 := by omega
    have hm : j % 64 < 8 := by omega
    have e : j % 8 = j := by omega
    rw [if_pos h16, if_pos h16, if_pos h, if_pos hm, e, turn_lo, place q _ (show 8 + j < 128 by omega) (show (j + 128 - 120) % 128 = 8 + j by omega)]
    exact (hlo ⟨j, h⟩).symm
  · by_cases h' : j < 16
    · obtain ⟨i, rfl⟩ : ∃ i, j = 8 + i := ⟨j - 8, by omega⟩
      have hm : ¬ (8 + i) % 64 < 8 := by omega
      have e : (8 + i) % 8 = i := by omega
      rw [if_pos h', if_pos h', if_neg h, if_neg hm, e, place q _ (show i < 128 by omega) (show (8 + i + 128 - 8) % 128 = i by omega), add_comm]
      exact (hhi ⟨i, by omega⟩).symm
    · obtain ⟨i, rfl⟩ : ∃ i, j = 16 + i := ⟨j - 16, by omega⟩
      rw [if_neg h', if_neg h', turn_id]
      exact (hid ⟨i, by omega⟩).symm

/-- Thirty-two lanes turned. -/
theorem meet16 (q C S : Fin 128 → EReal) (G : Fin 32 → EReal) (a : ℕ → EReal)
    (hC : ∀ j : Fin 128, C j = if j.val < 32 then Ideal.cos (a (j.val % 16)) else 1)
    (hS : ∀ j : Fin 128, S j = if j.val < 32 then (if j.val < 16 then -(Ideal.sin (a (j.val % 16))) else Ideal.sin (a (j.val % 16))) else 0)
    (hlo : ∀ i : Fin 16, G ⟨i, by omega⟩ = q ⟨i, by omega⟩ * Ideal.cos (a i) - q ⟨16 + i, by omega⟩ * Ideal.sin (a i))
    (hhi : ∀ i : Fin 16, G ⟨16 + i, by omega⟩ = q ⟨i, by omega⟩ * Ideal.sin (a i) + q ⟨16 + i, by omega⟩ * Ideal.cos (a i)) (j : Fin 32) :
    q ⟨j, by omega⟩ * C ⟨j, by omega⟩ + (if j.val < 16 then q ⟨(j.val + 128 - 112) % 128, by omega⟩ else q ⟨(j.val + 128 - 16) % 128, by omega⟩) * S ⟨j, by omega⟩ = G j := by
  obtain ⟨j, hj⟩ := j
  rw [hC, hS]
  by_cases h : j < 16
  · have e : j % 16 = j := by omega
    simp only []
    rw [if_pos hj, if_pos hj, if_pos h, if_pos h, e, turn_lo, place q _ (show 16 + j < 128 by omega) (show (j + 128 - 112) % 128 = 16 + j by omega)]
    exact (hlo ⟨j, h⟩).symm
  · obtain ⟨i, rfl⟩ : ∃ i, j = 16 + i := ⟨j - 16, by omega⟩
    have e : (16 + i) % 16 = i := by omega
    simp only []
    rw [if_pos hj, if_pos hj, if_neg h, if_neg h, e, place q _ (show i < 128 by omega) (show (16 + i + 128 - 16) % 128 = i by omega), add_comm]
    exact (hhi ⟨i, by omega⟩).symm

end Cert.Angle3

end
-- ==== Proof.Plain3.lean ====
/-
  WHAT THE THIRD REFERENCE COMPUTES, at the extended reals: the input's projections, the rotations of keys, the normed latent row and the gates,
  each read at an index.
-/
module

public import proofs.«01_k».proof.Proof.Gen.Reference3Ideal.Run
public import proofs.«01_k».proof.Proof.Angle3
public import Idealize.ShloMosaic.Lib.Pointwise
public import Idealize.ShloMosaic.Lib.WordCmp

@[expose] public section

set_option maxRecDepth 16384

noncomputable section

namespace Cert.Reference3Ideal.Val

open Idealize.ShloMosaic Idealize.ShloMosaic.TcCoe
open Cert.Reference3Ideal Cert.Reference3Ideal.Gen Cert.Angle3

/-- The projections of the modulated input. -/
def proj (X : FVec Ideal S16x2048x1024 .f32) (A : FVec Ideal S16x3072 .f32) (W : FVec Ideal S1024x4912 .f32) : FVec Ideal S16x2048x4912 .f32 :=
  Host.dotGeneral dot_S16x2048x1024_S1024x4912_S16x2048x4912_2_0_01_1_n_n none (addf (mulf X (broadcastInDim S16x2048x1024 ![0, 1, 2] bcast_S16x1x1024_S16x2048x1024_0_1_2 (addf (broadcastInDim S16x1x1024 ![] bcast_S_S16x1x1024 (constant S_ .f32 0x3F800000#32)) (broadcastInDim S16x1x1024 ![0, 2] bcast_S16x1024_S16x1x1024_0_2 (extractStridedSlice S16x1024 ![0, 1024] A slices_S16x3072_S16x1024_0_1024))))) (broadcastInDim S16x2048x1024 ![0, 1, 2] bcast_S16x1x1024_S16x2048x1024_0_1_2 (broadcastInDim S16x1x1024 ![0, 2] bcast_S16x1024_S16x1x1024_0_2 (extractStridedSlice S16x1024 ![0, 0] A slices_S16x3072_S16x1024_0_0)))) W

/-- The gates. -/
def gates (P : FVec Ideal S16x2048x4912 .f32) : FVec Ideal S16x2048x3072 .bf16 :=
  truncf .bf16 (Host.divf (broadcastInDim S16x2048x3072 ![] bcast_S_S16x2048x3072 (constant S_ .f32 0x3F800000#32)) (addf (broadcastInDim S16x2048x3072 ![] bcast_S_S16x2048x3072 (constant S_ .f32 0x3F800000#32)) (Host.exp (Host.negf (extractStridedSlice S16x2048x3072 ![0, 0, 1840] P slices_S16x2048x4912_S16x2048x3072_0_0_1840))))) bitsLt_bf16_f32

/-- The forgetting attention's columns, by part and head. -/
def parts (P : FVec Ideal S16x2048x4912 .f32) : FVec Ideal S16x2048x3x4x64 .f32 :=
  shapeCast _ (extractStridedSlice S16x2048x768 ![0, 0, 1068] P slices_S16x2048x4912_S16x2048x768_0_0_1068) shapeCasts_S16x2048x768_S16x2048x3x4x64

/-- Its keys and values. -/
def frows (Q : FVec Ideal S16x2048x3x4x64 .f32) : FVec Ideal S16x2048x512 .f32 :=
  shapeCast _ (concatenate S16x2048x2x4x64 2 [⟨S16x2048x1x4x64, (extractStridedSlice S16x2048x1x4x64 ![0, 0, 1, 0, 0] Q slices_S16x2048x3x4x64_S16x2048x1x4x64_0_0_1_0_0)⟩, ⟨S16x2048x1x4x64, (extractStridedSlice S16x2048x1x4x64 ![0, 0, 2, 0, 0] Q slices_S16x2048x3x4x64_S16x2048x1x4x64_0_0_2_0_0)⟩] concatenates_S16x2048x1x4x64_S16x2048x1x4x64_S16x2048x2x4x64_d2) shapeCasts_S16x2048x2x4x64_S16x2048x512

/-- The latent and rotary columns. -/
def low (P : FVec Ideal S16x2048x4912 .f32) : FVec Ideal S16x2048x160 .f32 :=
  extractStridedSlice S16x2048x160 ![0, 0, 908] P slices_S16x2048x4912_S16x2048x160_0_0_908

def latCols (L : FVec Ideal S16x2048x160 .f32) : FVec Ideal S16x2048x128 .f32 :=
  extractStridedSlice S16x2048x128 ![0, 0, 0] L slices_S16x2048x160_S16x2048x128_0_0_0

/-- A row over the root of its mean square, weighted. -/
def normed (v : FVec Ideal S16x2048x128 .f32) (g : FVec Ideal S128 .f32) : FVec Ideal S16x2048x128 .f32 :=
  mulf (mulf v (broadcastInDim S16x2048x128 ![0, 1, 2] bcast_S16x2048x1_S16x2048x128_0_1_2 (Host.rsqrt (addf (Host.divf (broadcastInDim S16x2048x1 ![0, 1] bcast_S16x2048_S16x2048x1_0_1 (Host.reduceAdd (mulf v v) (constant S_ .f32 0x00000000#32) reducesTo_S16x2048x128_S16x2048_d2 h_S_)) (broadcastInDim S16x2048x1 ![] bcast_S_S16x2048x1 (constant S_ .f32 0x43000000#32))) (broadcastInDim S16x2048x1 ![] bcast_S_S16x2048x1 (constant S_ .f32 0x3727C5AC#32)))))) (broadcastInDim S16x2048x128 ![0, 1, 2] bcast_S1x1x128_S16x2048x128_0_1_2 (broadcastInDim S1x1x128 ![2] bcast_S128_S1x1x128_2 g))

/-- The angles of a rotation over sixteen lanes. -/
def ang8 : FVec Ideal S2048x8 .f32 :=
  mulf (broadcastInDim S2048x8 ![0, 1] bcast_S2048x1_S2048x8_0_1 (broadcastInDim S2048x1 ![0] bcast_S2048_S2048x1_0 (sitofp .f32 (iotaInDim S2048 32 0)))) (broadcastInDim S2048x8 ![0, 1] bcast_S1x8_S2048x8_0_1 (broadcastInDim S1x8 ![1] bcast_S8_S1x8_1 (Host.divf (broadcastInDim S8 ![] bcast_S_S8 (constant S_ .f32 0x3F800000#32)) (Host.powf (broadcastInDim S8 ![] bcast_S_S8 (constant S_ .f32 0x48F42400#32)) (Host.divf (mulf (sitofp .f32 (iotaInDim S8 32 0)) (broadcastInDim S8 ![] bcast_S_S8 (constant S_ .f32 0x40000000#32))) (broadcastInDim S8 ![] bcast_S_S8 (constant S_ .f32 0x41800000#32)))))))

/-- The angles of a rotation over thirty-two lanes. -/
def ang16 : FVec Ideal S2048x16 .f32 :=
  mulf (broadcastInDim S2048x16 ![0, 1] bcast_S2048x1_S2048x16_0_1 (broadcastInDim S2048x1 ![0] bcast_S2048_S2048x1_0 (sitofp .f32 (iotaInDim S2048 32 0)))) (broadcastInDim S2048x16 ![0, 1] bcast_S1x16_S2048x16_0_1 (broadcastInDim S1x16 ![1] bcast_S16_S1x16_1 (Host.divf (broadcastInDim S16 ![] bcast_S_S16 (constant S_ .f32 0x3F800000#32)) (Host.powf (broadcastInDim S16 ![] bcast_S_S16 (constant S_ .f32 0x48F42400#32)) (Host.divf (mulf (sitofp .f32 (iotaInDim S16 32 0)) (broadcastInDim S16 ![] bcast_S_S16 (constant S_ .f32 0x40000000#32))) (broadcastInDim S16 ![] bcast_S_S16 (constant S_ .f32 0x42000000#32)))))))

/-- The sparse attention's columns, by head. -/
def heads (P : FVec Ideal S16x2048x4912 .f32) : FVec Ideal S16x2048x6x64 .f32 :=
  shapeCast _ (extractStridedSlice S16x2048x384 ![0, 0, 256] P slices_S16x2048x4912_S16x2048x384_0_0_256) shapeCasts_S16x2048x384_S16x2048x6x64

/-- A head turned by the angles. -/
def turn8 (x : FVec Ideal S16x2048x1x64 .f32) (a : FVec Ideal S2048x8 .f32) : FVec Ideal S16x2048x1x64 .f32 :=
  concatenate S16x2048x1x64 3 [
    ⟨S16x2048x1x8, subf (mulf (extractStridedSlice S16x2048x1x8 ![0, 0, 0, 0] x slices_S16x2048x1x64_S16x2048x1x8_0_0_0_0) (broadcastInDim S16x2048x1x8 ![0, 1, 2, 3] bcast_S1x2048x1x8_S16x2048x1x8_0_1_2_3 (broadcastInDim S1x2048x1x8 ![1, 3] bcast_S2048x8_S1x2048x1x8_1_3 (Host.cos a)))) (mulf (extractStridedSlice S16x2048x1x8 ![0, 0, 0, 8] x slices_S16x2048x1x64_S16x2048x1x8_0_0_0_8) (broadcastInDim S16x2048x1x8 ![0, 1, 2, 3] bcast_S1x2048x1x8_S16x2048x1x8_0_1_2_3 (broadcastInDim S1x2048x1x8 ![1, 3] bcast_S2048x8_S1x2048x1x8_1_3 (Host.sin a))))⟩,
    ⟨S16x2048x1x8, addf (mulf (extractStridedSlice S16x2048x1x8 ![0, 0, 0, 0] x slices_S16x2048x1x64_S16x2048x1x8_0_0_0_0) (broadcastInDim S16x2048x1x8 ![0, 1, 2, 3] bcast_S1x2048x1x8_S16x2048x1x8_0_1_2_3 (broadcastInDim S1x2048x1x8 ![1, 3] bcast_S2048x8_S1x2048x1x8_1_3 (Host.sin a)))) (mulf (extractStridedSlice S16x2048x1x8 ![0, 0, 0, 8] x slices_S16x2048x1x64_S16x2048x1x8_0_0_0_8) (broadcastInDim S16x2048x1x8 ![0, 1, 2, 3] bcast_S1x2048x1x8_S16x2048x1x8_0_1_2_3 (broadcastInDim S1x2048x1x8 ![1, 3] bcast_S2048x8_S1x2048x1x8_1_3 (Host.cos a))))⟩,
    ⟨S16x2048x1x48, extractStridedSlice S16x2048x1x48 ![0, 0, 0, 16] x slices_S16x2048x1x64_S16x2048x1x48_0_0_0_16⟩] concatenates_S16x2048x1x8_S16x2048x1x8_S16x2048x1x48_S16x2048x1x64_d3

def head0 (H : FVec Ideal S16x2048x6x64 .f32) : FVec Ideal S16x2048x1x64 .f32 := extractStridedSlice S16x2048x1x64 ![0, 0, 0, 0] H slices_S16x2048x6x64_S16x2048x1x64_0_0_0_0
def head1 (H : FVec Ideal S16x2048x6x64 .f32) : FVec Ideal S16x2048x1x64 .f32 := extractStridedSlice S16x2048x1x64 ![0, 0, 1, 0] H slices_S16x2048x6x64_S16x2048x1x64_0_0_1_0
def head2 (H : FVec Ideal S16x2048x6x64 .f32) : FVec Ideal S16x2048x1x64 .f32 := extractStridedSlice S16x2048x1x64 ![0, 0, 2, 0] H slices_S16x2048x6x64_S16x2048x1x64_0_0_2_0
def head3 (H : FVec Ideal S16x2048x6x64 .f32) : FVec Ideal S16x2048x1x64 .f32 := extractStridedSlice S16x2048x1x64 ![0, 0, 3, 0] H slices_S16x2048x6x64_S16x2048x1x64_0_0_3_0
def head4 (H : FVec Ideal S16x2048x6x64 .f32) : FVec Ideal S16x2048x1x64 .f32 := extractStridedSlice S16x2048x1x64 ![0, 0, 4, 0] H slices_S16x2048x6x64_S16x2048x1x64_0_0_4_0
def head5 (H : FVec Ideal S16x2048x6x64 .f32) : FVec Ideal S16x2048x1x64 .f32 := extractStridedSlice S16x2048x1x64 ![0, 0, 5, 0] H slices_S16x2048x6x64_S16x2048x1x64_0_0_5_0

/-- Four heads side by side, and two. -/
def side4 (a b c d : FVec Ideal S16x2048x1x64 .f32) : FVec Ideal S16x2048x256 .f32 :=
  shapeCast _ (concatenate S16x2048x4x64 2 [⟨S16x2048x1x64, a⟩, ⟨S16x2048x1x64, b⟩, ⟨S16x2048x1x64, c⟩, ⟨S16x2048x1x64, d⟩] concatenates_S16x2048x1x64_S16x2048x1x64_S16x2048x1x64_S16x2048x1x64_S16x2048x4x64_d2) shapeCasts_S16x2048x4x64_S16x2048x256
def side2 (a b : FVec Ideal S16x2048x1x64 .f32) : FVec Ideal S16x2048x128 .f32 :=
  shapeCast _ (concatenate S16x2048x2x64 2 [⟨S16x2048x1x64, a⟩, ⟨S16x2048x1x64, b⟩] concatenates_S16x2048x1x64_S16x2048x1x64_S16x2048x2x64_d2) shapeCasts_S16x2048x2x64_S16x2048x128

/-- The four heads of the keys and values; the two of the window. The first of each two is turned. -/
def rows (P : FVec Ideal S16x2048x4912 .f32) (a : FVec Ideal S2048x8 .f32) : FVec Ideal S16x2048x256 .f32 :=
  side4 (turn8 (head0 (heads P)) a) (head1 (heads P)) (turn8 (head2 (heads P)) a) (head3 (heads P))
def win (P : FVec Ideal S16x2048x4912 .f32) (a : FVec Ideal S2048x8 .f32) : FVec Ideal S16x2048x128 .f32 :=
  side2 (turn8 (head4 (heads P)) a) (head5 (heads P))

/-- The rotary columns, and their turn. -/
def ropeCols (L : FVec Ideal S16x2048x160 .f32) : FVec Ideal S16x2048x1x32 .f32 :=
  broadcastInDim S16x2048x1x32 ![0, 1, 3] bcast_S16x2048x32_S16x2048x1x32_0_1_3 (extractStridedSlice S16x2048x32 ![0, 0, 128] L slices_S16x2048x160_S16x2048x32_0_0_128)

def turn16 (x : FVec Ideal S16x2048x1x32 .f32) (a : FVec Ideal S2048x16 .f32) : FVec Ideal S16x2048x32 .f32 :=
  shapeCast _ (concatenate S16x2048x1x32 3 [
    ⟨S16x2048x1x16, subf (mulf (extractStridedSlice S16x2048x1x16 ![0, 0, 0, 0] x slices_S16x2048x1x32_S16x2048x1x16_0_0_0_0) (broadcastInDim S16x2048x1x16 ![0, 1, 2, 3] bcast_S1x2048x1x16_S16x2048x1x16_0_1_2_3 (broadcastInDim S1x2048x1x16 ![1, 3] bcast_S2048x16_S1x2048x1x16_1_3 (Host.cos a)))) (mulf (extractStridedSlice S16x2048x1x16 ![0, 0, 0, 16] x slices_S16x2048x1x32_S16x2048x1x16_0_0_0_16) (broadcastInDim S16x2048x1x16 ![0, 1, 2, 3] bcast_S1x2048x1x16_S16x2048x1x16_0_1_2_3 (broadcastInDim S1x2048x1x16 ![1, 3] bcast_S2048x16_S1x2048x1x16_1_3 (Host.sin a))))⟩,
    ⟨S16x2048x1x16, addf (mulf (extractStridedSlice S16x2048x1x16 ![0, 0, 0, 0] x slices_S16x2048x1x32_S16x2048x1x16_0_0_0_0) (broadcastInDim S16x2048x1x16 ![0, 1, 2, 3] bcast_S1x2048x1x16_S16x2048x1x16_0_1_2_3 (broadcastInDim S1x2048x1x16 ![1, 3] bcast_S2048x16_S1x2048x1x16_1_3 (Host.sin a)))) (mulf (extractStridedSlice S16x2048x1x16 ![0, 0, 0, 16] x slices_S16x2048x1x32_S16x2048x1x16_0_0_0_16) (broadcastInDim S16x2048x1x16 ![0, 1, 2, 3] bcast_S1x2048x1x16_S16x2048x1x16_0_1_2_3 (broadcastInDim S1x2048x1x16 ![1, 3] bcast_S2048x16_S1x2048x1x16_1_3 (Host.cos a))))⟩,
    ⟨S16x2048x1x0, extractStridedSlice S16x2048x1x0 ![0, 0, 0, 32] x slices_S16x2048x1x32_S16x2048x1x0_0_0_0_32⟩] concatenates_S16x2048x1x16_S16x2048x1x16_S16x2048x1x0_S16x2048x1x32_d3) shapeCasts_S16x2048x1x32_S16x2048x32

theorem proj_at (X : FVec Ideal S16x2048x1024 .f32) (A : FVec Ideal S16x3072 .f32) (W : FVec Ideal S1024x4912 .f32) (b : Fin 16) (t : Fin 2048) (j : Fin 4912) :
    proj X A W (ix3 b t j) = ∑ l : Fin 1024, (X (ix3 b t l) * (1 + A (ix2 b ⟨1024 + l, by omega⟩)) + A (ix2 b ⟨l, by omega⟩)) * W (ix2 l j) := by
  pointwise [proj]

theorem gates_at (P : FVec Ideal S16x2048x4912 .f32) (b : Fin 16) (t : Fin 2048) (j : Fin 3072) :
    gates P (ix3 b t j) = Ideal.div 1 (1 + Ideal.exp (-(P (ix3 b t ⟨1840 + j, by omega⟩)))) := by
  pointwise [gates]

/-- Two columns of one number are one. -/
theorem col {n : ℕ} (P : Fin n → EReal) {i j : ℕ} (hi : i < n) (hj : j < n) (h : i = j) : P ⟨i, hi⟩ = P ⟨j, hj⟩ := by
  subst h; rfl

/-- A turned lane of a first half, and of a second, by the numbers of its columns and its angle. -/
theorem lo_col {n k : ℕ} (P : Fin n → EReal) (g : Fin k → EReal) {x x' y y' r r' q q' : ℕ} (hx : x < n) (hx' : x' < n) (hy : y < n) (hy' : y' < n) (hr : r < k) (hr' : r' < k) (hq : q < k) (hq' : q' < k)
    (ex : x = x') (ey : y = y') (er : r = r') (eq : q = q') :
    P ⟨x, hx⟩ * Ideal.cos (g ⟨r, hr⟩) - P ⟨y, hy⟩ * Ideal.sin (g ⟨q, hq⟩) = P ⟨x', hx'⟩ * Ideal.cos (g ⟨r', hr'⟩) - P ⟨y', hy'⟩ * Ideal.sin (g ⟨q', hq'⟩) := by
  subst ex ey er eq; rfl

theorem hi_col {n k : ℕ} (P : Fin n → EReal) (g : Fin k → EReal) {x x' y y' r r' q q' : ℕ} (hx : x < n) (hx' : x' < n) (hy : y < n) (hy' : y' < n) (hr : r < k) (hr' : r' < k) (hq : q < k) (hq' : q' < k)
    (ex : x = x') (ey : y = y') (er : r = r') (eq : q = q') :
    P ⟨x, hx⟩ * Ideal.sin (g ⟨r, hr⟩) + P ⟨y, hy⟩ * Ideal.cos (g ⟨q, hq⟩) = P ⟨x', hx'⟩ * Ideal.sin (g ⟨r', hr'⟩) + P ⟨y', hy'⟩ * Ideal.cos (g ⟨q', hq'⟩) := by
  subst ex ey er eq; rfl

theorem frows_at (P : FVec Ideal S16x2048x4912 .f32) (b : Fin 16) (t : Fin 2048) (j : Fin 512) :
    frows (parts P) (ix3 b t j) = P (ix3 b t ⟨1324 + j, by omega⟩) := by
  pointwise [frows, parts]
  by_cases h : j.val < 256
  · rw [dif_pos (by omega)]
    exact col (fun i => P (ix3 b t i)) _ _ (by omega)
  · rw [dif_neg (by omega)]
    exact col (fun i => P (ix3 b t i)) _ _ (by omega)

theorem latCols_at (P : FVec Ideal S16x2048x4912 .f32) (b : Fin 16) (t : Fin 2048) (j : Fin 128) :
    latCols (low P) (ix3 b t j) = P (ix3 b t ⟨908 + j, by omega⟩) := by
  pointwise [latCols, low]

theorem normed_at (v : FVec Ideal S16x2048x128 .f32) (g : FVec Ideal S128 .f32) (b : Fin 16) (t : Fin 2048) (j : Fin 128) :
    normed v g (ix3 b t j) = v (ix3 b t j) * Ideal.rsqrt (Ideal.div (∑ i : Fin 128, v (ix3 b t i) * v (ix3 b t i)) (Ideal.ofBits .f32 0x43000000#32) + Ideal.ofBits .f32 0x3727C5AC#32) * g (ix1 j) := by
  pointwise [normed]

theorem ang8_at (t : Fin 2048) (i : Fin 8) : ang8 (ix2 t i) = angle t (BitVec.ofNat 32 i) 0x41800000#32 := by
  unfold angle
  pointwise [ang8]

theorem ang16_at (t : Fin 2048) (i : Fin 16) : ang16 (ix2 t i) = angle t (BitVec.ofNat 32 i) 0x42000000#32 := by
  unfold angle
  pointwise [ang16]

/-! Heads side by side, read in each. -/

theorem cell (z : FVec Ideal S16x2048x1x64 .f32) (b : Fin 16) (t : Fin 2048) {k j : ℕ} (hk : k < 1) (hj : j < 64) (i : Fin 64) (h : j = i) : z (ix4 b t ⟨k, hk⟩ ⟨j, hj⟩) = z (ix4 b t 0 i) := by
  obtain rfl : k = 0 := by omega
  subst h
  rfl

section
variable (x y z w : FVec Ideal S16x2048x1x64 .f32) (b : Fin 16) (t : Fin 2048) (i : Fin 64)

theorem side4_0 : side4 x y z w (ix3 b t ⟨0 + i, by omega⟩) = x (ix4 b t 0 i) := by
  pointwise [side4]
  rw [dif_pos (by omega)]
  exact cell x b t _ _ i (by omega)

theorem side4_1 : side4 x y z w (ix3 b t ⟨64 + i, by omega⟩) = y (ix4 b t 0 i) := by
  pointwise [side4]
  rw [dif_neg (by omega)]
  rw [dif_pos (by omega)]
  exact cell y b t _ _ i (by omega)

theorem side4_2 : side4 x y z w (ix3 b t ⟨128 + i, by omega⟩) = z (ix4 b t 0 i) := by
  pointwise [side4]
  rw [dif_neg (by omega)]
  rw [dif_neg (by omega)]
  rw [dif_pos (by omega)]
  exact cell z b t _ _ i (by omega)

theorem side4_3 : side4 x y z w (ix3 b t ⟨192 + i, by omega⟩) = w (ix4 b t 0 i) := by
  pointwise [side4]
  rw [dif_neg (by omega)]
  rw [dif_neg (by omega)]
  rw [dif_neg (by omega)]
  exact cell w b t _ _ i (by omega)

theorem side2_0 : side2 x y (ix3 b t ⟨0 + i, by omega⟩) = x (ix4 b t 0 i) := by
  pointwise [side2]
  rw [dif_pos (by omega)]
  exact cell x b t _ _ i (by omega)

theorem side2_1 : side2 x y (ix3 b t ⟨64 + i, by omega⟩) = y (ix4 b t 0 i) := by
  pointwise [side2]
  rw [dif_neg (by omega)]
  exact cell y b t _ _ i (by omega)

end

section
variable (x : FVec Ideal S16x2048x1x64 .f32) (a : FVec Ideal S2048x8 .f32) (b : Fin 16) (t : Fin 2048)

/-! A turned head: a first half, a second half, the lanes left. -/

theorem turn8_lo (i : Fin 8) : turn8 x a (ix4 b t 0 ⟨i, by omega⟩) = x (ix4 b t 0 ⟨i, by omega⟩) * Ideal.cos (a (ix2 t i)) - x (ix4 b t 0 ⟨8 + i, by omega⟩) * Ideal.sin (a (ix2 t i)) := by
  pointwise [turn8]

theorem turn8_hi (i : Fin 8) : turn8 x a (ix4 b t 0 ⟨8 + i, by omega⟩) = x (ix4 b t 0 ⟨i, by omega⟩) * Ideal.sin (a (ix2 t i)) + x (ix4 b t 0 ⟨8 + i, by omega⟩) * Ideal.cos (a (ix2 t i)) := by
  pointwise [turn8]

theorem turn8_id (i : Fin 48) : turn8 x a (ix4 b t 0 ⟨16 + i, by omega⟩) = x (ix4 b t 0 ⟨16 + i, by omega⟩) := by
  pointwise [turn8]
  rw [dif_neg (by omega), dif_neg (by omega)]
  exact col (fun i => x (ix4 b t 0 i)) _ _ (by omega)

end

/-! The heads' columns. -/

section
variable (P : FVec Ideal S16x2048x4912 .f32) (b : Fin 16) (t : Fin 2048) (i : Fin 64)

theorem head0_at : head0 (heads P) (ix4 b t 0 i) = P (ix3 b t ⟨256 + i, by omega⟩) := by
  pointwise [head0, heads]

theorem head1_at : head1 (heads P) (ix4 b t 0 i) = P (ix3 b t ⟨320 + i, by omega⟩) := by
  pointwise [head1, heads]
  exact col (fun i => P (ix3 b t i)) _ _ (by omega)

theorem head2_at : head2 (heads P) (ix4 b t 0 i) = P (ix3 b t ⟨384 + i, by omega⟩) := by
  pointwise [head2, heads]
  exact col (fun i => P (ix3 b t i)) _ _ (by omega)

theorem head3_at : head3 (heads P) (ix4 b t 0 i) = P (ix3 b t ⟨448 + i, by omega⟩) := by
  pointwise [head3, heads]
  exact col (fun i => P (ix3 b t i)) _ _ (by omega)

theorem head4_at : head4 (heads P) (ix4 b t 0 i) = P (ix3 b t ⟨512 + i, by omega⟩) := by
  pointwise [head4, heads]
  exact col (fun i => P (ix3 b t i)) _ _ (by omega)

theorem head5_at : head5 (heads P) (ix4 b t 0 i) = P (ix3 b t ⟨576 + i, by omega⟩) := by
  pointwise [head5, heads]
  exact col (fun i => P (ix3 b t i)) _ _ (by omega)

end

section
variable (P : FVec Ideal S16x2048x4912 .f32) (a : FVec Ideal S2048x8 .f32) (b : Fin 16) (t : Fin 2048)

/-! The first two heads of the keys and values: a first half, a second half, the lanes left. -/

theorem rows0_lo (i : Fin 8) : rows P a (ix3 b t ⟨0 + i, by omega⟩) = P (ix3 b t ⟨256 + i, by omega⟩) * Ideal.cos (a (ix2 t i)) - P (ix3 b t ⟨264 + i, by omega⟩) * Ideal.sin (a (ix2 t i)) := by
  refine (side4_0 _ _ _ _ b t ⟨i, by omega⟩).trans ((turn8_lo _ a b t i).trans ?_)
  rw [head0_at, head0_at]
  exact lo_col (fun i => P (ix3 b t i)) (fun i => a (ix2 t i)) _ _ _ _ _ i.isLt _ i.isLt (by simp only [] <;> omega) (by simp only [] <;> omega) rfl rfl

theorem rows0_hi (i : Fin 8) : rows P a (ix3 b t ⟨8 + i, by omega⟩) = P (ix3 b t ⟨256 + i, by omega⟩) * Ideal.sin (a (ix2 t i)) + P (ix3 b t ⟨264 + i, by omega⟩) * Ideal.cos (a (ix2 t i)) := by
  refine (congrArg (fun i => rows P a (ix3 b t i)) (Fin.ext (by first | rfl | (show _ = _; simp only [] <;> omega)))).trans ((side4_0 _ _ _ _ b t ⟨8 + i, by omega⟩).trans ((turn8_hi _ a b t i).trans ?_))
  rw [head0_at, head0_at]
  exact hi_col (fun i => P (ix3 b t i)) (fun i => a (ix2 t i)) _ _ _ _ _ i.isLt _ i.isLt (by simp only [] <;> omega) (by simp only [] <;> omega) rfl rfl

theorem rows0_id (i : Fin 112) : rows P a (ix3 b t ⟨16 + i, by omega⟩) = P (ix3 b t ⟨272 + i, by omega⟩) := by
  by_cases h : i.val < 48
  · refine (congrArg (fun i => rows P a (ix3 b t i)) (Fin.ext (by first | rfl | (show _ = _; simp only [] <;> omega)))).trans ((side4_0 _ _ _ _ b t ⟨16 + i, by omega⟩).trans ((turn8_id _ a b t ⟨i, h⟩).trans ?_))
    rw [head0_at]
    exact (col (fun i => P (ix3 b t i)) _ _ (by first | rfl | (simp only [] <;> omega)))
  · refine (congrArg (fun i => rows P a (ix3 b t i)) (Fin.ext (by first | rfl | (show _ = _; simp only [] <;> omega)))).trans ((side4_1 _ _ _ _ b t ⟨i - 48, by omega⟩).trans ?_)
    rw [head1_at]
    exact (col (fun i => P (ix3 b t i)) _ _ (by first | rfl | (simp only [] <;> omega)))

/-! The last two heads: a first half, a second half, the lanes left. -/

theorem rows1_lo (i : Fin 8) : rows P a (ix3 b t ⟨128 + i, by omega⟩) = P (ix3 b t ⟨384 + i, by omega⟩) * Ideal.cos (a (ix2 t i)) - P (ix3 b t ⟨392 + i, by omega⟩) * Ideal.sin (a (ix2 t i)) := by
  refine (side4_2 _ _ _ _ b t ⟨i, by omega⟩).trans ((turn8_lo _ a b t i).trans ?_)
  rw [head2_at, head2_at]
  exact lo_col (fun i => P (ix3 b t i)) (fun i => a (ix2 t i)) _ _ _ _ _ i.isLt _ i.isLt (by simp only [] <;> omega) (by simp only [] <;> omega) rfl rfl

theorem rows1_hi (i : Fin 8) : rows P a (ix3 b t ⟨136 + i, by omega⟩) = P (ix3 b t ⟨384 + i, by omega⟩) * Ideal.sin (a (ix2 t i)) + P (ix3 b t ⟨392 + i, by omega⟩) * Ideal.cos (a (ix2 t i)) := by
  refine (congrArg (fun i => rows P a (ix3 b t i)) (Fin.ext (by first | rfl | (show _ = _; simp only [] <;> omega)))).trans ((side4_2 _ _ _ _ b t ⟨8 + i, by omega⟩).trans ((turn8_hi _ a b t i).trans ?_))
  rw [head2_at, head2_at]
  exact hi_col (fun i => P (ix3 b t i)) (fun i => a (ix2 t i)) _ _ _ _ _ i.isLt _ i.isLt (by simp only [] <;> omega) (by simp only [] <;> omega) rfl rfl

theorem rows1_id (i : Fin 112) : rows P a (ix3 b t ⟨144 + i, by omega⟩) = P (ix3 b t ⟨400 + i, by omega⟩) := by
  by_cases h : i.val < 48
  · refine (congrArg (fun i => rows P a (ix3 b t i)) (Fin.ext (by first | rfl | (show _ = _; simp only [] <;> omega)))).trans ((side4_2 _ _ _ _ b t ⟨16 + i, by omega⟩).trans ((turn8_id _ a b t ⟨i, h⟩).trans ?_))
    rw [head2_at]
    exact (col (fun i => P (ix3 b t i)) _ _ (by first | rfl | (simp only [] <;> omega)))
  · refine (congrArg (fun i => rows P a (ix3 b t i)) (Fin.ext (by first | rfl | (show _ = _; simp only [] <;> omega)))).trans ((side4_3 _ _ _ _ b t ⟨i - 48, by omega⟩).trans ?_)
    rw [head3_at]
    exact (col (fun i => P (ix3 b t i)) _ _ (by first | rfl | (simp only [] <;> omega)))

/-! The window's two heads: a first half, a second half, the lanes left. -/

theorem win_lo (i : Fin 8) : win P a (ix3 b t ⟨0 + i, by omega⟩) = P (ix3 b t ⟨512 + i, by omega⟩) * Ideal.cos (a (ix2 t i)) - P (ix3 b t ⟨520 + i, by omega⟩) * Ideal.sin (a (ix2 t i)) := by
  refine (side2_0 _ _ b t ⟨i, by omega⟩).trans ((turn8_lo _ a b t i).trans ?_)
  rw [head4_at, head4_at]
  exact lo_col (fun i => P (ix3 b t i)) (fun i => a (ix2 t i)) _ _ _ _ _ i.isLt _ i.isLt (by simp only [] <;> omega) (by simp only [] <;> omega) rfl rfl

theorem win_hi (i : Fin 8) : win P a (ix3 b t ⟨8 + i, by omega⟩) = P (ix3 b t ⟨512 + i, by omega⟩) * Ideal.sin (a (ix2 t i)) + P (ix3 b t ⟨520 + i, by omega⟩) * Ideal.cos (a (ix2 t i)) := by
  refine (congrArg (fun i => win P a (ix3 b t i)) (Fin.ext (by first | rfl | (show _ = _; simp only [] <;> omega)))).trans ((side2_0 _ _ b t ⟨8 + i, by omega⟩).trans ((turn8_hi _ a b t i).trans ?_))
  rw [head4_at, head4_at]
  exact hi_col (fun i => P (ix3 b t i)) (fun i => a (ix2 t i)) _ _ _ _ _ i.isLt _ i.isLt (by simp only [] <;> omega) (by simp only [] <;> omega) rfl rfl

theorem win_id (i : Fin 112) : win P a (ix3 b t ⟨16 + i, by omega⟩) = P (ix3 b t ⟨528 + i, by omega⟩) := by
  by_cases h : i.val < 48
  · refine (congrArg (fun i => win P a (ix3 b t i)) (Fin.ext (by first | rfl | (show _ = _; simp only [] <;> omega)))).trans ((side2_0 _ _ b t ⟨16 + i, by omega⟩).trans ((turn8_id _ a b t ⟨i, h⟩).trans ?_))
    rw [head4_at]
    exact (col (fun i => P (ix3 b t i)) _ _ (by first | rfl | (simp only [] <;> omega)))
  · refine (congrArg (fun i => win P a (ix3 b t i)) (Fin.ext (by first | rfl | (show _ = _; simp only [] <;> omega)))).trans ((side2_1 _ _ b t ⟨i - 48, by omega⟩).trans ?_)
    rw [head5_at]
    exact (col (fun i => P (ix3 b t i)) _ _ (by first | rfl | (simp only [] <;> omega)))

end

section
variable (P : FVec Ideal S16x2048x4912 .f32) (a : FVec Ideal S2048x16 .f32) (b : Fin 16) (t : Fin 2048)

/-! The rotary columns: a first half, a second. -/

theorem rope_lo (i : Fin 16) : turn16 (ropeCols (low P)) a (ix3 b t ⟨i, by omega⟩) = P (ix3 b t ⟨1036 + i, by omega⟩) * Ideal.cos (a (ix2 t i)) - P (ix3 b t ⟨1052 + i, by omega⟩) * Ideal.sin (a (ix2 t i)) := by
  pointwise [turn16, ropeCols, low]
  exact lo_col (fun i => P (ix3 b t i)) (fun i => a (ix2 t i)) _ _ _ _ _ i.isLt _ i.isLt (by omega) (by omega) (by omega) (by omega)

theorem rope_hi (i : Fin 16) : turn16 (ropeCols (low P)) a (ix3 b t ⟨16 + i, by omega⟩) = P (ix3 b t ⟨1036 + i, by omega⟩) * Ideal.sin (a (ix2 t i)) + P (ix3 b t ⟨1052 + i, by omega⟩) * Ideal.cos (a (ix2 t i)) := by
  pointwise [turn16, ropeCols, low]
  exact hi_col (fun i => P (ix3 b t i)) (fun i => a (ix2 t i)) _ _ _ _ _ i.isLt _ i.isLt (by omega) (by omega) (by omega) (by omega)

end

end Cert.Reference3Ideal.Val

end
-- ==== Proof.Out3.lean ====
/-
  WHAT ONE POINT OF THE INPUT PROJECTION LEAVES: over any blocks that read as the arguments' rows, columns and angles do, each of the six
  buffers holds the reference's values at the tile's places.
-/
module

public import proofs.«01_k».proof.Proof.Tile3
public import proofs.«01_k».proof.Proof.Lane3
public import proofs.«01_k».proof.Proof.Plain3
public import Idealize.ShloMosaic.Lib.Pipeline.ValueKit

@[expose] public section

set_option maxRecDepth 16384

noncomputable section

namespace Cert.Kernel3Ideal.Val

open Idealize.ShloMosaic Idealize.ShloMosaic.TcCoe
open Cert.Kernel3Ideal Cert.Kernel3Ideal.Gen Cert.Kernel3Ideal.Proj Cert.Angle3
open Cert.Reference3Ideal (S16x2048x4912)
open Cert.Reference3Ideal.Val (rows win normed latCols low turn16 ropeCols frows parts gates ang8 ang16)

/-! The columns a load takes. -/

theorem ld7 (f : Vec Ideal S1024x5248 .bf16) (l : Fin 1024) (j : Fin 384) : View.ld f r7 (ix2 l j) = f (ix2 l ⟨256 + j, by omega⟩) :=
  View.ld_unit_apply_of f _ _ _ _ _ fun a => by
    fin_cases a
    · exact (Nat.zero_add _).symm
    · rfl

theorem ld21 (f : Vec Ideal S1024x5248 .bf16) (l : Fin 1024) (j : Fin 256) : View.ld f r21 (ix2 l j) = f (ix2 l ⟨1024 + j, by omega⟩) :=
  View.ld_unit_apply_of f _ _ _ _ _ fun a => by
    fin_cases a
    · exact (Nat.zero_add _).symm
    · rfl

theorem ld27 (f : Vec Ideal S1024x5248 .bf16) (l : Fin 1024) (j : Fin 768) : View.ld f r27 (ix2 l j) = f (ix2 l ⟨1280 + j, by omega⟩) :=
  View.ld_unit_apply_of f _ _ _ _ _ fun a => by
    fin_cases a
    · exact (Nat.zero_add _).symm
    · rfl

theorem ld31 (f : Vec Ideal S1024x5248 .bf16) (l : Fin 1024) (j : Fin 1024) : View.ld f r31 (ix2 l j) = f (ix2 l ⟨2176 + j, by omega⟩) :=
  View.ld_unit_apply_of f _ _ _ _ _ fun a => by
    fin_cases a
    · exact (Nat.zero_add _).symm
    · rfl

theorem ld33 (f : Vec Ideal S1024x5248 .bf16) (l : Fin 1024) (j : Fin 1024) : View.ld f r33 (ix2 l j) = f (ix2 l ⟨3200 + j, by omega⟩) :=
  View.ld_unit_apply_of f _ _ _ _ _ fun a => by
    fin_cases a
    · exact (Nat.zero_add _).symm
    · rfl

theorem ld35 (f : Vec Ideal S1024x5248 .bf16) (l : Fin 1024) (j : Fin 1024) : View.ld f r35 (ix2 l j) = f (ix2 l ⟨4224 + j, by omega⟩) :=
  View.ld_unit_apply_of f _ _ _ _ _ fun a => by
    fin_cases a
    · exact (Nat.zero_add _).symm
    · rfl

theorem ld8 (f : Vec Ideal S8x256x128 .f32) (r : Fin 256) (j : Fin 128) : View.ld f r8 (ix3 0 r j) = f (ix3 2 r j) :=
  View.ld_unit_apply_of f _ _ _ _ _ fun a => by
    fin_cases a
    · rfl
    · exact (Nat.zero_add _).symm
    · exact (Nat.zero_add _).symm

theorem ld9 (f : Vec Ideal S8x256x128 .f32) (r : Fin 256) (j : Fin 128) : View.ld f r9 (ix3 0 r j) = f (ix3 3 r j) :=
  View.ld_unit_apply_of f _ _ _ _ _ fun a => by
    fin_cases a
    · rfl
    · exact (Nat.zero_add _).symm
    · exact (Nat.zero_add _).symm

theorem ld23 (f : Vec Ideal S8x256x128 .f32) (r : Fin 256) (j : Fin 128) : View.ld f r23 (ix3 0 r j) = f (ix3 4 r j) :=
  View.ld_unit_apply_of f _ _ _ _ _ fun a => by
    fin_cases a
    · rfl
    · exact (Nat.zero_add _).symm
    · exact (Nat.zero_add _).symm

theorem ld24 (f : Vec Ideal S8x256x128 .f32) (r : Fin 256) (j : Fin 128) : View.ld f r24 (ix3 0 r j) = f (ix3 5 r j) :=
  View.ld_unit_apply_of f _ _ _ _ _ fun a => by
    fin_cases a
    · rfl
    · exact (Nat.zero_add _).symm
    · exact (Nat.zero_add _).symm

theorem ld0 (f : Vec Ideal S1x256x1024 .f32) (r : Fin 256) (j : Fin 1024) : View.ld f r0 (ix3 0 r j) = f (ix3 0 r j) :=
  View.ld_unit_apply_of f _ _ _ _ _ fun a => by fin_cases a <;> exact (Nat.zero_add _).symm

theorem ld1 (f : Vec Ideal S1x1x1024 .f32) (j : Fin 1024) : View.ld f r1 (ix3 0 0 j) = f (ix3 0 0 j) :=
  View.ld_unit_apply_of f _ _ _ _ _ fun a => by fin_cases a <;> exact (Nat.zero_add _).symm

theorem ld22 (f : Vec Ideal S1x128 .f32) (j : Fin 128) : View.ld f r22 (ix2 0 j) = f (ix2 0 j) :=
  View.ld_unit_apply_of f _ _ _ _ _ fun a => by fin_cases a <;> exact (Nat.zero_add _).symm

/-! Where a store's element lies. -/

theorem at5 (r : Fin 256) (j : Fin 128) : r5.emb (ix3 0 r j) = (ix3 0 r ⟨0 + j, by omega⟩ : S1x256x256.Idx) := by
  funext a
  refine Fin.ext ((Rect.idx_unit_val _ _ _ _ a).trans ?_)
  fin_cases a
  · rfl
  · exact Nat.zero_add _
  · rfl

theorem at6 (r : Fin 256) (j : Fin 128) : r6.emb (ix3 0 r j) = (ix3 0 r ⟨128 + j, by omega⟩ : S1x256x256.Idx) := by
  funext a
  refine Fin.ext ((Rect.idx_unit_val _ _ _ _ a).trans ?_)
  fin_cases a
  · rfl
  · exact Nat.zero_add _
  · rfl

theorem at11 (r : Fin 256) (j : Fin 128) : r11.emb (ix3 0 r j) = (ix3 0 r ⟨0 + j, by omega⟩ : S1x256x128.Idx) := by
  funext a
  refine Fin.ext ((Rect.idx_unit_val _ _ _ _ a).trans ?_)
  fin_cases a
  · rfl
  · exact Nat.zero_add _
  · rfl

theorem at25 (r : Fin 256) (j : Fin 32) : r25.emb (ix3 0 r j) = (ix3 0 r ⟨0 + j, by omega⟩ : S1x256x32.Idx) := by
  funext a
  refine Fin.ext ((Rect.idx_unit_val _ _ _ _ a).trans ?_)
  fin_cases a
  · rfl
  · exact Nat.zero_add _
  · rfl

theorem at29 (r : Fin 256) (j : Fin 512) : r29.emb (ix3 0 r j) = (ix3 0 r ⟨0 + j, by omega⟩ : S1x256x512.Idx) := by
  funext a
  refine Fin.ext ((Rect.idx_unit_val _ _ _ _ a).trans ?_)
  fin_cases a
  · rfl
  · exact Nat.zero_add _
  · rfl

theorem at32 (r : Fin 256) (j : Fin 1024) : r32.emb (ix3 0 r j) = (ix3 0 r ⟨0 + j, by omega⟩ : S1x256x3072.Idx) := by
  funext a
  refine Fin.ext ((Rect.idx_unit_val _ _ _ _ a).trans ?_)
  fin_cases a
  · rfl
  · exact Nat.zero_add _
  · rfl

theorem at34 (r : Fin 256) (j : Fin 1024) : r34.emb (ix3 0 r j) = (ix3 0 r ⟨1024 + j, by omega⟩ : S1x256x3072.Idx) := by
  funext a
  refine Fin.ext ((Rect.idx_unit_val _ _ _ _ a).trans ?_)
  fin_cases a
  · rfl
  · exact Nat.zero_add _
  · rfl

theorem at36 (r : Fin 256) (j : Fin 1024) : r36.emb (ix3 0 r j) = (ix3 0 r ⟨2048 + j, by omega⟩ : S1x256x3072.Idx) := by
  funext a
  refine Fin.ext ((Rect.idx_unit_val _ _ _ _ a).trans ?_)
  fin_cases a
  · rfl
  · exact Nat.zero_add _
  · rfl

/-- What the blocks of a point are taken to read as: `P` is the projection, `b` the sequence, `pos` the rows' places in it, `g` the latent norm's weights. -/
structure Reads (X : Ins Ideal) (P : FVec Ideal S16x2048x4912 .f32) (g : FVec Ideal S128 .f32) (b : Fin 16) (pos : Fin 256 → Fin 2048) : Prop where
  heads : ∀ (r : Fin 256) (j : Fin 384), ∑ l : Fin 1024, X.modulated (ix2 r l) * X.x4 (ix2 l ⟨256 + j, by omega⟩) = P (ix3 b (pos r) ⟨256 + j, by omega⟩)
  lat : ∀ (r : Fin 256) (j : Fin 128), ∑ l : Fin 1024, X.modulated (ix2 r l) * X.x4 (ix2 l ⟨1024 + j, by omega⟩) = P (ix3 b (pos r) ⟨908 + j, by omega⟩)
  rope : ∀ (r : Fin 256) (j : Fin 32), ∑ l : Fin 1024, X.modulated (ix2 r l) * X.x4 (ix2 l ⟨1152 + j, by omega⟩) = P (ix3 b (pos r) ⟨1036 + j, by omega⟩)
  fox : ∀ (r : Fin 256) (j : Fin 768), ∑ l : Fin 1024, X.modulated (ix2 r l) * X.x4 (ix2 l ⟨1280 + j, by omega⟩) = P (ix3 b (pos r) ⟨1068 + j, by omega⟩)
  gate : ∀ (r : Fin 256) (j : Fin 3072), ∑ l : Fin 1024, X.modulated (ix2 r l) * X.x4 (ix2 l ⟨2176 + j, by omega⟩) = P (ix3 b (pos r) ⟨1840 + j, by omega⟩)
  weights : ∀ j : Fin 128, X.x8 (ix2 0 j) = g (ix1 j)
  cos8 : ∀ (r : Fin 256) (j : Fin 128), X.x3 (ix3 2 r j) = if j.val < 16 then Ideal.cos (angle (pos r) (BitVec.ofNat 32 (j.val % 8)) 0x41800000#32) else 1
  sin8 : ∀ (r : Fin 256) (j : Fin 128), X.x3 (ix3 3 r j) = if j.val < 16 then (if j.val < 8 then -(Ideal.sin (angle (pos r) (BitVec.ofNat 32 (j.val % 8)) 0x41800000#32)) else Ideal.sin (angle (pos r) (BitVec.ofNat 32 (j.val % 8)) 0x41800000#32)) else 0
  cos16 : ∀ (r : Fin 256) (j : Fin 128), X.x3 (ix3 4 r j) = if j.val < 32 then Ideal.cos (angle (pos r) (BitVec.ofNat 32 (j.val % 16)) 0x42000000#32) else 1
  sin16 : ∀ (r : Fin 256) (j : Fin 128), X.x3 (ix3 5 r j) = if j.val < 32 then (if j.val < 16 then -(Ideal.sin (angle (pos r) (BitVec.ofNat 32 (j.val % 16)) 0x42000000#32)) else Ideal.sin (angle (pos r) (BitVec.ofNat 32 (j.val % 16)) 0x42000000#32)) else 0

/-- The modulated rows, over the blocks. -/
theorem mod_val (B : Ins Ideal) (r : Fin 256) (l : Fin 1024) : B.modulated (ix2 r l) = B.x0 (ix3 0 r l) * (1 + B.x2 (ix3 0 0 l)) + B.x1 (ix3 0 0 l) := by
  refine (mod_at _ _ _ r l).trans ?_
  rw [ld0, ld1, ld1]

theorem place128 (x : S1x256x128.Idx) : ∃ (r : Fin 256) (j : Fin 128), x = ix3 0 r j := ⟨x 1, x 2, by funext k; fin_cases k; exacts [Subsingleton.elim (α := Fin 1) _ _, rfl, rfl]⟩
theorem place32 (x : S1x256x32.Idx) : ∃ (r : Fin 256) (j : Fin 32), x = ix3 0 r j := ⟨x 1, x 2, by funext k; fin_cases k; exacts [Subsingleton.elim (α := Fin 1) _ _, rfl, rfl]⟩
theorem place512 (x : S1x256x512.Idx) : ∃ (r : Fin 256) (j : Fin 512), x = ix3 0 r j := ⟨x 1, x 2, by funext k; fin_cases k; exacts [Subsingleton.elim (α := Fin 1) _ _, rfl, rfl]⟩
theorem place1024 (x : S1x256x1024.Idx) : ∃ (r : Fin 256) (j : Fin 1024), x = ix3 0 r j := ⟨x 1, x 2, by funext k; fin_cases k; exacts [Subsingleton.elim (α := Fin 1) _ _, rfl, rfl]⟩

/-- A turned lane reads equal rows alike. -/
theorem lane (p : Prop) [Decidable p] {a a' b b' c c' : EReal} (x y : EReal) (ha : a = a') (hb : b = b') (hc : c = c') :
    a * x + (if p then b else c) * y = a' * x + (if p then b' else c') * y := by
  rw [ha, hb, hc]

section
variable (X : Ins Ideal) (P : FVec Ideal S16x2048x4912 .f32) (g : FVec Ideal S128 .f32) (b : Fin 16) (pos : Fin 256 → Fin 2048) (R : Reads X P g b pos)
include R

theorem qkv_val (r : Fin 256) (j : Fin 384) : X.qkv (ix2 r j) = P (ix3 b (pos r) ⟨256 + j, by omega⟩) :=
  (qkv_at _ _ r j).trans ((Finset.sum_congr rfl fun l _ => congrArg (fun y : EReal => X.modulated (ix2 r l) * y) (ld7 X.x4 l j)).trans (R.heads r j))

theorem latent_val (r : Fin 256) (j : Fin 128) : X.latent (ix2 r j) = P (ix3 b (pos r) ⟨908 + j, by omega⟩) :=
  (latent_at _ _ r j).trans ((lr_at _ _ r ⟨j, by omega⟩).trans ((Finset.sum_congr rfl fun l _ => congrArg (fun y : EReal => X.modulated (ix2 r l) * y) (ld21 X.x4 l ⟨j, by omega⟩)).trans (R.lat r j)))

theorem lr_val (r : Fin 256) (j : Fin 32) : X.lr (ix2 r ⟨128 + j, by omega⟩) = P (ix3 b (pos r) ⟨1036 + j, by omega⟩) := by
  refine (lr_at _ _ r ⟨128 + j, by omega⟩).trans ((Finset.sum_congr rfl fun l _ => congrArg (fun y : EReal => X.modulated (ix2 r l) * y) ((ld21 X.x4 l ⟨128 + j, by omega⟩).trans ?_)).trans (R.rope r j))
  exact place (fun i => X.x4 (ix2 l i)) _ _ (show 1024 + (128 + j.val) = 1152 + j.val by omega)

/-! The latent row's norm. -/

theorem lat_val (r : Fin 256) (j : Fin 128) : k0_pay29 X.latent X.sq (View.ld X.x8 r22) (ix3 0 r j) = normed (latCols (low P)) g (ix3 b (pos r) j) := by
  have hv : ∀ i, X.latent (ix2 r i) = latCols (low P) (ix3 b (pos r) i) := fun i => (latent_val X P g b pos R r i).trans (Cert.Reference3Ideal.Val.latCols_at P b (pos r) i).symm
  have hs : X.sq (ix1 r) = ∑ i : Fin 128, latCols (low P) (ix3 b (pos r) i) * latCols (low P) (ix3 b (pos r) i) :=
    (sq_at _ _ r).trans (Finset.sum_congr rfl fun i _ => congrArg (fun y : EReal => y * y) (hv i))
  rw [norm_at, Cert.Reference3Ideal.Val.normed_at, ld22, R.weights, hv, hs]

theorem lat_out (r : Fin 256) (j : Fin 128) : o16 X (ix3 0 r j) = normed (latCols (low P)) g (ix3 b (pos r) j) := by
  unfold o16
  refine View.canon_apply_of_pieces (Val := Elt Ideal) (fun y : S1x256x128.Idx => normed (latCols (low P)) g (ix3 b (pos (y 1)) (y 2))) _ (fun p hp x => ?_) (ix3 0 r j) (fills16 _ _)
  simp only [List.mem_cons, List.mem_nil_iff, or_false] at hp
  subst hp
  obtain ⟨r, j, rfl⟩ := place128 x
  exact (lat_val X P g b pos R r j).trans (((congrArg (fun y : S1x256x128.Idx => normed (latCols (low P)) g (ix3 b (pos (y 1)) (y 2))) (at11 r j)).trans (congrArg (fun i => normed (latCols (low P)) g (ix3 b (pos r) i)) (Fin.ext (Nat.zero_add _)))).symm)

/-! The forgetting attention's rows. -/

theorem fox_val (r : Fin 256) (j : Fin 512) : k0_pay37 X.modulated (View.ld X.x4 r27) (ix3 0 r j) = frows (parts P) (ix3 b (pos r) j) := by
  refine (frow_at _ _ r j).trans ((Finset.sum_congr rfl fun l _ => congrArg (fun y : EReal => X.modulated (ix2 r l) * y) (ld27 X.x4 l ⟨256 + j, by omega⟩)).trans
    ((R.fox r ⟨256 + j, by omega⟩).trans ?_))
  refine Eq.trans ?_ (Cert.Reference3Ideal.Val.frows_at P b (pos r) j).symm
  exact place (fun i => P (ix3 b (pos r) i)) _ _ (show 1068 + (256 + j.val) = 1324 + j.val by omega)

theorem fox_out (r : Fin 256) (j : Fin 512) : o20 X (ix3 0 r j) = frows (parts P) (ix3 b (pos r) j) := by
  unfold o20
  refine View.canon_apply_of_pieces (Val := Elt Ideal) (fun y : S1x256x512.Idx => frows (parts P) (ix3 b (pos (y 1)) (y 2))) _ (fun p hp x => ?_) (ix3 0 r j) (fills20 _ _)
  simp only [List.mem_cons, List.mem_nil_iff, or_false] at hp
  subst hp
  obtain ⟨r, j, rfl⟩ := place512 x
  exact (fox_val X P g b pos R r j).trans (((congrArg (fun y : S1x256x512.Idx => frows (parts P) (ix3 b (pos (y 1)) (y 2))) (at29 r j)).trans (congrArg (fun i => frows (parts P) (ix3 b (pos r) i)) (Fin.ext (Nat.zero_add _)))).symm)

/-! The branch gates, a third at a time. -/

theorem third (o : ℕ) (ho : o + 1024 ≤ 3072) (w : Vec Ideal S1024x1024 .bf16) (hw : ∀ l j, w (ix2 l j) = X.x4 (ix2 l ⟨2176 + (o + j.val), by omega⟩)) (r : Fin 256) (j : Fin 1024) :
    Ideal.div 1 (1 + Ideal.exp (-(∑ l : Fin 1024, X.modulated (ix2 r l) * w (ix2 l j)))) = gates P (ix3 b (pos r) ⟨o + j, by omega⟩) := by
  rw [Cert.Reference3Ideal.Val.gates_at]
  refine congrArg (fun y : EReal => Ideal.div 1 (1 + Ideal.exp (-y))) ((Finset.sum_congr rfl fun l _ => congrArg (fun y : EReal => X.modulated (ix2 r l) * y) (hw l j)).trans (R.gate r ⟨o + j, by omega⟩))

theorem gates_out (r : Fin 256) (j : Fin 3072) : o23 X (ix3 0 r j) = gates P (ix3 b (pos r) j) := by
  unfold o23
  refine View.canon_apply_of_pieces (Val := Elt Ideal) (fun y : S1x256x3072.Idx => gates P (ix3 b (pos (y 1)) (y 2))) _ (fun p hp x => ?_) (ix3 0 r j) (fills23 _ _ _ _)
  simp only [List.mem_cons, List.mem_nil_iff, or_false] at hp
  rcases hp with rfl | rfl | rfl
  · obtain ⟨r, j, rfl⟩ := place1024 x
    exact ((gate2_at _ _ r j).trans (third X P g b pos R 2048 (by omega) _ (fun l j => (ld35 X.x4 l j).trans (place (fun i => X.x4 (ix2 l i)) _ _ (show 4224 + j.val = 2176 + (2048 + j.val) by omega))) r j)).trans (congrArg (fun y : S1x256x3072.Idx => gates P (ix3 b (pos (y 1)) (y 2))) (at36 r j)).symm
  · obtain ⟨r, j, rfl⟩ := place1024 x
    exact ((gate1_at _ _ r j).trans (third X P g b pos R 1024 (by omega) _ (fun l j => (ld33 X.x4 l j).trans (place (fun i => X.x4 (ix2 l i)) _ _ (show 3200 + j.val = 2176 + (1024 + j.val) by omega))) r j)).trans (congrArg (fun y : S1x256x3072.Idx => gates P (ix3 b (pos (y 1)) (y 2))) (at34 r j)).symm
  · obtain ⟨r, j, rfl⟩ := place1024 x
    exact ((gate_at _ _ r j).trans (third X P g b pos R 0 (by omega) _ (fun l j => (ld31 X.x4 l j).trans (place (fun i => X.x4 (ix2 l i)) _ _ (show 2176 + j.val = 2176 + (0 + j.val) by omega))) r j)).trans (congrArg (fun y : S1x256x3072.Idx => gates P (ix3 b (pos (y 1)) (y 2))) (at32 r j)).symm

/-! The turned heads: the compressed and the selected keys and values, and the window's. -/

theorem keys_val (r : Fin 256) (j : Fin 128) : k0_pay11 lanes (k0_pay9 X.modulated (View.ld X.x4 r7)) (k0_pay10 (View.ld X.x3 r8)) (View.ld X.x3 r9) (ix3 0 r j) = rows P ang8 (ix3 b (pos r) ⟨0 + j, by omega⟩) := by
  refine Eq.trans ?_ (meet8 (fun i => P (ix3 b (pos r) ⟨256 + i, by omega⟩)) (fun i => X.x3 (ix3 2 r i)) (fun i => X.x3 (ix3 3 r i)) (fun i => rows P ang8 (ix3 b (pos r) ⟨0 + i, by omega⟩))
    (fun i => angle (pos r) (BitVec.ofNat 32 i) 0x41800000#32) (R.cos8 r) (R.sin8 r) (fun i => ?_) (fun i => ?_) (fun i => ?_) j)
  · rw [keys_at, ld8, ld9]
    exact lane _ _ _ ((qkv_val X P g b pos R r _).trans (place (fun k => P (ix3 b (pos r) k)) _ _ (by first | rfl | (simp only [] <;> omega)))) ((qkv_val X P g b pos R r _).trans (place (fun k => P (ix3 b (pos r) k)) _ _ (by first | rfl | (simp only [] <;> omega)))) ((qkv_val X P g b pos R r _).trans (place (fun k => P (ix3 b (pos r) k)) _ _ (by first | rfl | (simp only [] <;> omega))))
  · refine ((congrArg (fun k => rows P ang8 (ix3 b (pos r) k)) (Fin.ext (by first | rfl | (show _ = _; simp only [] <;> omega)))).trans (Cert.Reference3Ideal.Val.rows0_lo P ang8 b (pos r) i)).trans ?_
    rw [Cert.Reference3Ideal.Val.ang8_at]
    refine congrArg₂ (fun x y : EReal => x * Ideal.cos _ - y * Ideal.sin _) (place (fun k => P (ix3 b (pos r) k)) _ _ (by first | rfl | (simp only [] <;> omega))) (place (fun k => P (ix3 b (pos r) k)) _ _ (by first | rfl | (simp only [] <;> omega)))
  · refine ((congrArg (fun k => rows P ang8 (ix3 b (pos r) k)) (Fin.ext (by first | rfl | (show _ = _; simp only [] <;> omega)))).trans (Cert.Reference3Ideal.Val.rows0_hi P ang8 b (pos r) i)).trans ?_
    rw [Cert.Reference3Ideal.Val.ang8_at]
    refine congrArg₂ (fun x y : EReal => x * Ideal.sin _ + y * Ideal.cos _) (place (fun k => P (ix3 b (pos r) k)) _ _ (by first | rfl | (simp only [] <;> omega))) (place (fun k => P (ix3 b (pos r) k)) _ _ (by first | rfl | (simp only [] <;> omega)))
  · refine ((congrArg (fun k => rows P ang8 (ix3 b (pos r) k)) (Fin.ext (by first | rfl | (show _ = _; simp only [] <;> omega)))).trans (Cert.Reference3Ideal.Val.rows0_id P ang8 b (pos r) i)).trans ?_
    exact place (fun k => P (ix3 b (pos r) k)) _ _ (by first | rfl | (simp only [] <;> omega))

theorem keys1_val (r : Fin 256) (j : Fin 128) : k0_pay13 X.keys (ix3 0 r j) = rows P ang8 (ix3 b (pos r) ⟨128 + j, by omega⟩) := by
  refine Eq.trans ?_ (meet8 (fun i => P (ix3 b (pos r) ⟨384 + i, by omega⟩)) (fun i => X.x3 (ix3 2 r i)) (fun i => X.x3 (ix3 3 r i)) (fun i => rows P ang8 (ix3 b (pos r) ⟨128 + i, by omega⟩))
    (fun i => angle (pos r) (BitVec.ofNat 32 i) 0x41800000#32) (R.cos8 r) (R.sin8 r) (fun i => ?_) (fun i => ?_) (fun i => ?_) j)
  · rw [Ins.keys, keys1_at, ld8, ld9]
    exact lane _ _ _ ((qkv_val X P g b pos R r _).trans (place (fun k => P (ix3 b (pos r) k)) _ _ (by first | rfl | (simp only [] <;> omega)))) ((qkv_val X P g b pos R r _).trans (place (fun k => P (ix3 b (pos r) k)) _ _ (by first | rfl | (simp only [] <;> omega)))) ((qkv_val X P g b pos R r _).trans (place (fun k => P (ix3 b (pos r) k)) _ _ (by first | rfl | (simp only [] <;> omega))))
  · refine ((congrArg (fun k => rows P ang8 (ix3 b (pos r) k)) (Fin.ext (by first | rfl | (show _ = _; simp only [] <;> omega)))).trans (Cert.Reference3Ideal.Val.rows1_lo P ang8 b (pos r) i)).trans ?_
    rw [Cert.Reference3Ideal.Val.ang8_at]
    refine congrArg₂ (fun x y : EReal => x * Ideal.cos _ - y * Ideal.sin _) (place (fun k => P (ix3 b (pos r) k)) _ _ (by first | rfl | (simp only [] <;> omega))) (place (fun k => P (ix3 b (pos r) k)) _ _ (by first | rfl | (simp only [] <;> omega)))
  · refine ((congrArg (fun k => rows P ang8 (ix3 b (pos r) k)) (Fin.ext (by first | rfl | (show _ = _; simp only [] <;> omega)))).trans (Cert.Reference3Ideal.Val.rows1_hi P ang8 b (pos r) i)).trans ?_
    rw [Cert.Reference3Ideal.Val.ang8_at]
    refine congrArg₂ (fun x y : EReal => x * Ideal.sin _ + y * Ideal.cos _) (place (fun k => P (ix3 b (pos r) k)) _ _ (by first | rfl | (simp only [] <;> omega))) (place (fun k => P (ix3 b (pos r) k)) _ _ (by first | rfl | (simp only [] <;> omega)))
  · refine ((congrArg (fun k => rows P ang8 (ix3 b (pos r) k)) (Fin.ext (by first | rfl | (show _ = _; simp only [] <;> omega)))).trans (Cert.Reference3Ideal.Val.rows1_id P ang8 b (pos r) i)).trans ?_
    exact place (fun k => P (ix3 b (pos r) k)) _ _ (by first | rfl | (simp only [] <;> omega))

theorem win_val (r : Fin 256) (j : Fin 128) : k0_pay17 lanes X.qkv (View.ld X.x3 r8) (View.ld X.x3 r9) (ix3 0 r j) = win P ang8 (ix3 b (pos r) ⟨0 + j, by omega⟩) := by
  refine Eq.trans ?_ (meet8 (fun i => P (ix3 b (pos r) ⟨512 + i, by omega⟩)) (fun i => X.x3 (ix3 2 r i)) (fun i => X.x3 (ix3 3 r i)) (fun i => win P ang8 (ix3 b (pos r) ⟨0 + i, by omega⟩))
    (fun i => angle (pos r) (BitVec.ofNat 32 i) 0x41800000#32) (R.cos8 r) (R.sin8 r) (fun i => ?_) (fun i => ?_) (fun i => ?_) j)
  · rw [win_at, ld8, ld9]
    exact lane _ _ _ ((qkv_val X P g b pos R r _).trans (place (fun k => P (ix3 b (pos r) k)) _ _ (by first | rfl | (simp only [] <;> omega)))) ((qkv_val X P g b pos R r _).trans (place (fun k => P (ix3 b (pos r) k)) _ _ (by first | rfl | (simp only [] <;> omega)))) ((qkv_val X P g b pos R r _).trans (place (fun k => P (ix3 b (pos r) k)) _ _ (by first | rfl | (simp only [] <;> omega))))
  · refine ((congrArg (fun k => win P ang8 (ix3 b (pos r) k)) (Fin.ext (by first | rfl | (show _ = _; simp only [] <;> omega)))).trans (Cert.Reference3Ideal.Val.win_lo P ang8 b (pos r) i)).trans ?_
    rw [Cert.Reference3Ideal.Val.ang8_at]
    refine congrArg₂ (fun x y : EReal => x * Ideal.cos _ - y * Ideal.sin _) (place (fun k => P (ix3 b (pos r) k)) _ _ (by first | rfl | (simp only [] <;> omega))) (place (fun k => P (ix3 b (pos r) k)) _ _ (by first | rfl | (simp only [] <;> omega)))
  · refine ((congrArg (fun k => win P ang8 (ix3 b (pos r) k)) (Fin.ext (by first | rfl | (show _ = _; simp only [] <;> omega)))).trans (Cert.Reference3Ideal.Val.win_hi P ang8 b (pos r) i)).trans ?_
    rw [Cert.Reference3Ideal.Val.ang8_at]
    refine congrArg₂ (fun x y : EReal => x * Ideal.sin _ + y * Ideal.cos _) (place (fun k => P (ix3 b (pos r) k)) _ _ (by first | rfl | (simp only [] <;> omega))) (place (fun k => P (ix3 b (pos r) k)) _ _ (by first | rfl | (simp only [] <;> omega)))
  · refine ((congrArg (fun k => win P ang8 (ix3 b (pos r) k)) (Fin.ext (by first | rfl | (show _ = _; simp only [] <;> omega)))).trans (Cert.Reference3Ideal.Val.win_id P ang8 b (pos r) i)).trans ?_
    exact place (fun k => P (ix3 b (pos r) k)) _ _ (by first | rfl | (simp only [] <;> omega))

theorem rows_out (r : Fin 256) (j : Fin 256) : o11 X (ix3 0 r j) = rows P ang8 (ix3 b (pos r) j) := by
  unfold o11
  refine View.canon_apply_of_pieces (Val := Elt Ideal) (fun y : S1x256x256.Idx => rows P ang8 (ix3 b (pos (y 1)) (y 2))) _ (fun p hp x => ?_) (ix3 0 r j) (fills11 _ _ _)
  simp only [List.mem_cons, List.mem_nil_iff, or_false] at hp
  rcases hp with rfl | rfl
  · obtain ⟨r, j, rfl⟩ := place128 x
    exact (keys1_val X P g b pos R r j).trans (congrArg (fun y : S1x256x256.Idx => rows P ang8 (ix3 b (pos (y 1)) (y 2))) (at6 r j)).symm
  · obtain ⟨r, j, rfl⟩ := place128 x
    exact (keys_val X P g b pos R r j).trans (congrArg (fun y : S1x256x256.Idx => rows P ang8 (ix3 b (pos (y 1)) (y 2))) (at5 r j)).symm

theorem win_out (r : Fin 256) (j : Fin 128) : o12 X (ix3 0 r j) = win P ang8 (ix3 b (pos r) j) := by
  unfold o12
  refine View.canon_apply_of_pieces (Val := Elt Ideal) (fun y : S1x256x128.Idx => win P ang8 (ix3 b (pos (y 1)) (y 2))) _ (fun p hp x => ?_) (ix3 0 r j) (fills12 _ _)
  simp only [List.mem_cons, List.mem_nil_iff, or_false] at hp
  subst hp
  obtain ⟨r, j, rfl⟩ := place128 x
  exact (win_val X P g b pos R r j).trans (congrArg (fun y : S1x256x128.Idx => win P ang8 (ix3 b (pos (y 1)) (y 2))) (at11 r j)).symm

/-! The latent attention's rotary key. -/

/-- The lanes past the rotary key are never read. -/
theorem rope_val (r : Fin 256) (j : Fin 32) : k0_pay30 lanes X.lr (View.ld X.x3 r23) (View.ld X.x3 r24) (ix3 0 r j) = turn16 (ropeCols (low P)) ang16 (ix3 b (pos r) j) := by
  refine Eq.trans ?_ (meet16 (fun i => X.lr (ix2 r ⟨128 + i, by omega⟩)) (fun i => X.x3 (ix3 4 r i)) (fun i => X.x3 (ix3 5 r i)) (fun i => turn16 (ropeCols (low P)) ang16 (ix3 b (pos r) i))
    (fun i => angle (pos r) (BitVec.ofNat 32 i) 0x42000000#32) (R.cos16 r) (R.sin16 r) (fun i => ?_) (fun i => ?_) j)
  · rw [rope_at, ld23, ld24]
  · refine (Cert.Reference3Ideal.Val.rope_lo P ang16 b (pos r) i).trans ?_
    rw [Cert.Reference3Ideal.Val.ang16_at]
    exact (congrArg₂ (fun x y : EReal => x * Ideal.cos _ - y * Ideal.sin _) (lr_val X P g b pos R r ⟨i, by omega⟩) ((lr_val X P g b pos R r ⟨16 + i, by omega⟩).trans (place (fun k => P (ix3 b (pos r) k)) _ _ (by first | rfl | (simp only [] <;> omega))))).symm
  · refine (Cert.Reference3Ideal.Val.rope_hi P ang16 b (pos r) i).trans ?_
    rw [Cert.Reference3Ideal.Val.ang16_at]
    exact (congrArg₂ (fun x y : EReal => x * Ideal.sin _ + y * Ideal.cos _) (lr_val X P g b pos R r ⟨i, by omega⟩) ((lr_val X P g b pos R r ⟨16 + i, by omega⟩).trans (place (fun k => P (ix3 b (pos r) k)) _ _ (by first | rfl | (simp only [] <;> omega))))).symm

theorem rope_out (r : Fin 256) (j : Fin 32) : o17 X (ix3 0 r j) = turn16 (ropeCols (low P)) ang16 (ix3 b (pos r) j) := by
  unfold o17
  refine View.canon_apply_of_pieces (Val := Elt Ideal) (fun y : S1x256x32.Idx => turn16 (ropeCols (low P)) ang16 (ix3 b (pos (y 1)) (y 2))) _ (fun p hp x => ?_) (ix3 0 r j) (fills17 _ _)
  simp only [List.mem_cons, List.mem_nil_iff, or_false] at hp
  subst hp
  obtain ⟨r, j, rfl⟩ := place32 x
  exact (rope_val X P g b pos R r j).trans (((congrArg (fun y : S1x256x32.Idx => turn16 (ropeCols (low P)) ang16 (ix3 b (pos (y 1)) (y 2))) (at25 r j)).trans (congrArg (fun i => turn16 (ropeCols (low P)) ang16 (ix3 b (pos r) i)) (Fin.ext (Nat.zero_add _)))).symm)

end

end Cert.Kernel3Ideal.Val

end
-- ==== Proof.IdealRun3.lean ====
/-
  THE INPUT PROJECTION CALL, launched: the blocks of each grid point, the body's run at each point, the run of the whole program, and from it
  that the arguments stay as they were and each result is what the pipeline wrote.
-/
module

public import proofs.«01_k».proof.Proof.IdealBody3

@[expose] public section

set_option maxRecDepth 16384

noncomputable section

namespace Cert.Kernel3Ideal.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The host's operations before the call, group by group as they are printed. -/
abbrev groups : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12,
    hostOps0_13, hostOps0_14, hostOps0_15, hostOps0_16, hostOps0_17, hostOps0_18, hostOps0_19, hostOps0_20, hostOps0_21, hostOps0_22, hostOps0_23, hostOps0_24,
    hostOps0_25, hostOps0_26, hostOps0_27, hostOps0_28, hostOps0_29, hostOps0_30, hostOps0_31, hostOps0_32, hostOps0_33, hostOps0_34, hostOps0_35, hostOps0_36,
    hostOps0_37, hostOps0_38, hostOps0_39, hostOps0_40, hostOps0_41, hostOps0_42, hostOps0_43, hostOps0_44, hostOps0_45, hostOps0_46, hostOps0_47, hostOps0_48,
    hostOps0_49, hostOps0_50]

/-- A core's arrays when the call begins. -/
abbrev V (c : Dev nD) (b : Ref sig .tc) : Buf (Elt F) ((c : Thread nD τ).loc b) := StableHlo.after (List.flatten groups) (fun b => m (c, b)) b

set_option maxHeartbeats 4000000 in
/-- The program is its host operations and then the call. -/
theorem prefixed (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main groups
    (by
      simp only [groups, List.Forall]
      exact
        ⟨hostOps0_sub, hostOps0_1_sub, hostOps0_2_sub, hostOps0_3_sub, hostOps0_4_sub, hostOps0_5_sub, hostOps0_6_sub, hostOps0_7_sub, hostOps0_8_sub, hostOps0_9_sub,
          hostOps0_10_sub, hostOps0_11_sub, hostOps0_12_sub, hostOps0_13_sub, hostOps0_14_sub, hostOps0_15_sub, hostOps0_16_sub, hostOps0_17_sub, hostOps0_18_sub,
          hostOps0_19_sub, hostOps0_20_sub, hostOps0_21_sub, hostOps0_22_sub, hostOps0_23_sub, hostOps0_24_sub, hostOps0_25_sub, hostOps0_26_sub, hostOps0_27_sub,
          hostOps0_28_sub, hostOps0_29_sub, hostOps0_30_sub, hostOps0_31_sub, hostOps0_32_sub, hostOps0_33_sub, hostOps0_34_sub, hostOps0_35_sub, hostOps0_36_sub,
          hostOps0_37_sub, hostOps0_38_sub, hostOps0_39_sub, hostOps0_40_sub, hostOps0_41_sub, hostOps0_42_sub, hostOps0_43_sub, hostOps0_44_sub, hostOps0_45_sub,
          hostOps0_46_sub, hostOps0_47_sub, hostOps0_48_sub, hostOps0_49_sub, hostOps0_50_sub⟩)
    (by simp only [groups, List.Forall]; repeat' constructor) main_chain

set_option maxHeartbeats 4000000 in
/-- No host operation writes an argument. -/
theorem V_arg (c : Dev nD) (b : Ref sig .tc)
    (hb : b = main_arg0 ∨ b = main_arg1 ∨ b = main_arg2 ∨ b = main_arg3 ∨ b = main_arg4 ∨ b = main_arg5 ∨ b = main_arg6 ∨ b = main_arg7) :
    V m c b = m ((c : Thread nD τ).loc b) := by
  refine StableHlo.after_of_forall_not_mem (b := Proc.devRef .tc b) _ _ (List.forall_iff_forall_mem.mp ?_)
  simp only [groups, hostOps0, hostOps0_1, hostOps0_2, hostOps0_3, hostOps0_4, hostOps0_5, hostOps0_6, hostOps0_7, hostOps0_8, hostOps0_9, hostOps0_10, hostOps0_11,
    hostOps0_12, hostOps0_13, hostOps0_14, hostOps0_15, hostOps0_16, hostOps0_17, hostOps0_18, hostOps0_19, hostOps0_20, hostOps0_21, hostOps0_22, hostOps0_23,
    hostOps0_24, hostOps0_25, hostOps0_26, hostOps0_27, hostOps0_28, hostOps0_29, hostOps0_30, hostOps0_31, hostOps0_32, hostOps0_33, hostOps0_34, hostOps0_35,
    hostOps0_36, hostOps0_37, hostOps0_38, hostOps0_39, hostOps0_40, hostOps0_41, hostOps0_42, hostOps0_43, hostOps0_44, hostOps0_45, hostOps0_46, hostOps0_47,
    hostOps0_48, hostOps0_49, hostOps0_50, List.flatten_cons, List.flatten_nil, List.append_nil, List.cons_append, List.nil_append, List.Forall, StableHlo.nullary_writes,
    StableHlo.unary_writes, StableHlo.binary_writes, StableHlo.ternary_writes, StableHlo.quaternary_writes, StableHlo.reshape_writes, StableHlo.binaryIndexed_writes,
    StableHlo.unaryIndexed_writes, StableHlo.nary_writes, Finset.mem_singleton]
  rcases hb with rfl | rfl | rfl | rfl | rfl | rfl | rfl | rfl
  all_goals
    repeat' apply And.intro
    all_goals exact StableHlo.devRef_ne_of_ne (by decide)

/-- A window's block at a point. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The ten input blocks of a point. -/
abbrev ins (c : Dev nD) (t : Fin cfg0.N) : Ins F :=
  ⟨iblk m c 0 t, iblk m c 1 t, iblk m c 2 t, iblk m c 3 t, iblk m c 4 t, iblk m c 5 t, iblk m c 6 t, iblk m c 7 t, iblk m c 8 t, iblk m c 9 t⟩

/-- The pipeline's data: inputs stay at their blocks, outputs end as the body leaves them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => o10 (ins m c t)
    | ⟨11, _⟩ => o11 (ins m c t)
    | ⟨12, _⟩ => o12 (ins m c t)
    | ⟨13, _⟩ => o13 (ins m c t)
    | ⟨14, _⟩ => o14 (ins m c t)
    | ⟨15, _⟩ => o15 (ins m c t)
    | ⟨16, _⟩ => o16 (ins m c t)
    | ⟨17, _⟩ => o17 (ins m c t)
    | ⟨18, _⟩ => o18 (ins m c t)
    | ⟨19, _⟩ => o19 (ins m c t)
    | ⟨20, _⟩ => o20 (ins m c t)
    | ⟨21, _⟩ => o21 (ins m c t)
    | ⟨22, _⟩ => o22 (ins m c t)
    | ⟨23, _⟩ => o23 (ins m c t)
    | ⟨24, _⟩ => o24 (ins m c t)
    | ⟨25, _⟩ => o25 (ins m c t)
    | ⟨26, _⟩ => o26 (ins m c t)
    | ⟨_ + 27, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]

/-- What the body leaves, window by window. -/
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = o10 (ins m c t) := by dsimp only [dats]
theorem after_11 (c : Dev nD) (t : Fin cfg0.N) : (dats m 0 c).after 11 t = o11 (ins m c t) := by dsimp only [dats]
theorem after_12 (c : Dev nD) (t : Fin cfg0.N) : (dats m 0 c).after 12 t = o12 (ins m c t) := by dsimp only [dats]
theorem after_13 (c : Dev nD) (t : Fin cfg0.N) : (dats m 0 c).after 13 t = o13 (ins m c t) := by dsimp only [dats]
theorem after_14 (c : Dev nD) (t : Fin cfg0.N) : (dats m 0 c).after 14 t = o14 (ins m c t) := by dsimp only [dats]
theorem after_15 (c : Dev nD) (t : Fin cfg0.N) : (dats m 0 c).after 15 t = o15 (ins m c t) := by dsimp only [dats]
theorem after_16 (c : Dev nD) (t : Fin cfg0.N) : (dats m 0 c).after 16 t = o16 (ins m c t) := by dsimp only [dats]
theorem after_17 (c : Dev nD) (t : Fin cfg0.N) : (dats m 0 c).after 17 t = o17 (ins m c t) := by dsimp only [dats]
theorem after_18 (c : Dev nD) (t : Fin cfg0.N) : (dats m 0 c).after 18 t = o18 (ins m c t) := by dsimp only [dats]
theorem after_19 (c : Dev nD) (t : Fin cfg0.N) : (dats m 0 c).after 19 t = o19 (ins m c t) := by dsimp only [dats]
theorem after_20 (c : Dev nD) (t : Fin cfg0.N) : (dats m 0 c).after 20 t = o20 (ins m c t) := by dsimp only [dats]
theorem after_21 (c : Dev nD) (t : Fin cfg0.N) : (dats m 0 c).after 21 t = o21 (ins m c t) := by dsimp only [dats]
theorem after_22 (c : Dev nD) (t : Fin cfg0.N) : (dats m 0 c).after 22 t = o22 (ins m c t) := by dsimp only [dats]
theorem after_23 (c : Dev nD) (t : Fin cfg0.N) : (dats m 0 c).after 23 t = o23 (ins m c t) := by dsimp only [dats]
theorem after_24 (c : Dev nD) (t : Fin cfg0.N) : (dats m 0 c).after 24 t = o24 (ins m c t) := by dsimp only [dats]
theorem after_25 (c : Dev nD) (t : Fin cfg0.N) : (dats m 0 c).after 25 t = o25 (ins m c t) := by dsimp only [dats]
theorem after_26 (c : Dev nD) (t : Fin cfg0.N) : (dats m 0 c).after 26 t = o26 (ins m c t) := by dsimp only [dats]

/-- An input's buffer holds the point's block when the body starts, fetched there or kept from the point before. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin cfg0.N) (d) : (dats m 0 c).before 6 t d = iblk m c 6 t :=
  ((dats m 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
theorem before_7 (c : Dev nD) (t : Fin cfg0.N) (d) : (dats m 0 c).before 7 t d = iblk m c 7 t :=
  ((dats m 0 c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)
theorem before_8 (c : Dev nD) (t : Fin cfg0.N) (d) : (dats m 0 c).before 8 t d = iblk m c 8 t :=
  ((dats m 0 c).before_in_eq_fetched 8 rfl (fun _ => rfl) (fun _ _ _ => rfl) (fun t => by rw [after_8]; unfold Dat.blockOf iblk; rw [A_eq]; try rfl) t d).trans
    (by unfold Dat.fetched Dat.blockOf iblk; rw [A_eq]; try rfl)
theorem before_9 (c : Dev nD) (t : Fin cfg0.N) (d) : (dats m 0 c).before 9 t d = iblk m c 9 t :=
  ((dats m 0 c).before_in_eq_fetched 9 rfl (fun _ => rfl) (fun _ _ _ => rfl) (fun t => by rw [after_9]; unfold Dat.blockOf iblk; rw [A_eq]; try rfl) t d).trans
    (by unfold Dat.fetched Dat.blockOf iblk; rw [A_eq]; try rfl)

/-- What the body is given at a point and what it gives back. -/
def given (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d)))
def back (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t))

set_option maxHeartbeats 8000000 in
/-- The body at any point. -/
theorem point (c : Dev nD) (t : Fin cfg0.N) : given m c t ⊢ wp frame (wpE (defs₀ (F := F)) Variants.none c none) Set.univ (bodyAt0 t) (fun _ => back m c t) := by
  unfold given back bodyAt0
  simp only [before_0, before_1, before_2, before_3, before_4, before_5, before_6, before_7, before_8, before_9]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13, after_14, after_15, after_16,
      after_17, after_18, after_19, after_20, after_21, after_22, after_23, after_24, after_25, after_26]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩,
    ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25,
    H25⟩, ⟨%d26, H26⟩⟩
  iapply (body_run c Set.univ (grid0.coords t) _ _ _ _ _ _ _ _ _ _ _ _ _ _ _ _ _ _ _ _ _ _ _ _ _ _ _ _ _ _ _ _ _ _ _ _ _ _ _ _ _ _ _ _ _ _ _ _ _ _ _ _ _ _ (ins m c t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  iintro ⟨H0, H1, H2, H3, H4, H5, H6, H7, H8, H9, H10, H11, H12, H13, H14, H15, H16, H17, H18, H19, H20, H21, H22, H23, H24, H25, H26⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  iexact H26

theorem row (t : Fin cfg0.N) : defs₀ (F := F) .tc cfg0.body (cfg0.bodyArgs t (cfg0.slots t)) = bodyAt0 t := by
  unfold defs₀; rw [Defs.onTc_tc]

set_option maxHeartbeats 4000000 in
/-- The library's obligation on the body, at every point. -/
theorem obligation (c : Dev nD) : BodyObligation (dats (F := F) m 0 c) (defs₀ (F := F)) Variants.none () Set.univ := fun t => by
  rw [bigSep_W0, bigSep_W0, row]
  exact triple_restated (point m c t) rfl .rfl fun _ => .rfl

set_option backward.isDefEq.respectTransparency.types false in
set_option maxHeartbeats 4000000 in
/-- THE RUN: it terminates with every array at what the pipeline's data give, the rest as found, and every counter at zero. -/
theorem run : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (obligation m c).loose) (hq := fun _ _ _ => rfl)
    (howed := fun _ _ => rfl) (V := V m) (hmain := prefixed m Variants.none) (hA := A_eq m) (hΦ := fun _ _ => rfl)

set_option maxHeartbeats 4000000 in
/-- What the final state holds, in words: the six results at what the pipeline wrote, the arguments as they were, the counters at zero. -/
theorem final : θ_run defs (onTc (τ := τ) (main (F := F))) ⟨m, fun _ => 0, ρ⟩ (fun r => (∀ c : Dev nD,
      (r.2.mem ((c.tc : Thread nD τ).loc main_v218_1) = (dats m 0 c).arrAt 11 cfg0.N
      ∧ r.2.mem ((c.tc : Thread nD τ).loc main_v218_2) = (dats m 0 c).arrAt 12 cfg0.N
      ∧ r.2.mem ((c.tc : Thread nD τ).loc main_v218_6) = (dats m 0 c).arrAt 16 cfg0.N
      ∧ r.2.mem ((c.tc : Thread nD τ).loc main_v218_7) = (dats m 0 c).arrAt 17 cfg0.N
      ∧ r.2.mem ((c.tc : Thread nD τ).loc main_v218_10) = (dats m 0 c).arrAt 20 cfg0.N
      ∧ r.2.mem ((c.tc : Thread nD τ).loc main_v218_13) = (dats m 0 c).arrAt 23 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => ⟨⟨(h.1 c).1 11, (h.1 c).1 12, (h.1 c).1 16, (h.1 c).1 17, (h.1 c).1 20, (h.1 c).1 23⟩,
      ((h.1 c).1 0).trans (((dats m 0 c).arrAt_in 0 rfl _).trans ((A_eq m c 0).trans (V_arg m c main_arg0 (by simp)))),
      ((h.1 c).2 main_arg1 (Pipeline.mem_restRefs_of main_arg1 (by decide) (by decide))).trans (V_arg m c main_arg1 (by simp)),
      ((h.1 c).2 main_arg2 (Pipeline.mem_restRefs_of main_arg2 (by decide) (by decide))).trans (V_arg m c main_arg2 (by simp)),
      ((h.1 c).2 main_arg3 (Pipeline.mem_restRefs_of main_arg3 (by decide) (by decide))).trans (V_arg m c main_arg3 (by simp)),
      ((h.1 c).2 main_arg4 (Pipeline.mem_restRefs_of main_arg4 (by decide) (by decide))).trans (V_arg m c main_arg4 (by simp)),
      ((h.1 c).2 main_arg5 (Pipeline.mem_restRefs_of main_arg5 (by decide) (by decide))).trans (V_arg m c main_arg5 (by simp)),
      ((h.1 c).2 main_arg6 (Pipeline.mem_restRefs_of main_arg6 (by decide) (by decide))).trans (V_arg m c main_arg6 (by simp)),
      ((h.1 c).2 main_arg7 (Pipeline.mem_restRefs_of main_arg7 (by decide) (by decide))).trans (V_arg m c main_arg7 (by simp))⟩, h.2⟩) (run m ρ)

/-- THE FRAME: the arguments end as they were and the counters at zero. -/
theorem framed : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => (h.1 c).2, h.2⟩) (final m ρ)

end Cert.Kernel3Ideal.Proj

end
-- ==== Proof.Host3.lean ====
/-
  WHAT THE HOST CODE HANDS THE THIRD KERNEL: the packed projection, the modulation, the norm's weights and the rotation tables, read at an index.
-/
module

public import proofs.«01_k».proof.Proof.IdealRun3
public import proofs.«01_k».proof.Proof.Angle3
public import Idealize.ShloMosaic.Lib.StableHlo.RunClose
public import Idealize.ShloMosaic.Lib.StableHlo.ReadAt
public import Idealize.ShloMosaic.Lib.IdealHost

@[expose] public section

set_option maxRecDepth 16384

noncomputable section

namespace Cert.Kernel3Ideal.Val

open Idealize.ShloMosaic Idealize.ShloMosaic.TcCoe
open Cert.Kernel3Ideal Cert.Kernel3Ideal.Gen Cert.Kernel3Ideal.Proj Cert.Angle3

variable (m : (ℓ : Loc nD τ sig) → Buf (Elt Ideal) ℓ)

set_option maxHeartbeats 2000000 in
/-- The modulation, one row for each batch. -/
theorem ada_at (c : Dev nD) (b : Fin 16) (j : Fin 3072) :
    (V m c main_v75 : FVec Ideal S16x1x3072 .f32) (ix3 b 0 j) = (m ((c : Thread nD τ).loc main_arg1) : FVec Ideal S16x3072 .f32) (ix2 b j) := by
  show (StableHlo.after (List.flatten groups) (fun b => m (c, b)) (Proc.devRef .tc main_v75) : FVec Ideal S16x1x3072 .f32) (ix3 b 0 j) = _
  after_reads_at

set_option maxHeartbeats 2000000 in
/-- The latent norm's weights. -/
theorem g_at (c : Dev nD) (j : Fin 128) :
    (V m c main_v74 : FVec Ideal S1x128 .f32) (ix2 0 j) = (m ((c : Thread nD τ).loc main_arg5) : FVec Ideal S128 .f32) (ix1 j) := by
  show (StableHlo.after (List.flatten groups) (fun b => m (c, b)) (Proc.devRef .tc main_v74) : FVec Ideal S1x128 .f32) (ix2 0 j) = _
  after_reads_at

/-- Seven groups of columns side by side. -/
def pack (a0 : FVec Ideal S1024x640 .f32) (a1 : FVec Ideal S1024x128 .f32) (a2 : FVec Ideal S1024x384 .f32) (a3 : FVec Ideal S1024x128 .f32) (a4 : FVec Ideal S1024x768 .f32) (a5 : FVec Ideal S1024x128 .f32) (a6 : FVec Ideal S1024x3072 .f32) : FVec Ideal S1024x5248 .bf16 :=
  truncf .bf16 (concatenate S1024x5248 1 [⟨S1024x640, a0⟩, ⟨S1024x128, a1⟩, ⟨S1024x384, a2⟩, ⟨S1024x128, a3⟩, ⟨S1024x768, a4⟩, ⟨S1024x128, a5⟩, ⟨S1024x3072, a6⟩]
    concatenates_S1024x640_S1024x128_S1024x384_S1024x128_S1024x768_S1024x128_S1024x3072_S1024x5248_d1) bitsLt_bf16_f32

/-- A buffer's contents just before the columns are packed, and just before the tables are stacked. -/
def pre (c : Dev nD) (b : Ref sig .tc) : Buf (Elt Ideal) ((c : Thread nD τ).loc b) := StableHlo.upto (List.flatten groups) (fun b => m (c, b)) 16 (Proc.devRef .tc b)
def row (c : Dev nD) (b : Ref sig .tc) : Buf (Elt Ideal) ((c : Thread nD τ).loc b) := StableHlo.upto (List.flatten groups) (fun b => m (c, b)) 496 (Proc.devRef .tc b)

set_option maxHeartbeats 2000000 in
theorem V_w (c : Dev nD) : V m c main_v11 = pack (pre m c main_v0) (pre m c main_v2) (pre m c main_v3) (pre m c main_v5) (pre m c main_v6) (pre m c main_v8) (pre m c main_v9) := by
  show StableHlo.after (List.flatten groups) (fun b => m (c, b)) (Proc.devRef .tc main_v11) = _
  unfold pack
  after_reads_simp
  rfl

section
variable (a0 : FVec Ideal S1024x640 .f32) (a1 : FVec Ideal S1024x128 .f32) (a2 : FVec Ideal S1024x384 .f32) (a3 : FVec Ideal S1024x128 .f32) (a4 : FVec Ideal S1024x768 .f32) (a5 : FVec Ideal S1024x128 .f32) (a6 : FVec Ideal S1024x3072 .f32) (l : Fin 1024)

/-- The sparse attention's columns. -/
theorem pack_heads (j : Fin 384) : pack a0 a1 a2 a3 a4 a5 a6 (ix2 l ⟨256 + j, by omega⟩) = a0 (ix2 l ⟨256 + j, by omega⟩) := by
  pointwise [pack]
  rw [dif_pos (by omega)]
/-- The latent columns. -/
theorem pack_lat (j : Fin 128) : pack a0 a1 a2 a3 a4 a5 a6 (ix2 l ⟨1024 + j, by omega⟩) = a2 (ix2 l ⟨256 + j, by omega⟩) := by
  pointwise [pack]
  rw [dif_neg (by omega)]
  rw [dif_neg (by omega)]
  rw [dif_pos (by omega)]
  exact congrArg (fun i => a2 (ix2 l i)) (Fin.ext (by first | rfl | (show _ = _; simp only [] <;> omega)))
/-- The rotary columns. -/
theorem pack_rope (j : Fin 32) : pack a0 a1 a2 a3 a4 a5 a6 (ix2 l ⟨1152 + j, by omega⟩) = a3 (ix2 l ⟨j, by omega⟩) := by
  pointwise [pack]
  rw [dif_neg (by omega)]
  rw [dif_neg (by omega)]
  rw [dif_neg (by omega)]
  rw [dif_pos (by omega)]
  exact congrArg (fun i => a3 (ix2 l i)) (Fin.ext (by first | rfl | (show _ = _; simp only [] <;> omega)))
/-- The forgetting attention's columns. -/
theorem pack_fox (j : Fin 768) : pack a0 a1 a2 a3 a4 a5 a6 (ix2 l ⟨1280 + j, by omega⟩) = a4 (ix2 l j) := by
  pointwise [pack]
  rw [dif_neg (by omega)]
  rw [dif_neg (by omega)]
  rw [dif_neg (by omega)]
  rw [dif_neg (by omega)]
  rw [dif_pos (by omega)]
  exact congrArg (fun i => a4 (ix2 l i)) (Fin.ext (by first | rfl | (show _ = _; simp only [] <;> omega)))
/-- The gates' columns. -/
theorem pack_gate (j : Fin 3072) : pack a0 a1 a2 a3 a4 a5 a6 (ix2 l ⟨2176 + j, by omega⟩) = a6 (ix2 l j) := by
  pointwise [pack]
  rw [dif_neg (by omega)]
  rw [dif_neg (by omega)]
  rw [dif_neg (by omega)]
  rw [dif_neg (by omega)]
  rw [dif_neg (by omega)]
  rw [dif_neg (by omega)]
  exact congrArg (fun i => a6 (ix2 l i)) (Fin.ext (by first | rfl | (show _ = _; simp only [] <;> omega)))

end

set_option maxHeartbeats 2000000 in
theorem v0_at (c : Dev nD) (l : Fin 1024) (j : Fin 640) : (pre m c main_v0 : FVec Ideal S1024x640 .f32) (ix2 l j) = (m ((c : Thread nD τ).loc main_arg2) : FVec Ideal S1024x4912 .f32) (ix2 l ⟨j, by omega⟩) := by
  unfold pre
  after_reads_at
set_option maxHeartbeats 2000000 in
theorem v3_at (c : Dev nD) (l : Fin 1024) (j : Fin 384) : (pre m c main_v3 : FVec Ideal S1024x384 .f32) (ix2 l j) = (m ((c : Thread nD τ).loc main_arg2) : FVec Ideal S1024x4912 .f32) (ix2 l ⟨652 + j, by omega⟩) := by
  unfold pre
  after_reads_at
set_option maxHeartbeats 2000000 in
theorem v5_at (c : Dev nD) (l : Fin 1024) (j : Fin 32) : (pre m c main_v5 : FVec Ideal S1024x128 .f32) (ix2 l ⟨j, by omega⟩) = (m ((c : Thread nD τ).loc main_arg2) : FVec Ideal S1024x4912 .f32) (ix2 l ⟨1036 + j, by omega⟩) := by
  unfold pre
  after_reads_at
set_option maxHeartbeats 2000000 in
theorem v6_at (c : Dev nD) (l : Fin 1024) (j : Fin 768) : (pre m c main_v6 : FVec Ideal S1024x768 .f32) (ix2 l j) = (m ((c : Thread nD τ).loc main_arg2) : FVec Ideal S1024x4912 .f32) (ix2 l ⟨1068 + j, by omega⟩) := by
  unfold pre
  after_reads_at
set_option maxHeartbeats 2000000 in
theorem v9_at (c : Dev nD) (l : Fin 1024) (j : Fin 3072) : (pre m c main_v9 : FVec Ideal S1024x3072 .f32) (ix2 l j) = (m ((c : Thread nD τ).loc main_arg2) : FVec Ideal S1024x4912 .f32) (ix2 l ⟨1840 + j, by omega⟩) := by
  unfold pre
  after_reads_at

/-- Eight tables stacked. -/
def stack (a0 a1 a2 a3 a4 a5 a6 a7 : FVec Ideal S1x2048x128 .f32) : FVec Ideal S8x2048x128 .f32 :=
  concatenate S8x2048x128 0 [⟨S1x2048x128, a0⟩, ⟨S1x2048x128, a1⟩, ⟨S1x2048x128, a2⟩, ⟨S1x2048x128, a3⟩, ⟨S1x2048x128, a4⟩, ⟨S1x2048x128, a5⟩, ⟨S1x2048x128, a6⟩, ⟨S1x2048x128, a7⟩]
    concatenates_S1x2048x128_S1x2048x128_S1x2048x128_S1x2048x128_S1x2048x128_S1x2048x128_S1x2048x128_S1x2048x128_S8x2048x128_d0

theorem stack2 (a0 a1 a2 a3 a4 a5 a6 a7 : FVec Ideal S1x2048x128 .f32) (t : Fin 2048) (l : Fin 128) : stack a0 a1 a2 a3 a4 a5 a6 a7 (ix3 2 t l) = a2 (ix3 0 t l) := by pointwise [stack]
theorem stack3 (a0 a1 a2 a3 a4 a5 a6 a7 : FVec Ideal S1x2048x128 .f32) (t : Fin 2048) (l : Fin 128) : stack a0 a1 a2 a3 a4 a5 a6 a7 (ix3 3 t l) = a3 (ix3 0 t l) := by pointwise [stack]
theorem stack4 (a0 a1 a2 a3 a4 a5 a6 a7 : FVec Ideal S1x2048x128 .f32) (t : Fin 2048) (l : Fin 128) : stack a0 a1 a2 a3 a4 a5 a6 a7 (ix3 4 t l) = a4 (ix3 0 t l) := by pointwise [stack]
theorem stack5 (a0 a1 a2 a3 a4 a5 a6 a7 : FVec Ideal S1x2048x128 .f32) (t : Fin 2048) (l : Fin 128) : stack a0 a1 a2 a3 a4 a5 a6 a7 (ix3 5 t l) = a5 (ix3 0 t l) := by pointwise [stack]

set_option maxHeartbeats 4000000 in
theorem V_rot (c : Dev nD) : V m c main_v217 = stack (row m c main_v209) (row m c main_v210) (row m c main_v211) (row m c main_v212) (row m c main_v213) (row m c main_v214) (row m c main_v215) (row m c main_v216) := by
  show StableHlo.after (List.flatten groups) (fun b => m (c, b)) (Proc.devRef .tc main_v217) = _
  unfold stack
  after_reads_simp
  rfl

/-- The divisor of a remainder: one in place of zero. -/
def divr (k : BitVec 32) : BitVec 32 :=
  Scalar.select (IntOp.cmpi .eq (id (constantI S_ 32 k ix0)) 0#32) 1#32 (id (constantI S_ 32 k ix0))

/-- A remainder of the divisor's sign. -/
def remr (k l : BitVec 32) : BitVec 32 :=
  Scalar.select
    (IntOp.andi (IntOp.cmpi .ne (IntOp.cmpi .slt (IntOp.remsi .host l (divr k)) 0#32) (IntOp.cmpi .slt (divr k) 0#32)) (IntOp.cmpi .ne (IntOp.remsi .host l (divr k)) 0#32))
    (IntOp.addi (IntOp.remsi .host l (divr k)) (divr k)) (IntOp.remsi .host l (divr k))

/-- The lanes that turn, in the first of every sixty-four, and in the first thirty-two. -/
def turns8 (l : BitVec 32) : BitVec 1 := IntOp.andi (IntOp.cmpi .slt (remr 64#32 l) 16#32) (IntOp.cmpi .slt (remr 128#32 l) 64#32)
def turns16 (l : BitVec 32) : BitVec 1 := IntOp.andi (IntOp.cmpi .slt (remr 128#32 l) 32#32) (IntOp.cmpi .sge l 0#32)

set_option maxHeartbeats 8000000 in
theorem row_211 (c : Dev nD) (t : Fin 2048) (l : Fin 128) : (row m c main_v211 : FVec Ideal S1x2048x128 .f32) (ix3 0 t l)
    = Scalar.select (turns8 (BitVec.ofNat 32 l)) (Ideal.cos (angle t (remr 8#32 (remr 64#32 (BitVec.ofNat 32 l))) 0x41800000#32)) (id (constant (F := Ideal) S_ .f32 0x3F800000#32) ix0) := by
  unfold row
  after_reads_at
  rfl

set_option maxHeartbeats 8000000 in
theorem row_212 (c : Dev nD) (t : Fin 2048) (l : Fin 128) : (row m c main_v212 : FVec Ideal S1x2048x128 .f32) (ix3 0 t l)
    = Scalar.select (turns8 (BitVec.ofNat 32 l)) (Scalar.select (IntOp.cmpi .slt (remr 64#32 (BitVec.ofNat 32 l)) 8#32) (-(Ideal.sin (angle t (remr 8#32 (remr 64#32 (BitVec.ofNat 32 l))) 0x41800000#32))) (Ideal.sin (angle t (remr 8#32 (remr 64#32 (BitVec.ofNat 32 l))) 0x41800000#32))) (id (constant (F := Ideal) S_ .f32 0x00000000#32) ix0) := by
  unfold row
  after_reads_at
  rfl

set_option maxHeartbeats 8000000 in
theorem row_213 (c : Dev nD) (t : Fin 2048) (l : Fin 128) : (row m c main_v213 : FVec Ideal S1x2048x128 .f32) (ix3 0 t l)
    = Scalar.select (turns16 (BitVec.ofNat 32 l)) (Ideal.cos (angle t (remr 16#32 (remr 128#32 (BitVec.ofNat 32 l))) 0x42000000#32)) (id (constant (F := Ideal) S_ .f32 0x3F800000#32) ix0) := by
  unfold row
  after_reads_at
  rfl

set_option maxHeartbeats 8000000 in
theorem row_214 (c : Dev nD) (t : Fin 2048) (l : Fin 128) : (row m c main_v214 : FVec Ideal S1x2048x128 .f32) (ix3 0 t l)
    = Scalar.select (turns16 (BitVec.ofNat 32 l)) (Scalar.select (IntOp.cmpi .slt (remr 128#32 (BitVec.ofNat 32 l)) 16#32) (-(Ideal.sin (angle t (remr 16#32 (remr 128#32 (BitVec.ofNat 32 l))) 0x42000000#32))) (Ideal.sin (angle t (remr 16#32 (remr 128#32 (BitVec.ofNat 32 l))) 0x42000000#32))) (id (constant (F := Ideal) S_ .f32 0x00000000#32) ix0) := by
  unfold row
  after_reads_at
  rfl

theorem turns8_eq : ∀ l : Fin 128, turns8 (BitVec.ofNat 32 l) = if l.val < 16 then 1#1 else 0#1 := by decide +kernel
theorem turns16_eq : ∀ l : Fin 128, turns16 (BitVec.ofNat 32 l) = if l.val < 32 then 1#1 else 0#1 := by decide +kernel
theorem first8_eq : ∀ l : Fin 128, l.val < 16 → IntOp.cmpi .slt (remr 64#32 (BitVec.ofNat 32 l)) 8#32 = if l.val < 8 then 1#1 else 0#1 := by decide +kernel
theorem first16_eq : ∀ l : Fin 128, l.val < 32 → IntOp.cmpi .slt (remr 128#32 (BitVec.ofNat 32 l)) 16#32 = if l.val < 16 then 1#1 else 0#1 := by decide +kernel
theorem pair8_eq : ∀ l : Fin 128, remr 8#32 (remr 64#32 (BitVec.ofNat 32 l)) = BitVec.ofNat 32 (l.val % 8) := by decide +kernel
theorem pair16_eq : ∀ l : Fin 128, remr 16#32 (remr 128#32 (BitVec.ofNat 32 l)) = BitVec.ofNat 32 (l.val % 16) := by decide +kernel

/-! The packed projection over the input's, column by column. -/

theorem w_heads (c : Dev nD) (l : Fin 1024) (j : Fin 384) : (V m c main_v11 : FVec Ideal S1024x5248 .bf16) (ix2 l ⟨256 + j, by omega⟩) = (m ((c : Thread nD τ).loc main_arg2) : FVec Ideal S1024x4912 .f32) (ix2 l ⟨256 + j, by omega⟩) := by
  refine (congrFun (V_w m c) _).trans ((pack_heads _ _ _ _ _ _ _ l j).trans ((v0_at m c l ⟨256 + j, by omega⟩).trans ?_))
  exact congrArg (fun i => (m ((c : Thread nD τ).loc main_arg2) : FVec Ideal S1024x4912 .f32) (ix2 l i)) (Fin.ext (by first | rfl | (show _ = _; simp only [] <;> omega)))

theorem w_lat (c : Dev nD) (l : Fin 1024) (j : Fin 128) : (V m c main_v11 : FVec Ideal S1024x5248 .bf16) (ix2 l ⟨1024 + j, by omega⟩) = (m ((c : Thread nD τ).loc main_arg2) : FVec Ideal S1024x4912 .f32) (ix2 l ⟨908 + j, by omega⟩) := by
  refine (congrFun (V_w m c) _).trans ((pack_lat _ _ _ _ _ _ _ l j).trans ((v3_at m c l ⟨256 + j, by omega⟩).trans ?_))
  exact congrArg (fun i => (m ((c : Thread nD τ).loc main_arg2) : FVec Ideal S1024x4912 .f32) (ix2 l i)) (Fin.ext (by first | rfl | (show _ = _; simp only [] <;> omega)))

theorem w_rope (c : Dev nD) (l : Fin 1024) (j : Fin 32) : (V m c main_v11 : FVec Ideal S1024x5248 .bf16) (ix2 l ⟨1152 + j, by omega⟩) = (m ((c : Thread nD τ).loc main_arg2) : FVec Ideal S1024x4912 .f32) (ix2 l ⟨1036 + j, by omega⟩) := by
  refine (congrFun (V_w m c) _).trans ((pack_rope _ _ _ _ _ _ _ l j).trans ((v5_at m c l j).trans ?_))
  exact congrArg (fun i => (m ((c : Thread nD τ).loc main_arg2) : FVec Ideal S1024x4912 .f32) (ix2 l i)) (Fin.ext (by first | rfl | (show _ = _; simp only [] <;> omega)))

theorem w_fox (c : Dev nD) (l : Fin 1024) (j : Fin 768) : (V m c main_v11 : FVec Ideal S1024x5248 .bf16) (ix2 l ⟨1280 + j, by omega⟩) = (m ((c : Thread nD τ).loc main_arg2) : FVec Ideal S1024x4912 .f32) (ix2 l ⟨1068 + j, by omega⟩) := by
  refine (congrFun (V_w m c) _).trans ((pack_fox _ _ _ _ _ _ _ l j).trans ((v6_at m c l j).trans ?_))
  exact congrArg (fun i => (m ((c : Thread nD τ).loc main_arg2) : FVec Ideal S1024x4912 .f32) (ix2 l i)) (Fin.ext (by first | rfl | (show _ = _; simp only [] <;> omega)))

theorem w_gate (c : Dev nD) (l : Fin 1024) (j : Fin 3072) : (V m c main_v11 : FVec Ideal S1024x5248 .bf16) (ix2 l ⟨2176 + j, by omega⟩) = (m ((c : Thread nD τ).loc main_arg2) : FVec Ideal S1024x4912 .f32) (ix2 l ⟨1840 + j, by omega⟩) := by
  refine (congrFun (V_w m c) _).trans ((pack_gate _ _ _ _ _ _ _ l j).trans ((v9_at m c l j).trans ?_))
  exact congrArg (fun i => (m ((c : Thread nD τ).loc main_arg2) : FVec Ideal S1024x4912 .f32) (ix2 l i)) (Fin.ext (by first | rfl | (show _ = _; simp only [] <;> omega)))

/-- The cosines of the turning lanes; one on the others. -/
theorem cos8_at (c : Dev nD) (t : Fin 2048) (l : Fin 128) :
    (V m c main_v217 : FVec Ideal S8x2048x128 .f32) (ix3 2 t l) = if l.val < 16 then Ideal.cos (angle t (BitVec.ofNat 32 (l.val % 8)) 0x41800000#32) else 1 := by
  refine (congrFun (V_rot m c) _).trans ((stack2 _ _ _ _ _ _ _ _ t l).trans ((row_211 m c t l).trans ?_))
  rw [turns8_eq l, pick, pair8_eq l]
  exact congrArg (fun z => if l.val < 16 then _ else z) Ideal.ofBits_one_f32

/-- The sines, against sign in a rotation's first half; zero on the other lanes. -/
theorem sin8_at (c : Dev nD) (t : Fin 2048) (l : Fin 128) :
    (V m c main_v217 : FVec Ideal S8x2048x128 .f32) (ix3 3 t l) = if l.val < 16 then (if l.val < 8 then -(Ideal.sin (angle t (BitVec.ofNat 32 (l.val % 8)) 0x41800000#32)) else Ideal.sin (angle t (BitVec.ofNat 32 (l.val % 8)) 0x41800000#32)) else 0 := by
  refine (congrFun (V_rot m c) _).trans ((stack3 _ _ _ _ _ _ _ _ t l).trans ((row_212 m c t l).trans ?_))
  rw [turns8_eq l, pick, pair8_eq l]
  by_cases h : l.val < 16
  · rw [if_pos h, if_pos h, first8_eq l h, pick]
  · rw [if_neg h, if_neg h]
    exact Ideal.ofBits_zero_f32

/-- The cosines of the turning lanes; one on the others. -/
theorem cos16_at (c : Dev nD) (t : Fin 2048) (l : Fin 128) :
    (V m c main_v217 : FVec Ideal S8x2048x128 .f32) (ix3 4 t l) = if l.val < 32 then Ideal.cos (angle t (BitVec.ofNat 32 (l.val % 16)) 0x42000000#32) else 1 := by
  refine (congrFun (V_rot m c) _).trans ((stack4 _ _ _ _ _ _ _ _ t l).trans ((row_213 m c t l).trans ?_))
  rw [turns16_eq l, pick, pair16_eq l]
  exact congrArg (fun z => if l.val < 32 then _ else z) Ideal.ofBits_one_f32

/-- The sines, against sign in a rotation's first half; zero on the other lanes. -/
theorem sin16_at (c : Dev nD) (t : Fin 2048) (l : Fin 128) :
    (V m c main_v217 : FVec Ideal S8x2048x128 .f32) (ix3 5 t l) = if l.val < 32 then (if l.val < 16 then -(Ideal.sin (angle t (BitVec.ofNat 32 (l.val % 16)) 0x42000000#32)) else Ideal.sin (angle t (BitVec.ofNat 32 (l.val % 16)) 0x42000000#32)) else 0 := by
  refine (congrFun (V_rot m c) _).trans ((stack5 _ _ _ _ _ _ _ _ t l).trans ((row_214 m c t l).trans ?_))
  rw [turns16_eq l, pick, pair16_eq l]
  by_cases h : l.val < 32
  · rw [if_pos h, if_pos h, first16_eq l h, pick]
  · rw [if_neg h, if_neg h]
    exact Ideal.ofBits_zero_f32

end Cert.Kernel3Ideal.Val

end
-- ==== Proof.Array3.lean ====
/-
  THE INPUT PROJECTION'S RESULTS: the arrays the launch leaves are the reference's, at every index.
-/
module

public import proofs.«01_k».proof.Proof.Out3
public import proofs.«01_k».proof.Proof.Host3
public import Idealize.ShloMosaic.Lib.Pipeline.ValueKit
public import Idealize.ShloMosaic.Lib.Pipeline.Covers

@[expose] public section

set_option maxRecDepth 16384

noncomputable section

namespace Cert.Kernel3Ideal.Val

open Idealize.ShloMosaic Idealize.ShloMosaic.TcCoe
open Cert.Kernel3Ideal Cert.Kernel3Ideal.Gen Cert.Kernel3Ideal.Proj Cert.Angle3
open Cert.Reference3Ideal (S16x2048x4912)
open Cert.Reference3Ideal.Val (proj rows win normed latCols low turn16 ropeCols frows parts gates ang8 ang16)

section
variable (B : Ins Ideal) (X : FVec Ideal S16x2048x1024 .f32) (A : FVec Ideal S16x3072 .f32) (W : FVec Ideal S1024x4912 .f32) (b : Fin 16) (pos : Fin 256 → Fin 2048)
  (h0 : ∀ (r : Fin 256) (l : Fin 1024), B.x0 (ix3 0 r l) = X (ix3 b (pos r) l)) (h1 : ∀ l : Fin 1024, B.x1 (ix3 0 0 l) = A (ix2 b ⟨l, by omega⟩))
  (h2 : ∀ l : Fin 1024, B.x2 (ix3 0 0 l) = A (ix2 b ⟨1024 + l, by omega⟩))
include h0 h1 h2

/-- A column of a point's product, where the packed column is the projection's. -/
theorem product_at (r : Fin 256) (k : Fin 5248) (j : Fin 4912) (h : ∀ l : Fin 1024, B.x4 (ix2 l k) = W (ix2 l j)) :
    ∑ l : Fin 1024, B.modulated (ix2 r l) * B.x4 (ix2 l k) = proj X A W (ix3 b (pos r) j) := by
  rw [Cert.Reference3Ideal.Val.proj_at]
  exact Finset.sum_congr rfl fun l _ => congrArg₂ (fun x y : EReal => x * y) (by rw [mod_val, h0, h1, h2]) (h l)

end

/-- Blocks that read as the arguments, column by column, make a point that does. -/
theorem reads_of (x0 : Vec Ideal S1x256x1024 .f32) (x1 x2 : Vec Ideal S1x1x1024 .f32) (x3 : Vec Ideal S8x256x128 .f32) (x4 : Vec Ideal S1024x5248 .bf16) (x5 : Vec Ideal S1x256 .f32) (x6 : Vec Ideal S256x384 .bf16)
    (x7 : Vec Ideal S384x1024 .bf16) (x8 x9 : Vec Ideal S1x128 .f32)
    (X : FVec Ideal S16x2048x1024 .f32) (A : FVec Ideal S16x3072 .f32) (W : FVec Ideal S1024x4912 .f32) (g : FVec Ideal S128 .f32) (b : Fin 16) (pos : Fin 256 → Fin 2048)
    (h0 : ∀ (r : Fin 256) (l : Fin 1024), x0 (ix3 0 r l) = X (ix3 b (pos r) l)) (h1 : ∀ l : Fin 1024, x1 (ix3 0 0 l) = A (ix2 b ⟨l, by omega⟩))
    (h2 : ∀ l : Fin 1024, x2 (ix3 0 0 l) = A (ix2 b ⟨1024 + l, by omega⟩))
    (heads : ∀ (l : Fin 1024) (j : Fin 384), x4 (ix2 l ⟨256 + j, by omega⟩) = W (ix2 l ⟨256 + j, by omega⟩))
    (lat : ∀ (l : Fin 1024) (j : Fin 128), x4 (ix2 l ⟨1024 + j, by omega⟩) = W (ix2 l ⟨908 + j, by omega⟩))
    (rope : ∀ (l : Fin 1024) (j : Fin 32), x4 (ix2 l ⟨1152 + j, by omega⟩) = W (ix2 l ⟨1036 + j, by omega⟩))
    (fox : ∀ (l : Fin 1024) (j : Fin 768), x4 (ix2 l ⟨1280 + j, by omega⟩) = W (ix2 l ⟨1068 + j, by omega⟩))
    (gate : ∀ (l : Fin 1024) (j : Fin 3072), x4 (ix2 l ⟨2176 + j, by omega⟩) = W (ix2 l ⟨1840 + j, by omega⟩))
    (weights : ∀ j : Fin 128, x8 (ix2 0 j) = g (ix1 j))
    (cos8 : ∀ (r : Fin 256) (j : Fin 128), x3 (ix3 2 r j) = if j.val < 16 then Ideal.cos (angle (pos r) (BitVec.ofNat 32 (j.val % 8)) 0x41800000#32) else 1)
    (sin8 : ∀ (r : Fin 256) (j : Fin 128), x3 (ix3 3 r j) = if j.val < 16 then (if j.val < 8 then -(Ideal.sin (angle (pos r) (BitVec.ofNat 32 (j.val % 8)) 0x41800000#32)) else Ideal.sin (angle (pos r) (BitVec.ofNat 32 (j.val % 8)) 0x41800000#32)) else 0)
    (cos16 : ∀ (r : Fin 256) (j : Fin 128), x3 (ix3 4 r j) = if j.val < 32 then Ideal.cos (angle (pos r) (BitVec.ofNat 32 (j.val % 16)) 0x42000000#32) else 1)
    (sin16 : ∀ (r : Fin 256) (j : Fin 128), x3 (ix3 5 r j) = if j.val < 32 then (if j.val < 16 then -(Ideal.sin (angle (pos r) (BitVec.ofNat 32 (j.val % 16)) 0x42000000#32)) else Ideal.sin (angle (pos r) (BitVec.ofNat 32 (j.val % 16)) 0x42000000#32)) else 0) :
    Reads ⟨x0, x1, x2, x3, x4, x5, x6, x7, x8, x9⟩ (proj X A W) g b pos :=
  have P := product_at ⟨x0, x1, x2, x3, x4, x5, x6, x7, x8, x9⟩ X A W b pos h0 h1 h2
  { heads := fun r j => P r _ _ fun l => heads l j
    lat := fun r j => P r _ _ fun l => lat l j
    rope := fun r j => P r _ _ fun l => rope l j
    fox := fun r j => P r _ _ fun l => fox l j
    gate := fun r j => P r _ _ fun l => gate l j
    weights := weights
    cos8 := cos8
    sin8 := sin8
    cos16 := cos16
    sin16 := sin16 }

variable (m : (ℓ : Loc nD τ sig) → Buf (Elt Ideal) ℓ)

/-- Which blocks a grid point reads: its sequence's tile of x, its sequence's shift and scale, its tile of the tables, the whole weights. -/
theorem idx : ∀ t : Fin cfg0.N, win0_0.index t = ![(grid0.coords t 0).val, (grid0.coords t 1).val, 0] ∧ win0_1.index t = ![(grid0.coords t 0).val, 0, 0]
    ∧ win0_2.index t = ![(grid0.coords t 0).val, 0, 1] ∧ win0_3.index t = ![0, (grid0.coords t 1).val, 0] ∧ win0_4.index t = ![0, 0] ∧ win0_8.index t = ![0, 0] :=
  (by decide +kernel : ∀ t : Fin grid0.N, _)

/-- And writes: its tile of each result. -/
theorem odx : ∀ t : Fin cfg0.N, win0_11.index t = ![(grid0.coords t 0).val, (grid0.coords t 1).val, 0] ∧ win0_12.index t = ![(grid0.coords t 0).val, (grid0.coords t 1).val, 0]
    ∧ win0_16.index t = ![(grid0.coords t 0).val, (grid0.coords t 1).val, 0] ∧ win0_17.index t = ![(grid0.coords t 0).val, (grid0.coords t 1).val, 0]
    ∧ win0_20.index t = ![(grid0.coords t 0).val, (grid0.coords t 1).val, 0] ∧ win0_23.index t = ![(grid0.coords t 0).val, (grid0.coords t 1).val, 0] :=
  (by decide +kernel : ∀ t : Fin grid0.N, _)

/-- The place in its sequence of a tile's row. -/
def pos (t : Fin cfg0.N) (r : Fin 256) : Fin 2048 := ⟨256 * (grid0.coords t 1).val + r, by have : (grid0.coords t 1).val < 8 := (grid0.coords t 1).isLt; omega⟩

/-- The sequence of a tile. -/
def seq (t : Fin cfg0.N) : Fin 16 := grid0.coords t 0

/-! A block of each array the body reads, of any contents. -/

theorem read0 (t : Fin cfg0.N) (f : FVec Ideal S16x2048x1024 .f32) (r : Fin 256) (l : Fin 1024) :
    View.read (Elt Ideal) (win0_0.blk t).view f (ix3 0 r l) = f (ix3 (seq t) (pos t r) l) := by
  show f _ = f _
  refine congrArg f ?_
  funext a
  fin_cases a
  all_goals apply Fin.ext
  all_goals blk_simp [idx t]
  · rfl
  · exact congrArg (· + r.val) (Nat.mul_comm _ _)
  · rfl

theorem read1 (t : Fin cfg0.N) (f : FVec Ideal S16x1x3072 .f32) (l : Fin 1024) :
    View.read (Elt Ideal) (win0_1.blk t).view f (ix3 0 0 l) = f (ix3 (seq t) 0 ⟨l, by omega⟩) := by
  show f _ = f _
  refine congrArg f ?_
  funext a
  fin_cases a
  all_goals apply Fin.ext
  all_goals blk_simp [idx t]
  all_goals rfl

theorem read2 (t : Fin cfg0.N) (f : FVec Ideal S16x1x3072 .f32) (l : Fin 1024) :
    View.read (Elt Ideal) (win0_2.blk t).view f (ix3 0 0 l) = f (ix3 (seq t) 0 ⟨1024 + l, by omega⟩) := by
  show f _ = f _
  refine congrArg f ?_
  funext a
  fin_cases a
  all_goals apply Fin.ext
  all_goals blk_simp [idx t]
  all_goals rfl

theorem read3 (t : Fin cfg0.N) (f : FVec Ideal S8x2048x128 .f32) (k : Fin 8) (r : Fin 256) (l : Fin 128) :
    View.read (Elt Ideal) (win0_3.blk t).view f (ix3 k r l) = f (ix3 k (pos t r) l) := by
  show f _ = f _
  refine congrArg f ?_
  funext a
  fin_cases a
  all_goals apply Fin.ext
  all_goals blk_simp [idx t]
  · rfl
  · exact congrArg (· + r.val) (Nat.mul_comm _ _)
  · rfl

theorem read4 (t : Fin cfg0.N) (f : FVec Ideal S1024x5248 .bf16) (l : Fin 1024) (j : Fin 5248) :
    View.read (Elt Ideal) (win0_4.blk t).view f (ix2 l j) = f (ix2 l j) := by
  show f _ = f _
  refine congrArg f ?_
  funext a
  fin_cases a
  all_goals apply Fin.ext
  all_goals blk_simp [idx t]
  all_goals rfl

theorem read8 (t : Fin cfg0.N) (f : FVec Ideal S1x128 .f32) (j : Fin 128) :
    View.read (Elt Ideal) (win0_8.blk t).view f (ix2 0 j) = f (ix2 0 j) := by
  show f _ = f _
  refine congrArg f ?_
  funext a
  fin_cases a
  all_goals apply Fin.ext
  all_goals blk_simp [idx t]
  all_goals rfl

/-! The blocks of a point, over the arguments. -/

theorem x0_at (c : Dev nD) (t : Fin cfg0.N) (r : Fin 256) (l : Fin 1024) : iblk m c 0 t (ix3 0 r l) = V m c main_arg0 (ix3 (seq t) (pos t r) l) :=
  read0 t (V m c main_arg0) r l
theorem x1_at (c : Dev nD) (t : Fin cfg0.N) (l : Fin 1024) : iblk m c 1 t (ix3 0 0 l) = V m c main_v75 (ix3 (seq t) 0 ⟨l, by omega⟩) :=
  read1 t (V m c main_v75) l
theorem x2_at (c : Dev nD) (t : Fin cfg0.N) (l : Fin 1024) : iblk m c 2 t (ix3 0 0 l) = V m c main_v75 (ix3 (seq t) 0 ⟨1024 + l, by omega⟩) :=
  read2 t (V m c main_v75) l
theorem x3_at (c : Dev nD) (t : Fin cfg0.N) (k : Fin 8) (r : Fin 256) (l : Fin 128) : iblk m c 3 t (ix3 k r l) = V m c main_v217 (ix3 k (pos t r) l) :=
  read3 t (V m c main_v217) k r l
theorem x4_at (c : Dev nD) (t : Fin cfg0.N) (l : Fin 1024) (j : Fin 5248) : iblk m c 4 t (ix2 l j) = V m c main_v11 (ix2 l j) :=
  read4 t (V m c main_v11) l j
theorem x8_at (c : Dev nD) (t : Fin cfg0.N) (j : Fin 128) : iblk m c 8 t (ix2 0 j) = V m c main_v74 (ix2 0 j) :=
  read8 t (V m c main_v74) j

attribute [local irreducible] iblk

section
variable (c : Dev nD) (X : FVec Ideal S16x2048x1024 .f32) (A : FVec Ideal S16x3072 .f32) (W : FVec Ideal S1024x4912 .f32) (g : FVec Ideal S128 .f32)
  (e0 : m ((c : Thread nD τ).loc main_arg0) = X) (e1 : m ((c : Thread nD τ).loc main_arg1) = A) (e2 : m ((c : Thread nD τ).loc main_arg2) = W) (e5 : m ((c : Thread nD τ).loc main_arg5) = g)
  (t : Fin cfg0.N)

include e0 in
theorem b0 (r : Fin 256) (l : Fin 1024) : iblk m c 0 t (ix3 0 r l) = X (ix3 (seq t) (pos t r) l) :=
  (x0_at m c t r l).trans (congrFun ((V_arg m c main_arg0 (Or.inl rfl)).trans e0) _)

include e1 in
theorem b1 (l : Fin 1024) : iblk m c 1 t (ix3 0 0 l) = A (ix2 (seq t) ⟨l, by omega⟩) :=
  (x1_at m c t l).trans ((ada_at m c (seq t) ⟨l, by omega⟩).trans (congrFun e1 _))

include e1 in
theorem b2 (l : Fin 1024) : iblk m c 2 t (ix3 0 0 l) = A (ix2 (seq t) ⟨1024 + l, by omega⟩) :=
  (x2_at m c t l).trans ((ada_at m c (seq t) ⟨1024 + l, by omega⟩).trans (congrFun e1 _))

include e2 in
theorem b4_heads (l : Fin 1024) (j : Fin 384) : iblk m c 4 t (ix2 l ⟨256 + j, by omega⟩) = W (ix2 l ⟨256 + j, by omega⟩) :=
  (x4_at m c t l ⟨256 + j, by omega⟩).trans ((w_heads m c l j).trans (congrFun e2 _))

include e2 in
theorem b4_lat (l : Fin 1024) (j : Fin 128) : iblk m c 4 t (ix2 l ⟨1024 + j, by omega⟩) = W (ix2 l ⟨908 + j, by omega⟩) :=
  (x4_at m c t l ⟨1024 + j, by omega⟩).trans ((w_lat m c l j).trans (congrFun e2 _))

include e2 in
theorem b4_rope (l : Fin 1024) (j : Fin 32) : iblk m c 4 t (ix2 l ⟨1152 + j, by omega⟩) = W (ix2 l ⟨1036 + j, by omega⟩) :=
  (x4_at m c t l ⟨1152 + j, by omega⟩).trans ((w_rope m c l j).trans (congrFun e2 _))

include e2 in
theorem b4_fox (l : Fin 1024) (j : Fin 768) : iblk m c 4 t (ix2 l ⟨1280 + j, by omega⟩) = W (ix2 l ⟨1068 + j, by omega⟩) :=
  (x4_at m c t l ⟨1280 + j, by omega⟩).trans ((w_fox m c l j).trans (congrFun e2 _))

include e2 in
theorem b4_gate (l : Fin 1024) (j : Fin 3072) : iblk m c 4 t (ix2 l ⟨2176 + j, by omega⟩) = W (ix2 l ⟨1840 + j, by omega⟩) :=
  (x4_at m c t l ⟨2176 + j, by omega⟩).trans ((w_gate m c l j).trans (congrFun e2 _))

include e5 in
theorem b8 (j : Fin 128) : iblk m c 8 t (ix2 0 j) = g (ix1 j) := (x8_at m c t j).trans ((g_at m c j).trans (congrFun e5 _))

theorem b3_cos8 (r : Fin 256) (j : Fin 128) : iblk m c 3 t (ix3 2 r j) = if j.val < 16 then Ideal.cos (angle (pos t r) (BitVec.ofNat 32 (j.val % 8)) 0x41800000#32) else 1 :=
  (x3_at m c t 2 r j).trans (cos8_at m c (pos t r) j)

theorem b3_sin8 (r : Fin 256) (j : Fin 128) : iblk m c 3 t (ix3 3 r j) = if j.val < 16 then (if j.val < 8 then -(Ideal.sin (angle (pos t r) (BitVec.ofNat 32 (j.val % 8)) 0x41800000#32)) else Ideal.sin (angle (pos t r) (BitVec.ofNat 32 (j.val % 8)) 0x41800000#32)) else 0 :=
  (x3_at m c t 3 r j).trans (sin8_at m c (pos t r) j)

theorem b3_cos16 (r : Fin 256) (j : Fin 128) : iblk m c 3 t (ix3 4 r j) = if j.val < 32 then Ideal.cos (angle (pos t r) (BitVec.ofNat 32 (j.val % 16)) 0x42000000#32) else 1 :=
  (x3_at m c t 4 r j).trans (cos16_at m c (pos t r) j)

theorem b3_sin16 (r : Fin 256) (j : Fin 128) : iblk m c 3 t (ix3 5 r j) = if j.val < 32 then (if j.val < 16 then -(Ideal.sin (angle (pos t r) (BitVec.ofNat 32 (j.val % 16)) 0x42000000#32)) else Ideal.sin (angle (pos t r) (BitVec.ofNat 32 (j.val % 16)) 0x42000000#32)) else 0 :=
  (x3_at m c t 5 r j).trans (sin16_at m c (pos t r) j)

include e0 e1 e2 e5 in
/-- SO THE BLOCKS OF A POINT READ AS THE ARGUMENTS DO. -/
theorem reads : Reads (ins m c t) (proj X A W) g (seq t) (pos t) :=
  reads_of (iblk m c 0 t) (iblk m c 1 t) (iblk m c 2 t) (iblk m c 3 t) (iblk m c 4 t) (iblk m c 5 t) (iblk m c 6 t) (iblk m c 7 t) (iblk m c 8 t) (iblk m c 9 t) X A W g (seq t) (pos t)
    (b0 m c X e0 t) (b1 m c A e1 t) (b2 m c A e1 t) (b4_heads m c W e2 t) (b4_lat m c W e2 t) (b4_rope m c W e2 t) (b4_fox m c W e2 t) (b4_gate m c W e2 t)
    (b8 m c g e5 t) (b3_cos8 m c t) (b3_sin8 m c t) (b3_cos16 m c t) (b3_sin16 m c t)

end

/-! Where an element of a result's block lies. -/

theorem emb11 (t : Fin cfg0.N) (r : Fin 256) (l : Fin 256) : (win0_11.blk t).view.emb (ix3 0 r l) = (ix3 (seq t) (pos t r) l : S16x2048x256.Idx) := by
  funext a
  fin_cases a
  all_goals apply Fin.ext
  all_goals blk_simp [odx t]
  · rfl
  · exact congrArg (· + r.val) (Nat.mul_comm _ _)
  · rfl

theorem emb12 (t : Fin cfg0.N) (r : Fin 256) (l : Fin 128) : (win0_12.blk t).view.emb (ix3 0 r l) = (ix3 (seq t) (pos t r) l : S16x2048x128.Idx) := by
  funext a
  fin_cases a
  all_goals apply Fin.ext
  all_goals blk_simp [odx t]
  · rfl
  · exact congrArg (· + r.val) (Nat.mul_comm _ _)
  · rfl

theorem emb16 (t : Fin cfg0.N) (r : Fin 256) (l : Fin 128) : (win0_16.blk t).view.emb (ix3 0 r l) = (ix3 (seq t) (pos t r) l : S16x2048x128.Idx) := by
  funext a
  fin_cases a
  all_goals apply Fin.ext
  all_goals blk_simp [odx t]
  · rfl
  · exact congrArg (· + r.val) (Nat.mul_comm _ _)
  · rfl

theorem emb17 (t : Fin cfg0.N) (r : Fin 256) (l : Fin 32) : (win0_17.blk t).view.emb (ix3 0 r l) = (ix3 (seq t) (pos t r) l : S16x2048x32.Idx) := by
  funext a
  fin_cases a
  all_goals apply Fin.ext
  all_goals blk_simp [odx t]
  · rfl
  · exact congrArg (· + r.val) (Nat.mul_comm _ _)
  · rfl

theorem emb20 (t : Fin cfg0.N) (r : Fin 256) (l : Fin 512) : (win0_20.blk t).view.emb (ix3 0 r l) = (ix3 (seq t) (pos t r) l : S16x2048x512.Idx) := by
  funext a
  fin_cases a
  all_goals apply Fin.ext
  all_goals blk_simp [odx t]
  · rfl
  · exact congrArg (· + r.val) (Nat.mul_comm _ _)
  · rfl

theorem emb23 (t : Fin cfg0.N) (r : Fin 256) (l : Fin 3072) : (win0_23.blk t).view.emb (ix3 0 r l) = (ix3 (seq t) (pos t r) l : S16x2048x3072.Idx) := by
  funext a
  fin_cases a
  all_goals apply Fin.ext
  all_goals blk_simp [odx t]
  · rfl
  · exact congrArg (· + r.val) (Nat.mul_comm _ _)
  · rfl

/-! THE KERNEL'S RESULTS, each at every index. -/

section
variable (c : Dev nD) (X : FVec Ideal S16x2048x1024 .f32) (A : FVec Ideal S16x3072 .f32) (W : FVec Ideal S1024x4912 .f32) (g : FVec Ideal S128 .f32)
  (e0 : m ((c : Thread nD τ).loc main_arg0) = X) (e1 : m ((c : Thread nD τ).loc main_arg1) = A) (e2 : m ((c : Thread nD τ).loc main_arg2) = W) (e5 : m ((c : Thread nD τ).loc main_arg5) = g)
include e0 e1 e2 e5

theorem rows_array : (dats m 0 c).arrAt 11 cfg0.N = rows (proj X A W) ang8 := by
  refine (dats m 0 c).arrAt_eq_of_covers 11 _ (by decide +kernel) fun t _ y => ?_
  blk_simp
  rw [after_11]
  obtain ⟨a, r, l, rfl⟩ : ∃ (a : Fin 1) (r : Fin 256) (l : Fin 256), y = ix3 a r l := ⟨y 0, y 1, y 2, by funext k; fin_cases k <;> rfl⟩
  obtain rfl : a = 0 := Subsingleton.elim _ _
  exact (rows_out (ins m c t) (proj X A W) g (seq t) (pos t) (reads m c X A W g e0 e1 e2 e5 t) r l).trans (congrArg (rows (proj X A W) ang8) (emb11 t r l)).symm

theorem win_array : (dats m 0 c).arrAt 12 cfg0.N = win (proj X A W) ang8 := by
  refine (dats m 0 c).arrAt_eq_of_covers 12 _ (by decide +kernel) fun t _ y => ?_
  blk_simp
  rw [after_12]
  obtain ⟨a, r, l, rfl⟩ : ∃ (a : Fin 1) (r : Fin 256) (l : Fin 128), y = ix3 a r l := ⟨y 0, y 1, y 2, by funext k; fin_cases k <;> rfl⟩
  obtain rfl : a = 0 := Subsingleton.elim _ _
  exact (win_out (ins m c t) (proj X A W) g (seq t) (pos t) (reads m c X A W g e0 e1 e2 e5 t) r l).trans (congrArg (win (proj X A W) ang8) (emb12 t r l)).symm

theorem lat_array : (dats m 0 c).arrAt 16 cfg0.N = normed (latCols (low (proj X A W))) g := by
  refine (dats m 0 c).arrAt_eq_of_covers 16 _ (by decide +kernel) fun t _ y => ?_
  blk_simp
  rw [after_16]
  obtain ⟨a, r, l, rfl⟩ : ∃ (a : Fin 1) (r : Fin 256) (l : Fin 128), y = ix3 a r l := ⟨y 0, y 1, y 2, by funext k; fin_cases k <;> rfl⟩
  obtain rfl : a = 0 := Subsingleton.elim _ _
  exact (lat_out (ins m c t) (proj X A W) g (seq t) (pos t) (reads m c X A W g e0 e1 e2 e5 t) r l).trans (congrArg (normed (latCols (low (proj X A W))) g) (emb16 t r l)).symm

theorem rope_array : (dats m 0 c).arrAt 17 cfg0.N = turn16 (ropeCols (low (proj X A W))) ang16 := by
  refine (dats m 0 c).arrAt_eq_of_covers 17 _ (by decide +kernel) fun t _ y => ?_
  blk_simp
  rw [after_17]
  obtain ⟨a, r, l, rfl⟩ : ∃ (a : Fin 1) (r : Fin 256) (l : Fin 32), y = ix3 a r l := ⟨y 0, y 1, y 2, by funext k; fin_cases k <;> rfl⟩
  obtain rfl : a = 0 := Subsingleton.elim _ _
  exact (rope_out (ins m c t) (proj X A W) g (seq t) (pos t) (reads m c X A W g e0 e1 e2 e5 t) r l).trans (congrArg (turn16 (ropeCols (low (proj X A W))) ang16) (emb17 t r l)).symm

theorem frows_array : (dats m 0 c).arrAt 20 cfg0.N = frows (parts (proj X A W)) := by
  refine (dats m 0 c).arrAt_eq_of_covers 20 _ (by decide +kernel) fun t _ y => ?_
  blk_simp
  rw [after_20]
  obtain ⟨a, r, l, rfl⟩ : ∃ (a : Fin 1) (r : Fin 256) (l : Fin 512), y = ix3 a r l := ⟨y 0, y 1, y 2, by funext k; fin_cases k <;> rfl⟩
  obtain rfl : a = 0 := Subsingleton.elim _ _
  exact (fox_out (ins m c t) (proj X A W) g (seq t) (pos t) (reads m c X A W g e0 e1 e2 e5 t) r l).trans (congrArg (frows (parts (proj X A W))) (emb20 t r l)).symm

theorem gates_array : (dats m 0 c).arrAt 23 cfg0.N = gates (proj X A W) := by
  refine (dats m 0 c).arrAt_eq_of_covers 23 _ (by decide +kernel) fun t _ y => ?_
  blk_simp
  rw [after_23]
  obtain ⟨a, r, l, rfl⟩ : ∃ (a : Fin 1) (r : Fin 256) (l : Fin 3072), y = ix3 a r l := ⟨y 0, y 1, y 2, by funext k; fin_cases k <;> rfl⟩
  obtain rfl : a = 0 := Subsingleton.elim _ _
  exact (gates_out (ins m c t) (proj X A W) g (seq t) (pos t) (reads m c X A W g e0 e1 e2 e5 t) r l).trans (congrArg (gates (proj X A W)) (emb23 t r l)).symm

end

end Cert.Kernel3Ideal.Val

end
-- ==== Proof.Ends3.lean ====
/-
  THE PLAIN INPUT PROJECTION, run: each result it ends with is the named value of Plain3.lean over the arguments.
-/
module

public import proofs.«01_k».proof.Proof.Plain3
public import proofs.«01_k».proof.Proof.Gen.Reference3Ideal.Run

@[expose] public section

set_option maxRecDepth 16384

noncomputable section

namespace Cert.Reference3Ideal.Val

open Idealize.ShloMosaic Idealize.ShloMosaic.TcCoe Idealize.SL.Sem
open Cert.Reference3Ideal Cert.Reference3Ideal.Gen

/-- Each result, by name, and the arguments kept. -/
theorem ends (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v184) = rows (proj (m ((c.tc : Thread nD τ).loc main_arg0)) (m ((c.tc : Thread nD τ).loc main_arg1)) (m ((c.tc : Thread nD τ).loc main_arg2))) ang8
      ∧ r.2.mem ((c.tc : Thread nD τ).loc main_v185) = win (proj (m ((c.tc : Thread nD τ).loc main_arg0)) (m ((c.tc : Thread nD τ).loc main_arg1)) (m ((c.tc : Thread nD τ).loc main_arg2))) ang8
      ∧ r.2.mem ((c.tc : Thread nD τ).loc main_v142) = normed (latCols (low (proj (m ((c.tc : Thread nD τ).loc main_arg0)) (m ((c.tc : Thread nD τ).loc main_arg1)) (m ((c.tc : Thread nD τ).loc main_arg2))))) (m ((c.tc : Thread nD τ).loc main_arg5))
      ∧ r.2.mem ((c.tc : Thread nD τ).loc main_v178) = turn16 (ropeCols (low (proj (m ((c.tc : Thread nD τ).loc main_arg0)) (m ((c.tc : Thread nD τ).loc main_arg1)) (m ((c.tc : Thread nD τ).loc main_arg2))))) ang16
      ∧ r.2.mem ((c.tc : Thread nD τ).loc main_v186) = frows (parts (proj (m ((c.tc : Thread nD τ).loc main_arg0)) (m ((c.tc : Thread nD τ).loc main_arg1)) (m ((c.tc : Thread nD τ).loc main_arg2))))
      ∧ r.2.mem ((c.tc : Thread nD τ).loc main_v193) = gates (proj (m ((c.tc : Thread nD τ).loc main_arg0)) (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run (defs (F := Ideal)) _ _).mono (fun r h c => ⟨(h c).1.trans rfl, (h c).2.1.trans rfl, (h c).2.2.1.trans rfl, (h c).2.2.2.1.trans rfl, (h c).2.2.2.2.1.trans rfl, (h c).2.2.2.2.2.1.trans rfl, (h c).2.2.2.2.2.2⟩)
    (Cert.Reference3Ideal.Value.run (F := Ideal) m ρ)

end Cert.Reference3Ideal.Val

end
-- ==== Proof.lean ====
/-
  THE CLAIM, of three calls of one layer.
  The prompt's MLA attention: the kernel, its head loop and its online softmax over key tiles, is the plain softmax attention. The values
  meet in the attention over the reals (Softmax.lean): Array.lean carries the kernel there, Plain.lean the reference, Pre.lean says that
  the arguments are real.
  The experts' feed-forward: the tiled kernel with its table of experts is the sum over the experts (Array2.lean, Plain2.lean, Pre2.lean).
  The input projection: the kernel over packed columns, with its rotations as lane rolls, is the plain projection (Array3.lean for the
  kernel, Plain3.lean and Ends3.lean for the reference).
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal
public import proofs.«01_k».proof.Proof.Gen.Kernel2
public import proofs.«01_k».proof.Proof.Gen.Kernel2Ideal
public import proofs.«01_k».proof.Proof.Gen.Reference2Ideal
public import proofs.«01_k».proof.Proof.Gen.Reference2Ideal.Run
public import proofs.«01_k».proof.Proof.Gen.Kernel3
public import proofs.«01_k».proof.Proof.Gen.Kernel3.Points
public import proofs.«01_k».proof.Proof.Gen.Kernel3.Skeleton
public import proofs.«01_k».proof.Proof.Gen.Kernel3.Launch
public import proofs.«01_k».proof.Proof.Gen.Kernel3Ideal
public import proofs.«01_k».proof.Proof.Gen.Kernel3Ideal.Points
public import proofs.«01_k».proof.Proof.Gen.Kernel3Ideal.Skeleton
public import proofs.«01_k».proof.Proof.Gen.Kernel3Ideal.Launch
public import proofs.«01_k».proof.Proof.Gen.Reference3Ideal
public import proofs.«01_k».proof.Proof.Gen.Reference3Ideal.Run
public import proofs.«01_k».proof.Proof.Array
public import proofs.«01_k».proof.Proof.Plain
public import proofs.«01_k».proof.Proof.Pre
public import proofs.«01_k».proof.Proof.BitsRun
public import proofs.«01_k».proof.Proof.Array2
public import proofs.«01_k».proof.Proof.Plain2
public import proofs.«01_k».proof.Proof.Pre2
public import proofs.«01_k».proof.Proof.BitsRun3
public import proofs.«01_k».proof.Proof.Array3
public import proofs.«01_k».proof.Proof.Ends3
public import Idealize.ShloMosaic.Adequacy
public import Idealize.ShloMosaic.Init
public import Idealize.ShloMosaic.Lib.Claim
public import Idealize.ShloMosaic.Lib.Quiescent

@[expose] public section

noncomputable section

namespace Cert.Proof

open Idealize.ShloMosaic Idealize.ShloMosaic.TcCoe Idealize.SL.Sem Cert.Softmax

/-- Both sides, from the same real arguments, end with the attention. -/
theorem meet (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (X0 : FVec Ideal Cert.KernelIdeal.S16x2048x4x128 .f32) (X1 : FVec Ideal Cert.KernelIdeal.S16x2048x4x32 .f32) (X2 : FVec Ideal Cert.KernelIdeal.S16x2048x128 .f32) (X3 : FVec Ideal Cert.KernelIdeal.S16x2048x32 .f32)
    (e0 : m ((c.tc : Thread Cert.KernelIdeal.nD Cert.KernelIdeal.τ).loc Cert.KernelIdeal.main_arg0) = X0) (e1 : m ((c.tc : Thread Cert.KernelIdeal.nD Cert.KernelIdeal.τ).loc Cert.KernelIdeal.main_arg1) = X1)
    (e2 : m ((c.tc : Thread Cert.KernelIdeal.nD Cert.KernelIdeal.τ).loc Cert.KernelIdeal.main_arg2) = X2) (e3 : m ((c.tc : Thread Cert.KernelIdeal.nD Cert.KernelIdeal.τ).loc Cert.KernelIdeal.main_arg3) = X3)
    (e0' : m' ((c.tc : Thread Cert.ReferenceIdeal.nD Cert.ReferenceIdeal.τ).loc Cert.ReferenceIdeal.main_arg0) = X0) (e1' : m' ((c.tc : Thread Cert.ReferenceIdeal.nD Cert.ReferenceIdeal.τ).loc Cert.ReferenceIdeal.main_arg1) = X1)
    (e2' : m' ((c.tc : Thread Cert.ReferenceIdeal.nD Cert.ReferenceIdeal.τ).loc Cert.ReferenceIdeal.main_arg2) = X2) (e3' : m' ((c.tc : Thread Cert.ReferenceIdeal.nD Cert.ReferenceIdeal.τ).loc Cert.ReferenceIdeal.main_arg3) = X3)
    (r0 : ∀ i, X0 i = ((EReal.toReal (X0 i) : ℝ) : EReal)) (r1 : ∀ i, X1 i = ((EReal.toReal (X1 i) : ℝ) : EReal)) (r2 : ∀ i, X2 i = ((EReal.toReal (X2 i) : ℝ) : EReal)) (r3 : ∀ i, X3 i = ((EReal.toReal (X3 i) : ℝ) : EReal)) :
    Cert.ReferenceIdeal.Value.res_main_v31 m' c = (Cert.KernelIdeal.Gen.dats m 0 c).arrAt 3 Cert.KernelIdeal.cfg0.N := by
  obtain ⟨Q, hQ⟩ : ∃ Q : Fin 16 → Fin 2048 → Fin 4 → Fin 128 → ℝ, ∀ b q h l, X0 (ix4 b q h l) = (Q b q h l : EReal) := ⟨fun b q h l => EReal.toReal (X0 (ix4 b q h l)), fun b q h l => r0 _⟩
  obtain ⟨R, hR⟩ : ∃ R : Fin 16 → Fin 2048 → Fin 4 → Fin 32 → ℝ, ∀ b q h l, X1 (ix4 b q h l) = (R b q h l : EReal) := ⟨fun b q h l => EReal.toReal (X1 (ix4 b q h l)), fun b q h l => r1 _⟩
  obtain ⟨C, hC⟩ : ∃ C : Fin 16 → Fin 2048 → Fin 128 → ℝ, ∀ b k l, X2 (ix3 b k l) = (C b k l : EReal) := ⟨fun b k l => EReal.toReal (X2 (ix3 b k l)), fun b k l => r2 _⟩
  obtain ⟨K, hK⟩ : ∃ K : Fin 16 → Fin 2048 → Fin 32 → ℝ, ∀ b k l, X3 (ix3 b k l) = (K b k l : EReal) := ⟨fun b k l => EReal.toReal (X3 (ix3 b k l)), fun b k l => r3 _⟩
  rw [Cert.ReferenceIdeal.Val.res_eq, e0', e1', e2', e3', Cert.KernelIdeal.Val.array m c Q R C K X0 X1 X2 X3 e0 e1 e2 e3 hQ hR hC hK]
  funext y
  obtain ⟨b, q, l, rfl⟩ : ∃ (b : Fin 16) (q : Fin 2048) (l : Fin 512), y = ix3 b q l := ⟨y 0, y 1, y 2, by funext k; fin_cases k <;> rfl⟩
  obtain ⟨h, d, rfl⟩ : ∃ (h : Fin 4) (d : Fin 128), l = ⟨h * 128 + d, by omega⟩ := ⟨⟨l / 128, by omega⟩, ⟨l % 128, by omega⟩, Fin.ext (by show l.val = l.val / 128 * 128 + l.val % 128; omega)⟩
  exact (Cert.ReferenceIdeal.Val.whole_at X0 X1 X2 X3 Q R C K hQ hR hC hK b q h d).trans (Cert.KernelIdeal.Val.result_at Q R C K b q h d).symm

/-- The reference's frame: it ends at rest with its arguments kept. -/
theorem reference_frame : Cert.quiescent_ReferenceIdeal (hReferenceIdeal := Cert.ReferenceIdeal.Gen.facts) := fun m ρ _ =>
  (θ_run (Cert.ReferenceIdeal.defs (F := Ideal)) _ _).mono (fun r h => ⟨fun c => (h c).2, sem_eq_zero_of_no_sems (by decide) r.2⟩) (Cert.ReferenceIdeal.Value.run (F := Ideal) m ρ)

/-- The experts' kernel as compiled ends at rest with its arguments kept, where the table names experts. -/
theorem expert_frame : Cert.quiescent_Kernel2 (hKernel2 := Cert.Kernel2.Gen.facts) (hPre_in_range := Cert.Pre_in_range.facts) := fun m ρ pre =>
  Cert.Kernel2.Ffn.framed m ρ (Cert.Kernel2.Ffn.ok_of m fun j =>
    (congrArg BitVec.toNat (congrFun (Cert.Kernel2.Ffn.V_of_ne m 0 Cert.Kernel2.main_arg1 (by decide)) j)).trans_lt (Cert.Pre_in_range.words _ _ _ _ _ _ (pre 0) j))

/-- Where the table of experts names experts, the idealized kernel's blocks lie in the weights. -/
theorem expert_ok (m : (ℓ : Loc Cert.Kernel2Ideal.nD Cert.Kernel2Ideal.τ Cert.Kernel2Ideal.sig) → Buf (Elt Ideal) ℓ)
    (pre : Cert.Pre_Kernel2Ideal (hPre_in_range := Cert.Pre_in_range.facts) m) : Cert.Kernel2Ideal.Ffn.Ok m :=
  Cert.Kernel2Ideal.Ffn.ok_of m fun j =>
    (congrArg BitVec.toNat (congrFun (Cert.Kernel2Ideal.Ffn.V_of_ne m 0 Cert.Kernel2Ideal.main_arg1 (by decide)) j)).trans_lt (Cert.Pre_in_range.words _ _ _ _ _ _ (pre 0) j)

/-- The plain experts' frame: it ends at rest with its arguments kept. -/
theorem expert_reference_frame : Cert.quiescent_Reference2Ideal (hReference2Ideal := Cert.Reference2Ideal.Gen.facts) := fun m ρ _ =>
  (θ_run (Cert.Reference2Ideal.defs (F := Ideal)) _ _).mono (fun r h => ⟨fun c => (h c).2, sem_eq_zero_of_no_sems (by decide) r.2⟩) (Cert.Reference2Ideal.Value.run (F := Ideal) m ρ)

/-- Both sides of the experts, from the same arguments, end with the same rows. -/
theorem expert_meet (m : (ℓ : Loc Cert.Kernel2Ideal.nD Cert.Kernel2Ideal.τ Cert.Kernel2Ideal.sig) → Buf (Elt Ideal) ℓ) (hO : Cert.Kernel2Ideal.Ffn.Ok m) (c : Dev Cert.Kernel2Ideal.nD)
    (X : FVec Ideal Cert.Kernel2Ideal.S73984x1024 .f32) (te : IVec Cert.Kernel2Ideal.S289 32) (nu : IVec Cert.Kernel2Ideal.S1 32)
    (Wg Wu : FVec Ideal Cert.Kernel2Ideal.S2x32x1024x256 .f32) (Wd : FVec Ideal Cert.Kernel2Ideal.S2x32x256x1024 .f32)
    (e0 : m ((c.tc : Thread Cert.Kernel2Ideal.nD Cert.Kernel2Ideal.τ).loc Cert.Kernel2Ideal.main_arg0) = X) (e1 : m ((c.tc : Thread Cert.Kernel2Ideal.nD Cert.Kernel2Ideal.τ).loc Cert.Kernel2Ideal.main_arg1) = te)
    (e2 : m ((c.tc : Thread Cert.Kernel2Ideal.nD Cert.Kernel2Ideal.τ).loc Cert.Kernel2Ideal.main_arg2) = nu) (e3 : m ((c.tc : Thread Cert.Kernel2Ideal.nD Cert.Kernel2Ideal.τ).loc Cert.Kernel2Ideal.main_arg3) = Wg)
    (e4 : m ((c.tc : Thread Cert.Kernel2Ideal.nD Cert.Kernel2Ideal.τ).loc Cert.Kernel2Ideal.main_arg4) = Wu) (e5 : m ((c.tc : Thread Cert.Kernel2Ideal.nD Cert.Kernel2Ideal.τ).loc Cert.Kernel2Ideal.main_arg5) = Wd)
    (hte : ∀ j, (te j).toNat < 32) :
    Cert.Reference2Ideal.Val.whole X te nu Wg Wu Wd = (Cert.Kernel2Ideal.Ffn.dats m hO 0 c).arrAt 4 (Cert.Kernel2Ideal.Ffn.cfgM m hO).N :=
  (Cert.Kernel2Ideal.Ffn.array m hO c X te nu Wg Wu Wd e0 e1 e2 e3 e4 e5 hte _ fun t e he r j => Cert.Reference2Ideal.Val.whole_at X te nu Wg Wu Wd t e he r j).symm

/-- The experts' kernel and the plain experts end with the same rows. -/
theorem expert_equal : Cert.algebraic_Kernel2Ideal_Reference2Ideal (hKernel2Ideal := Cert.Kernel2Ideal.Gen.facts) (hReference2Ideal := Cert.Reference2Ideal.Gen.facts) (hPre_in_range := Cert.Pre_in_range.facts) := fun m g m' g' pre agree =>
  ⟨fun c => (Cert.Kernel2Ideal.Ffn.dats m (expert_ok m pre) 0 c).arrAt 4 (Cert.Kernel2Ideal.Ffn.cfgM m (expert_ok m pre)).N,
    (θ_run (Cert.Kernel2Ideal.defs (F := Ideal)) _ _).mono (fun r h => h.1) (Cert.Kernel2Ideal.Ffn.final m g (expert_ok m pre)),
    (θ_run (Cert.Reference2Ideal.defs (F := Ideal)) _ _).mono (fun r h c => ⟨(h c).1.trans (by
      obtain ⟨a0, a1, a2, a3, a4, a5⟩ := agree c
      rw [a0, a1, a2, a3, a4, a5]
      exact expert_meet m (expert_ok m pre) c _ _ _ _ _ _ rfl rfl rfl rfl rfl rfl (Cert.Pre_in_range.words _ _ _ _ _ _ (pre c))), (h c).2⟩) (Cert.Reference2Ideal.Value.run (F := Ideal) m' g')⟩

/-- The MLA kernel and the plain attention end with the same rows. -/
theorem mla_equal : Cert.algebraic_KernelIdeal_ReferenceIdeal_pre_finite (hKernelIdeal := Cert.KernelIdeal.Gen.facts) (hReferenceIdeal := Cert.ReferenceIdeal.Gen.facts) (hPre_finite := Cert.Pre_finite.facts) := fun m g m' g' pre agree =>
  ⟨fun c => (Cert.KernelIdeal.Gen.dats m 0 c).arrAt 3 Cert.KernelIdeal.cfg0.N, Cert.KernelIdeal.Value.run_blocks m g,
    (θ_run (Cert.ReferenceIdeal.defs (F := Ideal)) _ _).mono (fun r h c => ⟨(h c).1.trans (by
      obtain ⟨r0, r1, r2, r3⟩ := Cert.Pre_finite.reals _ _ _ _ (pre c)
      obtain ⟨a0, a1, a2, a3⟩ := agree c
      exact meet m m' c _ _ _ _ rfl rfl rfl rfl a0 a1 a2 a3 r0 r1 r2 r3), (h c).2⟩) (Cert.ReferenceIdeal.Value.run (F := Ideal) m' g')⟩

/-- The plain input projection's frame: it ends at rest with its arguments kept. -/
theorem projection_reference_frame : Cert.quiescent_Reference3Ideal (hReference3Ideal := Cert.Reference3Ideal.Gen.facts) := fun m ρ _ =>
  (θ_run (Cert.Reference3Ideal.defs (F := Ideal)) _ _).mono (fun r h => ⟨fun c => (h c).2.2.2.2.2.2, sem_eq_zero_of_no_sems (by decide) r.2⟩) (Cert.Reference3Ideal.Value.run (F := Ideal) m ρ)

/-- The input projection's kernel and the plain input projection end with the same rows, keys, latents and gates. -/
theorem projection_equal : Cert.algebraic_Kernel3Ideal_Reference3Ideal (hKernel3Ideal := Cert.Kernel3Ideal.Gen.facts) (hReference3Ideal := Cert.Reference3Ideal.Gen.facts) := fun m g m' g' _ agree =>
  ⟨fun c => (Cert.Kernel3Ideal.Proj.dats m 0 c).arrAt 11 Cert.Kernel3Ideal.cfg0.N,
    fun c => (Cert.Kernel3Ideal.Proj.dats m 0 c).arrAt 12 Cert.Kernel3Ideal.cfg0.N,
    fun c => (Cert.Kernel3Ideal.Proj.dats m 0 c).arrAt 16 Cert.Kernel3Ideal.cfg0.N,
    fun c => (Cert.Kernel3Ideal.Proj.dats m 0 c).arrAt 17 Cert.Kernel3Ideal.cfg0.N,
    fun c => (Cert.Kernel3Ideal.Proj.dats m 0 c).arrAt 20 Cert.Kernel3Ideal.cfg0.N,
    fun c => (Cert.Kernel3Ideal.Proj.dats m 0 c).arrAt 23 Cert.Kernel3Ideal.cfg0.N,
    (θ_run (Cert.Kernel3Ideal.defs (F := Ideal)) _ _).mono (fun r h c => ⟨(h.1 c).1.1, (h.1 c).1.2.1, (h.1 c).1.2.2.1, (h.1 c).1.2.2.2.1, (h.1 c).1.2.2.2.2.1, (h.1 c).1.2.2.2.2.2, (h.1 c).2⟩) (Cert.Kernel3Ideal.Proj.final m g),
    (θ_run (Cert.Reference3Ideal.defs (F := Ideal)) _ _).mono (fun r h c => by
      obtain ⟨a0, a1, a2, _, _, a5, _⟩ := agree c
      obtain ⟨h0, h1, h2, h3, h4, h5, hk⟩ := h c
      rw [a0, a1, a2] at h0 h1 h2 h3 h4 h5
      rw [a5] at h2
      exact ⟨h0.trans (Cert.Kernel3Ideal.Val.rows_array m c _ _ _ (m ((c.tc : Thread Cert.Kernel3Ideal.nD Cert.Kernel3Ideal.τ).loc Cert.Kernel3Ideal.main_arg5)) rfl rfl rfl rfl).symm,
        h1.trans (Cert.Kernel3Ideal.Val.win_array m c _ _ _ (m ((c.tc : Thread Cert.Kernel3Ideal.nD Cert.Kernel3Ideal.τ).loc Cert.Kernel3Ideal.main_arg5)) rfl rfl rfl rfl).symm,
        h2.trans (Cert.Kernel3Ideal.Val.lat_array m c _ _ _ _ rfl rfl rfl rfl).symm,
        h3.trans (Cert.Kernel3Ideal.Val.rope_array m c _ _ _ (m ((c.tc : Thread Cert.Kernel3Ideal.nD Cert.Kernel3Ideal.τ).loc Cert.Kernel3Ideal.main_arg5)) rfl rfl rfl rfl).symm,
        h4.trans (Cert.Kernel3Ideal.Val.frows_array m c _ _ _ (m ((c.tc : Thread Cert.Kernel3Ideal.nD Cert.Kernel3Ideal.τ).loc Cert.Kernel3Ideal.main_arg5)) rfl rfl rfl rfl).symm,
        h5.trans (Cert.Kernel3Ideal.Val.gates_array m c _ _ _ (m ((c.tc : Thread Cert.Kernel3Ideal.nD Cert.Kernel3Ideal.τ).loc Cert.Kernel3Ideal.main_arg5)) rfl rfl rfl rfl).symm, hk⟩) (Cert.Reference3Ideal.Val.ends m' g')⟩

/-- Every claim of this certificate. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts, Cert.Pre_finite.facts, Cert.Pre_in_range.facts,
  fun m ρ _ => Cert.Kernel.Gen.frame m ρ, fun m ρ _ => Cert.KernelIdeal.Gen.frame m ρ, fun m ρ _ => Cert.KernelIdeal.Gen.frame m ρ,
  reference_frame, fun m ρ _ => reference_frame m ρ trivial,
  expert_frame, fun m ρ pre => Cert.Kernel2Ideal.Ffn.framed m ρ (expert_ok m pre),
  expert_reference_frame, fun m ρ _ => expert_reference_frame m ρ trivial,
  fun m ρ _ => Cert.Kernel3.Proj.framed m ρ, fun m ρ _ => Cert.Kernel3Ideal.Proj.framed m ρ, projection_reference_frame,
  trivial, mla_equal, trivial, expert_equal, trivial, projection_equal⟩

end Cert.Proof

end
